-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_KernelX (m : (ℓ : Loc Cert.KernelX.nD Cert.KernelX.τ Cert.KernelX.sig) → Buf (Elt Bits) ℓ) : Prop :=
  True

def Pre_KernelXIdeal (m : (ℓ : Loc Cert.KernelXIdeal.nD Cert.KernelXIdeal.τ Cert.KernelXIdeal.sig) → Buf (Elt Ideal) ℓ) : Prop :=
  True

def Pre_KernelXIdeal_plain_scores_finite [hPre_plain_scores_finite : Cert.Pre_plain_scores_finite.Facts] (m : (ℓ : Loc Cert.KernelXIdeal.nD Cert.KernelXIdeal.τ Cert.KernelXIdeal.sig) → Buf (Elt Ideal) ℓ) : Prop :=
  ∀ c : Dev Cert.KernelXIdeal.nD,
    (Cert.Pre_plain_scores_finite.fn (F := Ideal) (m ((c.tc : Thread Cert.KernelXIdeal.nD Cert.KernelXIdeal.τ).loc Cert.KernelXIdeal.main_arg0)) (m ((c.tc : Thread Cert.KernelXIdeal.nD Cert.KernelXIdeal.τ).loc Cert.KernelXIdeal.main_arg1)) (m ((c.tc : Thread Cert.KernelXIdeal.nD Cert.KernelXIdeal.τ).loc Cert.KernelXIdeal.main_arg2)) (m ((c.tc : Thread Cert.KernelXIdeal.nD Cert.KernelXIdeal.τ).loc Cert.KernelXIdeal.main_arg3)) (m ((c.tc : Thread Cert.KernelXIdeal.nD Cert.KernelXIdeal.τ).loc Cert.KernelXIdeal.main_arg4)) (m ((c.tc : Thread Cert.KernelXIdeal.nD Cert.KernelXIdeal.τ).loc Cert.KernelXIdeal.main_arg5)) (m ((c.tc : Thread Cert.KernelXIdeal.nD Cert.KernelXIdeal.τ).loc Cert.KernelXIdeal.main_arg6)) (m ((c.tc : Thread Cert.KernelXIdeal.nD Cert.KernelXIdeal.τ).loc Cert.KernelXIdeal.main_arg7)) (m ((c.tc : Thread Cert.KernelXIdeal.nD Cert.KernelXIdeal.τ).loc Cert.KernelXIdeal.main_arg8)) (m ((c.tc : Thread Cert.KernelXIdeal.nD Cert.KernelXIdeal.τ).loc Cert.KernelXIdeal.main_arg9))) = (fun _ => 1#1)

def Pre_ReferenceXIdeal (m : (ℓ : Loc Cert.ReferenceXIdeal.nD Cert.ReferenceXIdeal.τ Cert.ReferenceXIdeal.sig) → Buf (Elt Ideal) ℓ) : Prop :=
  True

def Pre_ReferenceXIdeal_plain_scores_finite [hPre_plain_scores_finite : Cert.Pre_plain_scores_finite.Facts] (m : (ℓ : Loc Cert.ReferenceXIdeal.nD Cert.ReferenceXIdeal.τ Cert.ReferenceXIdeal.sig) → Buf (Elt Ideal) ℓ) : Prop :=
  ∀ c : Dev Cert.ReferenceXIdeal.nD,
    (Cert.Pre_plain_scores_finite.fn (F := Ideal) (m ((c.tc : Thread Cert.ReferenceXIdeal.nD Cert.ReferenceXIdeal.τ).loc Cert.ReferenceXIdeal.main_arg0)) (m ((c.tc : Thread Cert.ReferenceXIdeal.nD Cert.ReferenceXIdeal.τ).loc Cert.ReferenceXIdeal.main_arg1)) (m ((c.tc : Thread Cert.ReferenceXIdeal.nD Cert.ReferenceXIdeal.τ).loc Cert.ReferenceXIdeal.main_arg2)) (m ((c.tc : Thread Cert.ReferenceXIdeal.nD Cert.ReferenceXIdeal.τ).loc Cert.ReferenceXIdeal.main_arg3)) (m ((c.tc : Thread Cert.ReferenceXIdeal.nD Cert.ReferenceXIdeal.τ).loc Cert.ReferenceXIdeal.main_arg4)) (m ((c.tc : Thread Cert.ReferenceXIdeal.nD Cert.ReferenceXIdeal.τ).loc Cert.ReferenceXIdeal.main_arg5)) (m ((c.tc : Thread Cert.ReferenceXIdeal.nD Cert.ReferenceXIdeal.τ).loc Cert.ReferenceXIdeal.main_arg6)) (m ((c.tc : Thread Cert.ReferenceXIdeal.nD Cert.ReferenceXIdeal.τ).loc Cert.ReferenceXIdeal.main_arg7)) (m ((c.tc : Thread Cert.ReferenceXIdeal.nD Cert.ReferenceXIdeal.τ).loc Cert.ReferenceXIdeal.main_arg8)) (m ((c.tc : Thread Cert.ReferenceXIdeal.nD Cert.ReferenceXIdeal.τ).loc Cert.ReferenceXIdeal.main_arg9))) = (fun _ => 1#1)

def Pre_KernelM (m : (ℓ : Loc Cert.KernelM.nD Cert.KernelM.τ Cert.KernelM.sig) → Buf (Elt Bits) ℓ) : Prop :=
  True

def Pre_KernelMIdeal (m : (ℓ : Loc Cert.KernelMIdeal.nD Cert.KernelMIdeal.τ Cert.KernelMIdeal.sig) → Buf (Elt Ideal) ℓ) : Prop :=
  True

def Pre_ReferenceMIdeal (m : (ℓ : Loc Cert.ReferenceMIdeal.nD Cert.ReferenceMIdeal.τ Cert.ReferenceMIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_KernelX [hKernelX : Cert.KernelX.Facts] : Prop :=
  ∀ (m : (ℓ : Loc Cert.KernelX.nD Cert.KernelX.τ Cert.KernelX.sig) → Buf (Elt Bits) ℓ) (g : Dev Cert.KernelX.nD → PrngReg), Pre_KernelX m →
    θ_run (Cert.KernelX.defs (F := Bits)) (onTc (τ := Cert.KernelX.τ) (Cert.KernelX.main (F := Bits))) ⟨m, fun _ => 0, g⟩ (fun r => (∀ c : Dev Cert.KernelX.nD,
      r.2.mem ((c.tc : Thread Cert.KernelX.nD Cert.KernelX.τ).loc Cert.KernelX.main_arg0) = m ((c.tc : Thread Cert.KernelX.nD Cert.KernelX.τ).loc Cert.KernelX.main_arg0)
      ∧ r.2.mem ((c.tc : Thread Cert.KernelX.nD Cert.KernelX.τ).loc Cert.KernelX.main_arg1) = m ((c.tc : Thread Cert.KernelX.nD Cert.KernelX.τ).loc Cert.KernelX.main_arg1)
      ∧ r.2.mem ((c.tc : Thread Cert.KernelX.nD Cert.KernelX.τ).loc Cert.KernelX.main_arg2) = m ((c.tc : Thread Cert.KernelX.nD Cert.KernelX.τ).loc Cert.KernelX.main_arg2)
      ∧ r.2.mem ((c.tc : Thread Cert.KernelX.nD Cert.KernelX.τ).loc Cert.KernelX.main_arg3) = m ((c.tc : Thread Cert.KernelX.nD Cert.KernelX.τ).loc Cert.KernelX.main_arg3)
      ∧ r.2.mem ((c.tc : Thread Cert.KernelX.nD Cert.KernelX.τ).loc Cert.KernelX.main_arg4) = m ((c.tc : Thread Cert.KernelX.nD Cert.KernelX.τ).loc Cert.KernelX.main_arg4)
      ∧ r.2.mem ((c.tc : Thread Cert.KernelX.nD Cert.KernelX.τ).loc Cert.KernelX.main_arg5) = m ((c.tc : Thread Cert.KernelX.nD Cert.KernelX.τ).loc Cert.KernelX.main_arg5)
      ∧ r.2.mem ((c.tc : Thread Cert.KernelX.nD Cert.KernelX.τ).loc Cert.KernelX.main_arg6) = m ((c.tc : Thread Cert.KernelX.nD Cert.KernelX.τ).loc Cert.KernelX.main_arg6)
      ∧ r.2.mem ((c.tc : Thread Cert.KernelX.nD Cert.KernelX.τ).loc Cert.KernelX.main_arg7) = m ((c.tc : Thread Cert.KernelX.nD Cert.KernelX.τ).loc Cert.KernelX.main_arg7)
      ∧ r.2.mem ((c.tc : Thread Cert.KernelX.nD Cert.KernelX.τ).loc Cert.KernelX.main_arg8) = m ((c.tc : Thread Cert.KernelX.nD Cert.KernelX.τ).loc Cert.KernelX.main_arg8)
      ∧ r.2.mem ((c.tc : Thread Cert.KernelX.nD Cert.KernelX.τ).loc Cert.KernelX.main_arg9) = m ((c.tc : Thread Cert.KernelX.nD Cert.KernelX.τ).loc Cert.KernelX.main_arg9))
      ∧ r.2.sem = fun _ => 0)

def quiescent_KernelXIdeal [hKernelXIdeal : Cert.KernelXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
      ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
      ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
      ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3)
      ∧ r.2.mem ((c.tc : Thread Cert.KernelXIdeal.nD Cert.KernelXIdeal.τ).loc Cert.KernelXIdeal.main_arg4) = m ((c.tc : Thread Cert.KernelXIdeal.nD Cert.KernelXIdeal.τ).loc Cert.KernelXIdeal.main_arg4)
      ∧ r.2.mem ((c.tc : Thread Cert.KernelXIdeal.nD Cert.KernelXIdeal.τ).loc Cert.KernelXIdeal.main_arg5) = m ((c.tc : Thread Cert.KernelXIdeal.nD Cert.KernelXIdeal.τ).loc Cert.KernelXIdeal.main_arg5)
      ∧ r.2.mem ((c.tc : Thread Cert.KernelXIdeal.nD Cert.KernelXIdeal.τ).loc Cert.KernelXIdeal.main_arg6) = m ((c.tc : Thread Cert.KernelXIdeal.nD Cert.KernelXIdeal.τ).loc Cert.KernelXIdeal.main_arg6)
      ∧ r.2.mem ((c.tc : Thread Cert.KernelXIdeal.nD Cert.KernelXIdeal.τ).loc Cert.KernelXIdeal.main_arg7) = m ((c.tc : Thread Cert.KernelXIdeal.nD Cert.KernelXIdeal.τ).loc Cert.KernelXIdeal.main_arg7)
      ∧ r.2.mem ((c.tc : Thread Cert.KernelXIdeal.nD Cert.KernelXIdeal.τ).loc Cert.KernelXIdeal.main_arg8) = m ((c.tc : Thread Cert.KernelXIdeal.nD Cert.KernelXIdeal.τ).loc Cert.KernelXIdeal.main_arg8)
      ∧ r.2.mem ((c.tc : Thread Cert.KernelXIdeal.nD Cert.KernelXIdeal.τ).loc Cert.KernelXIdeal.main_arg9) = m ((c.tc : Thread Cert.KernelXIdeal.nD Cert.KernelXIdeal.τ).loc Cert.KernelXIdeal.main_arg9))
      ∧ r.2.sem = fun _ => 0)

def quiescent_KernelXIdeal_pre_plain_scores_finite [hKernelXIdeal : Cert.KernelXIdeal.Facts] [hPre_plain_scores_finite : Cert.Pre_plain_scores_finite.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal_plain_scores_finite m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
      ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
      ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
      ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3)
      ∧ r.2.mem ((c.tc : Thread Cert.KernelXIdeal.nD Cert.KernelXIdeal.τ).loc Cert.KernelXIdeal.main_arg4) = m ((c.tc : Thread Cert.KernelXIdeal.nD Cert.KernelXIdeal.τ).loc Cert.KernelXIdeal.main_arg4)
      ∧ r.2.mem ((c.tc : Thread Cert.KernelXIdeal.nD Cert.KernelXIdeal.τ).loc Cert.KernelXIdeal.main_arg5) = m ((c.tc : Thread Cert.KernelXIdeal.nD Cert.KernelXIdeal.τ).loc Cert.KernelXIdeal.main_arg5)
      ∧ r.2.mem ((c.tc : Thread Cert.KernelXIdeal.nD Cert.KernelXIdeal.τ).loc Cert.KernelXIdeal.main_arg6) = m ((c.tc : Thread Cert.KernelXIdeal.nD Cert.KernelXIdeal.τ).loc Cert.KernelXIdeal.main_arg6)
      ∧ r.2.mem ((c.tc : Thread Cert.KernelXIdeal.nD Cert.KernelXIdeal.τ).loc Cert.KernelXIdeal.main_arg7) = m ((c.tc : Thread Cert.KernelXIdeal.nD Cert.KernelXIdeal.τ).loc Cert.KernelXIdeal.main_arg7)
      ∧ r.2.mem ((c.tc : Thread Cert.KernelXIdeal.nD Cert.KernelXIdeal.τ).loc Cert.KernelXIdeal.main_arg8) = m ((c.tc : Thread Cert.KernelXIdeal.nD Cert.KernelXIdeal.τ).loc Cert.KernelXIdeal.main_arg8)
      ∧ r.2.mem ((c.tc : Thread Cert.KernelXIdeal.nD Cert.KernelXIdeal.τ).loc Cert.KernelXIdeal.main_arg9) = m ((c.tc : Thread Cert.KernelXIdeal.nD Cert.KernelXIdeal.τ).loc Cert.KernelXIdeal.main_arg9))
      ∧ r.2.sem = fun _ => 0)

def quiescent_ReferenceXIdeal [hReferenceXIdeal : Cert.ReferenceXIdeal.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0)
      ∧ r.2.mem ((c.tc : Thread Cert.ReferenceXIdeal.nD Cert.ReferenceXIdeal.τ).loc Cert.ReferenceXIdeal.main_arg1) = m ((c.tc : Thread Cert.ReferenceXIdeal.nD Cert.ReferenceXIdeal.τ).loc Cert.ReferenceXIdeal.main_arg1)
      ∧ r.2.mem ((c.tc : Thread Cert.ReferenceXIdeal.nD Cert.ReferenceXIdeal.τ).loc Cert.ReferenceXIdeal.main_arg2) = m ((c.tc : Thread Cert.ReferenceXIdeal.nD Cert.ReferenceXIdeal.τ).loc Cert.ReferenceXIdeal.main_arg2)
      ∧ r.2.mem ((c.tc : Thread Cert.ReferenceXIdeal.nD Cert.ReferenceXIdeal.τ).loc Cert.ReferenceXIdeal.main_arg3) = m ((c.tc : Thread Cert.ReferenceXIdeal.nD Cert.ReferenceXIdeal.τ).loc Cert.ReferenceXIdeal.main_arg3)
      ∧ r.2.mem ((c.tc : Thread Cert.ReferenceXIdeal.nD Cert.ReferenceXIdeal.τ).loc Cert.ReferenceXIdeal.main_arg4) = m ((c.tc : Thread Cert.ReferenceXIdeal.nD Cert.ReferenceXIdeal.τ).loc Cert.ReferenceXIdeal.main_arg4)
      ∧ r.2.mem ((c.tc : Thread Cert.ReferenceXIdeal.nD Cert.ReferenceXIdeal.τ).loc Cert.ReferenceXIdeal.main_arg5) = m ((c.tc : Thread Cert.ReferenceXIdeal.nD Cert.ReferenceXIdeal.τ).loc Cert.ReferenceXIdeal.main_arg5)
      ∧ r.2.mem ((c.tc : Thread Cert.ReferenceXIdeal.nD Cert.ReferenceXIdeal.τ).loc Cert.ReferenceXIdeal.main_arg6) = m ((c.tc : Thread Cert.ReferenceXIdeal.nD Cert.ReferenceXIdeal.τ).loc Cert.ReferenceXIdeal.main_arg6)
      ∧ r.2.mem ((c.tc : Thread Cert.ReferenceXIdeal.nD Cert.ReferenceXIdeal.τ).loc Cert.ReferenceXIdeal.main_arg7) = m ((c.tc : Thread Cert.ReferenceXIdeal.nD Cert.ReferenceXIdeal.τ).loc Cert.ReferenceXIdeal.main_arg7)
      ∧ r.2.mem ((c.tc : Thread Cert.ReferenceXIdeal.nD Cert.ReferenceXIdeal.τ).loc Cert.ReferenceXIdeal.main_arg8) = m ((c.tc : Thread Cert.ReferenceXIdeal.nD Cert.ReferenceXIdeal.τ).loc Cert.ReferenceXIdeal.main_arg8)
      ∧ r.2.mem ((c.tc : Thread Cert.ReferenceXIdeal.nD Cert.ReferenceXIdeal.τ).loc Cert.ReferenceXIdeal.main_arg9) = m ((c.tc : Thread Cert.ReferenceXIdeal.nD Cert.ReferenceXIdeal.τ).loc Cert.ReferenceXIdeal.main_arg9))
      ∧ r.2.sem = fun _ => 0)

def quiescent_ReferenceXIdeal_pre_plain_scores_finite [hReferenceXIdeal : Cert.ReferenceXIdeal.Facts] [hPre_plain_scores_finite : Cert.Pre_plain_scores_finite.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal_plain_scores_finite m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0)
      ∧ r.2.mem ((c.tc : Thread Cert.ReferenceXIdeal.nD Cert.ReferenceXIdeal.τ).loc Cert.ReferenceXIdeal.main_arg1) = m ((c.tc : Thread Cert.ReferenceXIdeal.nD Cert.ReferenceXIdeal.τ).loc Cert.ReferenceXIdeal.main_arg1)
      ∧ r.2.mem ((c.tc : Thread Cert.ReferenceXIdeal.nD Cert.ReferenceXIdeal.τ).loc Cert.ReferenceXIdeal.main_arg2) = m ((c.tc : Thread Cert.ReferenceXIdeal.nD Cert.ReferenceXIdeal.τ).loc Cert.ReferenceXIdeal.main_arg2)
      ∧ r.2.mem ((c.tc : Thread Cert.ReferenceXIdeal.nD Cert.ReferenceXIdeal.τ).loc Cert.ReferenceXIdeal.main_arg3) = m ((c.tc : Thread Cert.ReferenceXIdeal.nD Cert.ReferenceXIdeal.τ).loc Cert.ReferenceXIdeal.main_arg3)
      ∧ r.2.mem ((c.tc : Thread Cert.ReferenceXIdeal.nD Cert.ReferenceXIdeal.τ).loc Cert.ReferenceXIdeal.main_arg4) = m ((c.tc : Thread Cert.ReferenceXIdeal.nD Cert.ReferenceXIdeal.τ).loc Cert.ReferenceXIdeal.main_arg4)
      ∧ r.2.mem ((c.tc : Thread Cert.ReferenceXIdeal.nD Cert.ReferenceXIdeal.τ).loc Cert.ReferenceXIdeal.main_arg5) = m ((c.tc : Thread Cert.ReferenceXIdeal.nD Cert.ReferenceXIdeal.τ).loc Cert.ReferenceXIdeal.main_arg5)
      ∧ r.2.mem ((c.tc : Thread Cert.ReferenceXIdeal.nD Cert.ReferenceXIdeal.τ).loc Cert.ReferenceXIdeal.main_arg6) = m ((c.tc : Thread Cert.ReferenceXIdeal.nD Cert.ReferenceXIdeal.τ).loc Cert.ReferenceXIdeal.main_arg6)
      ∧ r.2.mem ((c.tc : Thread Cert.ReferenceXIdeal.nD Cert.ReferenceXIdeal.τ).loc Cert.ReferenceXIdeal.main_arg7) = m ((c.tc : Thread Cert.ReferenceXIdeal.nD Cert.ReferenceXIdeal.τ).loc Cert.ReferenceXIdeal.main_arg7)
      ∧ r.2.mem ((c.tc : Thread Cert.ReferenceXIdeal.nD Cert.ReferenceXIdeal.τ).loc Cert.ReferenceXIdeal.main_arg8) = m ((c.tc : Thread Cert.ReferenceXIdeal.nD Cert.ReferenceXIdeal.τ).loc Cert.ReferenceXIdeal.main_arg8)
      ∧ r.2.mem ((c.tc : Thread Cert.ReferenceXIdeal.nD Cert.ReferenceXIdeal.τ).loc Cert.ReferenceXIdeal.main_arg9) = m ((c.tc : Thread Cert.ReferenceXIdeal.nD Cert.ReferenceXIdeal.τ).loc Cert.ReferenceXIdeal.main_arg9))
      ∧ r.2.sem = fun _ => 0)

def quiescent_KernelM [hKernelM : Cert.KernelM.Facts] : Prop :=
  ∀ (m : (ℓ : Loc Cert.KernelM.nD Cert.KernelM.τ Cert.KernelM.sig) → Buf (Elt Bits) ℓ) (g : Dev Cert.KernelM.nD → PrngReg), Pre_KernelM m →
    θ_run (Cert.KernelM.defs (F := Bits)) (onTc (τ := Cert.KernelM.τ) (Cert.KernelM.main (F := Bits))) ⟨m, fun _ => 0, g⟩ (fun r => (∀ c : Dev Cert.KernelM.nD,
      r.2.mem ((c.tc : Thread Cert.KernelM.nD Cert.KernelM.τ).loc Cert.KernelM.main_arg0) = m ((c.tc : Thread Cert.KernelM.nD Cert.KernelM.τ).loc Cert.KernelM.main_arg0)
      ∧ r.2.mem ((c.tc : Thread Cert.KernelM.nD Cert.KernelM.τ).loc Cert.KernelM.main_arg1) = m ((c.tc : Thread Cert.KernelM.nD Cert.KernelM.τ).loc Cert.KernelM.main_arg1)
      ∧ r.2.mem ((c.tc : Thread Cert.KernelM.nD Cert.KernelM.τ).loc Cert.KernelM.main_arg2) = m ((c.tc : Thread Cert.KernelM.nD Cert.KernelM.τ).loc Cert.KernelM.main_arg2))
      ∧ r.2.sem = fun _ => 0)

def quiescent_KernelMIdeal [hKernelMIdeal : Cert.KernelMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg), Pre_KernelMIdeal m →
    θ_run (Cert.KernelMIdeal.defs (F := Ideal)) (onTc (τ := Cert.KernelMIdeal.τ) (Cert.KernelMIdeal.main (F := Ideal))) ⟨m, fun _ => 0, g⟩ (fun r => (∀ c : Dev Cert.KernelMIdeal.nD,
      r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
      ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
      ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2))
      ∧ r.2.sem = fun _ => 0)

def quiescent_ReferenceMIdeal [hReferenceMIdeal : Cert.ReferenceMIdeal.Facts] : Prop :=
  ∀ (m : (ℓ : Loc Cert.ReferenceMIdeal.nD Cert.ReferenceMIdeal.τ Cert.ReferenceMIdeal.sig) → Buf (Elt Ideal) ℓ) (g : Dev Cert.ReferenceMIdeal.nD → PrngReg), Pre_ReferenceMIdeal m →
    θ_run (Cert.ReferenceMIdeal.defs (F := Ideal)) (onTc (τ := Cert.ReferenceMIdeal.τ) (Cert.ReferenceMIdeal.main (F := Ideal))) ⟨m, fun _ => 0, g⟩ (fun r => (∀ c : Dev Cert.ReferenceMIdeal.nD,
      r.2.mem ((c.tc : Thread Cert.ReferenceMIdeal.nD Cert.ReferenceMIdeal.τ).loc Cert.ReferenceMIdeal.main_arg0) = m ((c.tc : Thread Cert.ReferenceMIdeal.nD Cert.ReferenceMIdeal.τ).loc Cert.ReferenceMIdeal.main_arg0)
      ∧ r.2.mem ((c.tc : Thread Cert.ReferenceMIdeal.nD Cert.ReferenceMIdeal.τ).loc Cert.ReferenceMIdeal.main_arg1) = m ((c.tc : Thread Cert.ReferenceMIdeal.nD Cert.ReferenceMIdeal.τ).loc Cert.ReferenceMIdeal.main_arg1)
      ∧ r.2.mem ((c.tc : Thread Cert.ReferenceMIdeal.nD Cert.ReferenceMIdeal.τ).loc Cert.ReferenceMIdeal.main_arg2) = m ((c.tc : Thread Cert.ReferenceMIdeal.nD Cert.ReferenceMIdeal.τ).loc Cert.ReferenceMIdeal.main_arg2))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2)
      ∧ r.2.mem ((c.tc : Thread Cert.KernelO.nD Cert.KernelO.τ).loc Cert.KernelO.main_arg3) = m ((c.tc : Thread Cert.KernelO.nD Cert.KernelO.τ).loc Cert.KernelO.main_arg3)
      ∧ r.2.mem ((c.tc : Thread Cert.KernelO.nD Cert.KernelO.τ).loc Cert.KernelO.main_arg4) = m ((c.tc : Thread Cert.KernelO.nD Cert.KernelO.τ).loc Cert.KernelO.main_arg4)
      ∧ r.2.mem ((c.tc : Thread Cert.KernelO.nD Cert.KernelO.τ).loc Cert.KernelO.main_arg5) = m ((c.tc : Thread Cert.KernelO.nD Cert.KernelO.τ).loc Cert.KernelO.main_arg5)
      ∧ r.2.mem ((c.tc : Thread Cert.KernelO.nD Cert.KernelO.τ).loc Cert.KernelO.main_arg6) = m ((c.tc : Thread Cert.KernelO.nD Cert.KernelO.τ).loc Cert.KernelO.main_arg6)
      ∧ r.2.mem ((c.tc : Thread Cert.KernelO.nD Cert.KernelO.τ).loc Cert.KernelO.main_arg7) = m ((c.tc : Thread Cert.KernelO.nD Cert.KernelO.τ).loc Cert.KernelO.main_arg7)
      ∧ r.2.mem ((c.tc : Thread Cert.KernelO.nD Cert.KernelO.τ).loc Cert.KernelO.main_arg8) = m ((c.tc : Thread Cert.KernelO.nD Cert.KernelO.τ).loc Cert.KernelO.main_arg8)
      ∧ r.2.mem ((c.tc : Thread Cert.KernelO.nD Cert.KernelO.τ).loc Cert.KernelO.main_arg9) = m ((c.tc : Thread Cert.KernelO.nD Cert.KernelO.τ).loc Cert.KernelO.main_arg9)
      ∧ r.2.mem ((c.tc : Thread Cert.KernelO.nD Cert.KernelO.τ).loc Cert.KernelO.main_arg10) = m ((c.tc : Thread Cert.KernelO.nD Cert.KernelO.τ).loc Cert.KernelO.main_arg10)
      ∧ r.2.mem ((c.tc : Thread Cert.KernelO.nD Cert.KernelO.τ).loc Cert.KernelO.main_arg11) = m ((c.tc : Thread Cert.KernelO.nD Cert.KernelO.τ).loc Cert.KernelO.main_arg11)
      ∧ r.2.mem ((c.tc : Thread Cert.KernelO.nD Cert.KernelO.τ).loc Cert.KernelO.main_arg12) = m ((c.tc : Thread Cert.KernelO.nD Cert.KernelO.τ).loc Cert.KernelO.main_arg12)
      ∧ r.2.mem ((c.tc : Thread Cert.KernelO.nD Cert.KernelO.τ).loc Cert.KernelO.main_arg13) = m ((c.tc : Thread Cert.KernelO.nD Cert.KernelO.τ).loc Cert.KernelO.main_arg13))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
      ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
      ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5)
      ∧ r.2.mem ((c.tc : Thread Cert.KernelOIdeal.nD Cert.KernelOIdeal.τ).loc Cert.KernelOIdeal.main_arg6) = m ((c.tc : Thread Cert.KernelOIdeal.nD Cert.KernelOIdeal.τ).loc Cert.KernelOIdeal.main_arg6)
      ∧ r.2.mem ((c.tc : Thread Cert.KernelOIdeal.nD Cert.KernelOIdeal.τ).loc Cert.KernelOIdeal.main_arg7) = m ((c.tc : Thread Cert.KernelOIdeal.nD Cert.KernelOIdeal.τ).loc Cert.KernelOIdeal.main_arg7)
      ∧ r.2.mem ((c.tc : Thread Cert.KernelOIdeal.nD Cert.KernelOIdeal.τ).loc Cert.KernelOIdeal.main_arg8) = m ((c.tc : Thread Cert.KernelOIdeal.nD Cert.KernelOIdeal.τ).loc Cert.KernelOIdeal.main_arg8)
      ∧ r.2.mem ((c.tc : Thread Cert.KernelOIdeal.nD Cert.KernelOIdeal.τ).loc Cert.KernelOIdeal.main_arg9) = m ((c.tc : Thread Cert.KernelOIdeal.nD Cert.KernelOIdeal.τ).loc Cert.KernelOIdeal.main_arg9)
      ∧ r.2.mem ((c.tc : Thread Cert.KernelOIdeal.nD Cert.KernelOIdeal.τ).loc Cert.KernelOIdeal.main_arg10) = m ((c.tc : Thread Cert.KernelOIdeal.nD Cert.KernelOIdeal.τ).loc Cert.KernelOIdeal.main_arg10)
      ∧ r.2.mem ((c.tc : Thread Cert.KernelOIdeal.nD Cert.KernelOIdeal.τ).loc Cert.KernelOIdeal.main_arg11) = m ((c.tc : Thread Cert.KernelOIdeal.nD Cert.KernelOIdeal.τ).loc Cert.KernelOIdeal.main_arg11)
      ∧ r.2.mem ((c.tc : Thread Cert.KernelOIdeal.nD Cert.KernelOIdeal.τ).loc Cert.KernelOIdeal.main_arg12) = m ((c.tc : Thread Cert.KernelOIdeal.nD Cert.KernelOIdeal.τ).loc Cert.KernelOIdeal.main_arg12)
      ∧ r.2.mem ((c.tc : Thread Cert.KernelOIdeal.nD Cert.KernelOIdeal.τ).loc Cert.KernelOIdeal.main_arg13) = m ((c.tc : Thread Cert.KernelOIdeal.nD Cert.KernelOIdeal.τ).loc Cert.KernelOIdeal.main_arg13))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2)
      ∧ r.2.mem ((c.tc : Thread Cert.ReferenceOIdeal.nD Cert.ReferenceOIdeal.τ).loc Cert.ReferenceOIdeal.main_arg3) = m ((c.tc : Thread Cert.ReferenceOIdeal.nD Cert.ReferenceOIdeal.τ).loc Cert.ReferenceOIdeal.main_arg3)
      ∧ r.2.mem ((c.tc : Thread Cert.ReferenceOIdeal.nD Cert.ReferenceOIdeal.τ).loc Cert.ReferenceOIdeal.main_arg4) = m ((c.tc : Thread Cert.ReferenceOIdeal.nD Cert.ReferenceOIdeal.τ).loc Cert.ReferenceOIdeal.main_arg4)
      ∧ r.2.mem ((c.tc : Thread Cert.ReferenceOIdeal.nD Cert.ReferenceOIdeal.τ).loc Cert.ReferenceOIdeal.main_arg5) = m ((c.tc : Thread Cert.ReferenceOIdeal.nD Cert.ReferenceOIdeal.τ).loc Cert.ReferenceOIdeal.main_arg5)
      ∧ r.2.mem ((c.tc : Thread Cert.ReferenceOIdeal.nD Cert.ReferenceOIdeal.τ).loc Cert.ReferenceOIdeal.main_arg6) = m ((c.tc : Thread Cert.ReferenceOIdeal.nD Cert.ReferenceOIdeal.τ).loc Cert.ReferenceOIdeal.main_arg6)
      ∧ r.2.mem ((c.tc : Thread Cert.ReferenceOIdeal.nD Cert.ReferenceOIdeal.τ).loc Cert.ReferenceOIdeal.main_arg7) = m ((c.tc : Thread Cert.ReferenceOIdeal.nD Cert.ReferenceOIdeal.τ).loc Cert.ReferenceOIdeal.main_arg7)
      ∧ r.2.mem ((c.tc : Thread Cert.ReferenceOIdeal.nD Cert.ReferenceOIdeal.τ).loc Cert.ReferenceOIdeal.main_arg8) = m ((c.tc : Thread Cert.ReferenceOIdeal.nD Cert.ReferenceOIdeal.τ).loc Cert.ReferenceOIdeal.main_arg8)
      ∧ r.2.mem ((c.tc : Thread Cert.ReferenceOIdeal.nD Cert.ReferenceOIdeal.τ).loc Cert.ReferenceOIdeal.main_arg9) = m ((c.tc : Thread Cert.ReferenceOIdeal.nD Cert.ReferenceOIdeal.τ).loc Cert.ReferenceOIdeal.main_arg9)
      ∧ r.2.mem ((c.tc : Thread Cert.ReferenceOIdeal.nD Cert.ReferenceOIdeal.τ).loc Cert.ReferenceOIdeal.main_arg10) = m ((c.tc : Thread Cert.ReferenceOIdeal.nD Cert.ReferenceOIdeal.τ).loc Cert.ReferenceOIdeal.main_arg10)
      ∧ r.2.mem ((c.tc : Thread Cert.ReferenceOIdeal.nD Cert.ReferenceOIdeal.τ).loc Cert.ReferenceOIdeal.main_arg11) = m ((c.tc : Thread Cert.ReferenceOIdeal.nD Cert.ReferenceOIdeal.τ).loc Cert.ReferenceOIdeal.main_arg11)
      ∧ r.2.mem ((c.tc : Thread Cert.ReferenceOIdeal.nD Cert.ReferenceOIdeal.τ).loc Cert.ReferenceOIdeal.main_arg12) = m ((c.tc : Thread Cert.ReferenceOIdeal.nD Cert.ReferenceOIdeal.τ).loc Cert.ReferenceOIdeal.main_arg12)
      ∧ r.2.mem ((c.tc : Thread Cert.ReferenceOIdeal.nD Cert.ReferenceOIdeal.τ).loc Cert.ReferenceOIdeal.main_arg13) = m ((c.tc : Thread Cert.ReferenceOIdeal.nD Cert.ReferenceOIdeal.τ).loc Cert.ReferenceOIdeal.main_arg13))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_KernelX_KernelXIdeal : Prop :=
  True

def algebraic_KernelXIdeal_ReferenceXIdeal_pre_plain_scores_finite [hKernelXIdeal : Cert.KernelXIdeal.Facts] [hReferenceXIdeal : Cert.ReferenceXIdeal.Facts] [hPre_plain_scores_finite : Cert.Pre_plain_scores_finite.Facts] : Prop :=
  ∀ (m : (ℓ : Loc Cert.KernelXIdeal.nD Cert.KernelXIdeal.τ Cert.KernelXIdeal.sig) → Buf (Elt Ideal) ℓ) (g : Dev Cert.KernelXIdeal.nD → PrngReg)
    (m' : (ℓ : Loc Cert.ReferenceXIdeal.nD Cert.ReferenceXIdeal.τ Cert.ReferenceXIdeal.sig) → Buf (Elt Ideal) ℓ) (g' : Dev Cert.ReferenceXIdeal.nD → PrngReg), Pre_KernelXIdeal_plain_scores_finite m →
    (∀ c : Dev Cert.KernelXIdeal.nD,
      m' ((c.tc : Thread Cert.ReferenceXIdeal.nD Cert.ReferenceXIdeal.τ).loc Cert.ReferenceXIdeal.main_arg0) = m ((c.tc : Thread Cert.KernelXIdeal.nD Cert.KernelXIdeal.τ).loc Cert.KernelXIdeal.main_arg0)
      ∧ m' ((c.tc : Thread Cert.ReferenceXIdeal.nD Cert.ReferenceXIdeal.τ).loc Cert.ReferenceXIdeal.main_arg1) = m ((c.tc : Thread Cert.KernelXIdeal.nD Cert.KernelXIdeal.τ).loc Cert.KernelXIdeal.main_arg1)
      ∧ m' ((c.tc : Thread Cert.ReferenceXIdeal.nD Cert.ReferenceXIdeal.τ).loc Cert.ReferenceXIdeal.main_arg2) = m ((c.tc : Thread Cert.KernelXIdeal.nD Cert.KernelXIdeal.τ).loc Cert.KernelXIdeal.main_arg2)
      ∧ m' ((c.tc : Thread Cert.ReferenceXIdeal.nD Cert.ReferenceXIdeal.τ).loc Cert.ReferenceXIdeal.main_arg3) = m ((c.tc : Thread Cert.KernelXIdeal.nD Cert.KernelXIdeal.τ).loc Cert.KernelXIdeal.main_arg3)
      ∧ m' ((c.tc : Thread Cert.ReferenceXIdeal.nD Cert.ReferenceXIdeal.τ).loc Cert.ReferenceXIdeal.main_arg4) = m ((c.tc : Thread Cert.KernelXIdeal.nD Cert.KernelXIdeal.τ).loc Cert.KernelXIdeal.main_arg4)
      ∧ m' ((c.tc : Thread Cert.ReferenceXIdeal.nD Cert.ReferenceXIdeal.τ).loc Cert.ReferenceXIdeal.main_arg5) = m ((c.tc : Thread Cert.KernelXIdeal.nD Cert.KernelXIdeal.τ).loc Cert.KernelXIdeal.main_arg5)
      ∧ m' ((c.tc : Thread Cert.ReferenceXIdeal.nD Cert.ReferenceXIdeal.τ).loc Cert.ReferenceXIdeal.main_arg6) = m ((c.tc : Thread Cert.KernelXIdeal.nD Cert.KernelXIdeal.τ).loc Cert.KernelXIdeal.main_arg6)
      ∧ m' ((c.tc : Thread Cert.ReferenceXIdeal.nD Cert.ReferenceXIdeal.τ).loc Cert.ReferenceXIdeal.main_arg7) = m ((c.tc : Thread Cert.KernelXIdeal.nD Cert.KernelXIdeal.τ).loc Cert.KernelXIdeal.main_arg7)
      ∧ m' ((c.tc : Thread Cert.ReferenceXIdeal.nD Cert.ReferenceXIdeal.τ).loc Cert.ReferenceXIdeal.main_arg8) = m ((c.tc : Thread Cert.KernelXIdeal.nD Cert.KernelXIdeal.τ).loc Cert.KernelXIdeal.main_arg8)
      ∧ m' ((c.tc : Thread Cert.ReferenceXIdeal.nD Cert.ReferenceXIdeal.τ).loc Cert.ReferenceXIdeal.main_arg9) = m ((c.tc : Thread Cert.KernelXIdeal.nD Cert.KernelXIdeal.τ).loc Cert.KernelXIdeal.main_arg9)) →
    ∃ (v0 : (c : Dev Cert.KernelXIdeal.nD) → Buf (Elt Ideal) ((c.tc : Thread Cert.KernelXIdeal.nD Cert.KernelXIdeal.τ).loc Cert.KernelXIdeal.main_v7)),
      θ_run (Cert.KernelXIdeal.defs (F := Ideal)) (onTc (τ := Cert.KernelXIdeal.τ) (Cert.KernelXIdeal.main (F := Ideal))) ⟨m, fun _ => 0, g⟩ (fun r => ∀ c : Dev Cert.KernelXIdeal.nD,
          r.2.mem ((c.tc : Thread Cert.KernelXIdeal.nD Cert.KernelXIdeal.τ).loc Cert.KernelXIdeal.main_v7) = v0 c
          ∧ r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
          ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
          ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
          ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3)
          ∧ r.2.mem ((c.tc : Thread Cert.KernelXIdeal.nD Cert.KernelXIdeal.τ).loc Cert.KernelXIdeal.main_arg4) = m ((c.tc : Thread Cert.KernelXIdeal.nD Cert.KernelXIdeal.τ).loc Cert.KernelXIdeal.main_arg4)
          ∧ r.2.mem ((c.tc : Thread Cert.KernelXIdeal.nD Cert.KernelXIdeal.τ).loc Cert.KernelXIdeal.main_arg5) = m ((c.tc : Thread Cert.KernelXIdeal.nD Cert.KernelXIdeal.τ).loc Cert.KernelXIdeal.main_arg5)
          ∧ r.2.mem ((c.tc : Thread Cert.KernelXIdeal.nD Cert.KernelXIdeal.τ).loc Cert.KernelXIdeal.main_arg6) = m ((c.tc : Thread Cert.KernelXIdeal.nD Cert.KernelXIdeal.τ).loc Cert.KernelXIdeal.main_arg6)
          ∧ r.2.mem ((c.tc : Thread Cert.KernelXIdeal.nD Cert.KernelXIdeal.τ).loc Cert.KernelXIdeal.main_arg7) = m ((c.tc : Thread Cert.KernelXIdeal.nD Cert.KernelXIdeal.τ).loc Cert.KernelXIdeal.main_arg7)
          ∧ r.2.mem ((c.tc : Thread Cert.KernelXIdeal.nD Cert.KernelXIdeal.τ).loc Cert.KernelXIdeal.main_arg8) = m ((c.tc : Thread Cert.KernelXIdeal.nD Cert.KernelXIdeal.τ).loc Cert.KernelXIdeal.main_arg8)
          ∧ r.2.mem ((c.tc : Thread Cert.KernelXIdeal.nD Cert.KernelXIdeal.τ).loc Cert.KernelXIdeal.main_arg9) = m ((c.tc : Thread Cert.KernelXIdeal.nD Cert.KernelXIdeal.τ).loc Cert.KernelXIdeal.main_arg9))
      ∧ θ_run (Cert.ReferenceXIdeal.defs (F := Ideal)) (onTc (τ := Cert.ReferenceXIdeal.τ) (Cert.ReferenceXIdeal.main (F := Ideal))) ⟨m', fun _ => 0, g'⟩ (fun r => ∀ c : Dev Cert.ReferenceXIdeal.nD,
          r.2.mem ((c.tc : Thread Cert.ReferenceXIdeal.nD Cert.ReferenceXIdeal.τ).loc Cert.ReferenceXIdeal.main_v57) = v0 c
          ∧ r.2.mem ((c.tc : Thread Cert.ReferenceXIdeal.nD Cert.ReferenceXIdeal.τ).loc Cert.ReferenceXIdeal.main_arg0) = m' ((c.tc : Thread Cert.ReferenceXIdeal.nD Cert.ReferenceXIdeal.τ).loc Cert.ReferenceXIdeal.main_arg0)
          ∧ r.2.mem ((c.tc : Thread Cert.ReferenceXIdeal.nD Cert.ReferenceXIdeal.τ).loc Cert.ReferenceXIdeal.main_arg1) = m' ((c.tc : Thread Cert.ReferenceXIdeal.nD Cert.ReferenceXIdeal.τ).loc Cert.ReferenceXIdeal.main_arg1)
          ∧ r.2.mem ((c.tc : Thread Cert.ReferenceXIdeal.nD Cert.ReferenceXIdeal.τ).loc Cert.ReferenceXIdeal.main_arg2) = m' ((c.tc : Thread Cert.ReferenceXIdeal.nD Cert.ReferenceXIdeal.τ).loc Cert.ReferenceXIdeal.main_arg2)
          ∧ r.2.mem ((c.tc : Thread Cert.ReferenceXIdeal.nD Cert.ReferenceXIdeal.τ).loc Cert.ReferenceXIdeal.main_arg3) = m' ((c.tc : Thread Cert.ReferenceXIdeal.nD Cert.ReferenceXIdeal.τ).loc Cert.ReferenceXIdeal.main_arg3)
          ∧ r.2.mem ((c.tc : Thread Cert.ReferenceXIdeal.nD Cert.ReferenceXIdeal.τ).loc Cert.ReferenceXIdeal.main_arg4) = m' ((c.tc : Thread Cert.ReferenceXIdeal.nD Cert.ReferenceXIdeal.τ).loc Cert.ReferenceXIdeal.main_arg4)
          ∧ r.2.mem ((c.tc : Thread Cert.ReferenceXIdeal.nD Cert.ReferenceXIdeal.τ).loc Cert.ReferenceXIdeal.main_arg5) = m' ((c.tc : Thread Cert.ReferenceXIdeal.nD Cert.ReferenceXIdeal.τ).loc Cert.ReferenceXIdeal.main_arg5)
          ∧ r.2.mem ((c.tc : Thread Cert.ReferenceXIdeal.nD Cert.ReferenceXIdeal.τ).loc Cert.ReferenceXIdeal.main_arg6) = m' ((c.tc : Thread Cert.ReferenceXIdeal.nD Cert.ReferenceXIdeal.τ).loc Cert.ReferenceXIdeal.main_arg6)
          ∧ r.2.mem ((c.tc : Thread Cert.ReferenceXIdeal.nD Cert.ReferenceXIdeal.τ).loc Cert.ReferenceXIdeal.main_arg7) = m' ((c.tc : Thread Cert.ReferenceXIdeal.nD Cert.ReferenceXIdeal.τ).loc Cert.ReferenceXIdeal.main_arg7)
          ∧ r.2.mem ((c.tc : Thread Cert.ReferenceXIdeal.nD Cert.ReferenceXIdeal.τ).loc Cert.ReferenceXIdeal.main_arg8) = m' ((c.tc : Thread Cert.ReferenceXIdeal.nD Cert.ReferenceXIdeal.τ).loc Cert.ReferenceXIdeal.main_arg8)
          ∧ r.2.mem ((c.tc : Thread Cert.ReferenceXIdeal.nD Cert.ReferenceXIdeal.τ).loc Cert.ReferenceXIdeal.main_arg9) = m' ((c.tc : Thread Cert.ReferenceXIdeal.nD Cert.ReferenceXIdeal.τ).loc Cert.ReferenceXIdeal.main_arg9))

def preserves_KernelM_KernelMIdeal : Prop :=
  True

def algebraic_KernelMIdeal_ReferenceMIdeal [hKernelMIdeal : Cert.KernelMIdeal.Facts] [hReferenceMIdeal : Cert.ReferenceMIdeal.Facts] : Prop :=
  ∀ (m : (ℓ : Loc Cert.KernelMIdeal.nD Cert.KernelMIdeal.τ Cert.KernelMIdeal.sig) → Buf (Elt Ideal) ℓ) (g : Dev Cert.KernelMIdeal.nD → PrngReg)
    (m' : (ℓ : Loc Cert.ReferenceMIdeal.nD Cert.ReferenceMIdeal.τ Cert.ReferenceMIdeal.sig) → Buf (Elt Ideal) ℓ) (g' : Dev Cert.ReferenceMIdeal.nD → PrngReg), Pre_KernelMIdeal m →
    (∀ c : Dev Cert.KernelMIdeal.nD,
      m' ((c.tc : Thread Cert.ReferenceMIdeal.nD Cert.ReferenceMIdeal.τ).loc Cert.ReferenceMIdeal.main_arg0) = m ((c.tc : Thread Cert.KernelMIdeal.nD Cert.KernelMIdeal.τ).loc Cert.KernelMIdeal.main_arg0)
      ∧ m' ((c.tc : Thread Cert.ReferenceMIdeal.nD Cert.ReferenceMIdeal.τ).loc Cert.ReferenceMIdeal.main_arg1) = m ((c.tc : Thread Cert.KernelMIdeal.nD Cert.KernelMIdeal.τ).loc Cert.KernelMIdeal.main_arg1)
      ∧ m' ((c.tc : Thread Cert.ReferenceMIdeal.nD Cert.ReferenceMIdeal.τ).loc Cert.ReferenceMIdeal.main_arg2) = m ((c.tc : Thread Cert.KernelMIdeal.nD Cert.KernelMIdeal.τ).loc Cert.KernelMIdeal.main_arg2)) →
    ∃ (v0 : (c : Dev Cert.KernelMIdeal.nD) → Buf (Elt Ideal) ((c.tc : Thread Cert.KernelMIdeal.nD Cert.KernelMIdeal.τ).loc Cert.KernelMIdeal.main_v2_0)) (v1 : (c : Dev Cert.KernelMIdeal.nD) → Buf (Elt Ideal) ((c.tc : Thread Cert.KernelMIdeal.nD Cert.KernelMIdeal.τ).loc Cert.KernelMIdeal.main_v2_1)),
      θ_run (Cert.KernelMIdeal.defs (F := Ideal)) (onTc (τ := Cert.KernelMIdeal.τ) (Cert.KernelMIdeal.main (F := Ideal))) ⟨m, fun _ => 0, g⟩ (fun r => ∀ c : Dev Cert.KernelMIdeal.nD,
          r.2.mem ((c.tc : Thread Cert.KernelMIdeal.nD Cert.KernelMIdeal.τ).loc Cert.KernelMIdeal.main_v2_0) = v0 c
          ∧ r.2.mem ((c.tc : Thread Cert.KernelMIdeal.nD Cert.KernelMIdeal.τ).loc Cert.KernelMIdeal.main_v2_1) = v1 c
          ∧ r.2.mem ((c.tc : Thread Cert.KernelMIdeal.nD Cert.KernelMIdeal.τ).loc Cert.KernelMIdeal.main_arg0) = m ((c.tc : Thread Cert.KernelMIdeal.nD Cert.KernelMIdeal.τ).loc Cert.KernelMIdeal.main_arg0)
          ∧ r.2.mem ((c.tc : Thread Cert.KernelMIdeal.nD Cert.KernelMIdeal.τ).loc Cert.KernelMIdeal.main_arg1) = m ((c.tc : Thread Cert.KernelMIdeal.nD Cert.KernelMIdeal.τ).loc Cert.KernelMIdeal.main_arg1)
          ∧ r.2.mem ((c.tc : Thread Cert.KernelMIdeal.nD Cert.KernelMIdeal.τ).loc Cert.KernelMIdeal.main_arg2) = m ((c.tc : Thread Cert.KernelMIdeal.nD Cert.KernelMIdeal.τ).loc Cert.KernelMIdeal.main_arg2))
      ∧ θ_run (Cert.ReferenceMIdeal.defs (F := Ideal)) (onTc (τ := Cert.ReferenceMIdeal.τ) (Cert.ReferenceMIdeal.main (F := Ideal))) ⟨m', fun _ => 0, g'⟩ (fun r => ∀ c : Dev Cert.ReferenceMIdeal.nD,
          r.2.mem ((c.tc : Thread Cert.ReferenceMIdeal.nD Cert.ReferenceMIdeal.τ).loc Cert.ReferenceMIdeal.main_v40) = v0 c
          ∧ r.2.mem ((c.tc : Thread Cert.ReferenceMIdeal.nD Cert.ReferenceMIdeal.τ).loc Cert.ReferenceMIdeal.main_v42) = v1 c
          ∧ r.2.mem ((c.tc : Thread Cert.ReferenceMIdeal.nD Cert.ReferenceMIdeal.τ).loc Cert.ReferenceMIdeal.main_arg0) = m' ((c.tc : Thread Cert.ReferenceMIdeal.nD Cert.ReferenceMIdeal.τ).loc Cert.ReferenceMIdeal.main_arg0)
          ∧ r.2.mem ((c.tc : Thread Cert.ReferenceMIdeal.nD Cert.ReferenceMIdeal.τ).loc Cert.ReferenceMIdeal.main_arg1) = m' ((c.tc : Thread Cert.ReferenceMIdeal.nD Cert.ReferenceMIdeal.τ).loc Cert.ReferenceMIdeal.main_arg1)
          ∧ r.2.mem ((c.tc : Thread Cert.ReferenceMIdeal.nD Cert.ReferenceMIdeal.τ).loc Cert.ReferenceMIdeal.main_arg2) = m' ((c.tc : Thread Cert.ReferenceMIdeal.nD Cert.ReferenceMIdeal.τ).loc Cert.ReferenceMIdeal.main_arg2))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)
      ∧ m' ((c.tc : Thread Cert.ReferenceOIdeal.nD Cert.ReferenceOIdeal.τ).loc Cert.ReferenceOIdeal.main_arg3) = m ((c.tc : Thread Cert.KernelOIdeal.nD Cert.KernelOIdeal.τ).loc Cert.KernelOIdeal.main_arg3)
      ∧ m' ((c.tc : Thread Cert.ReferenceOIdeal.nD Cert.ReferenceOIdeal.τ).loc Cert.ReferenceOIdeal.main_arg4) = m ((c.tc : Thread Cert.KernelOIdeal.nD Cert.KernelOIdeal.τ).loc Cert.KernelOIdeal.main_arg4)
      ∧ m' ((c.tc : Thread Cert.ReferenceOIdeal.nD Cert.ReferenceOIdeal.τ).loc Cert.ReferenceOIdeal.main_arg5) = m ((c.tc : Thread Cert.KernelOIdeal.nD Cert.KernelOIdeal.τ).loc Cert.KernelOIdeal.main_arg5)
      ∧ m' ((c.tc : Thread Cert.ReferenceOIdeal.nD Cert.ReferenceOIdeal.τ).loc Cert.ReferenceOIdeal.main_arg6) = m ((c.tc : Thread Cert.KernelOIdeal.nD Cert.KernelOIdeal.τ).loc Cert.KernelOIdeal.main_arg6)
      ∧ m' ((c.tc : Thread Cert.ReferenceOIdeal.nD Cert.ReferenceOIdeal.τ).loc Cert.ReferenceOIdeal.main_arg7) = m ((c.tc : Thread Cert.KernelOIdeal.nD Cert.KernelOIdeal.τ).loc Cert.KernelOIdeal.main_arg7)
      ∧ m' ((c.tc : Thread Cert.ReferenceOIdeal.nD Cert.ReferenceOIdeal.τ).loc Cert.ReferenceOIdeal.main_arg8) = m ((c.tc : Thread Cert.KernelOIdeal.nD Cert.KernelOIdeal.τ).loc Cert.KernelOIdeal.main_arg8)
      ∧ m' ((c.tc : Thread Cert.ReferenceOIdeal.nD Cert.ReferenceOIdeal.τ).loc Cert.ReferenceOIdeal.main_arg9) = m ((c.tc : Thread Cert.KernelOIdeal.nD Cert.KernelOIdeal.τ).loc Cert.KernelOIdeal.main_arg9)
      ∧ m' ((c.tc : Thread Cert.ReferenceOIdeal.nD Cert.ReferenceOIdeal.τ).loc Cert.ReferenceOIdeal.main_arg10) = m ((c.tc : Thread Cert.KernelOIdeal.nD Cert.KernelOIdeal.τ).loc Cert.KernelOIdeal.main_arg10)
      ∧ m' ((c.tc : Thread Cert.ReferenceOIdeal.nD Cert.ReferenceOIdeal.τ).loc Cert.ReferenceOIdeal.main_arg11) = m ((c.tc : Thread Cert.KernelOIdeal.nD Cert.KernelOIdeal.τ).loc Cert.KernelOIdeal.main_arg11)
      ∧ m' ((c.tc : Thread Cert.ReferenceOIdeal.nD Cert.ReferenceOIdeal.τ).loc Cert.ReferenceOIdeal.main_arg12) = m ((c.tc : Thread Cert.KernelOIdeal.nD Cert.KernelOIdeal.τ).loc Cert.KernelOIdeal.main_arg12)
      ∧ m' ((c.tc : Thread Cert.ReferenceOIdeal.nD Cert.ReferenceOIdeal.τ).loc Cert.ReferenceOIdeal.main_arg13) = m ((c.tc : Thread Cert.KernelOIdeal.nD Cert.KernelOIdeal.τ).loc Cert.KernelOIdeal.main_arg13)) →
    ∃ (v0 : (c : Dev Cert.KernelOIdeal.nD) → Buf (Elt Ideal) ((c.tc : Thread Cert.KernelOIdeal.nD Cert.KernelOIdeal.τ).loc Cert.KernelOIdeal.main_v25_0)) (v1 : (c : Dev Cert.KernelOIdeal.nD) → Buf (Elt Ideal) ((c.tc : Thread Cert.KernelOIdeal.nD Cert.KernelOIdeal.τ).loc Cert.KernelOIdeal.main_v25_1)) (v2 : (c : Dev Cert.KernelOIdeal.nD) → Buf (Elt Ideal) ((c.tc : Thread Cert.KernelOIdeal.nD Cert.KernelOIdeal.τ).loc Cert.KernelOIdeal.main_v25_2)) (v3 : (c : Dev Cert.KernelOIdeal.nD) → Buf (Elt Ideal) ((c.tc : Thread Cert.KernelOIdeal.nD Cert.KernelOIdeal.τ).loc Cert.KernelOIdeal.main_v25_3)) (v4 : (c : Dev Cert.KernelOIdeal.nD) → Buf (Elt Ideal) ((c.tc : Thread Cert.KernelOIdeal.nD Cert.KernelOIdeal.τ).loc Cert.KernelOIdeal.main_v25_4)) (v5 : (c : Dev Cert.KernelOIdeal.nD) → Buf (Elt Ideal) ((c.tc : Thread Cert.KernelOIdeal.nD Cert.KernelOIdeal.τ).loc Cert.KernelOIdeal.main_v25_5)) (v6 : (c : Dev Cert.KernelOIdeal.nD) → Buf (Elt Ideal) ((c.tc : Thread Cert.KernelOIdeal.nD Cert.KernelOIdeal.τ).loc Cert.KernelOIdeal.main_v25_6)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v25_0) = v0 c
          ∧ r.2.mem ((c.tc : Thread Cert.KernelOIdeal.nD Cert.KernelOIdeal.τ).loc Cert.KernelOIdeal.main_v25_1) = v1 c
          ∧ r.2.mem ((c.tc : Thread Cert.KernelOIdeal.nD Cert.KernelOIdeal.τ).loc Cert.KernelOIdeal.main_v25_2) = v2 c
          ∧ r.2.mem ((c.tc : Thread Cert.KernelOIdeal.nD Cert.KernelOIdeal.τ).loc Cert.KernelOIdeal.main_v25_3) = v3 c
          ∧ r.2.mem ((c.tc : Thread Cert.KernelOIdeal.nD Cert.KernelOIdeal.τ).loc Cert.KernelOIdeal.main_v25_4) = v4 c
          ∧ r.2.mem ((c.tc : Thread Cert.KernelOIdeal.nD Cert.KernelOIdeal.τ).loc Cert.KernelOIdeal.main_v25_5) = v5 c
          ∧ r.2.mem ((c.tc : Thread Cert.KernelOIdeal.nD Cert.KernelOIdeal.τ).loc Cert.KernelOIdeal.main_v25_6) = v6 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
          ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
          ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
          ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5)
          ∧ r.2.mem ((c.tc : Thread Cert.KernelOIdeal.nD Cert.KernelOIdeal.τ).loc Cert.KernelOIdeal.main_arg6) = m ((c.tc : Thread Cert.KernelOIdeal.nD Cert.KernelOIdeal.τ).loc Cert.KernelOIdeal.main_arg6)
          ∧ r.2.mem ((c.tc : Thread Cert.KernelOIdeal.nD Cert.KernelOIdeal.τ).loc Cert.KernelOIdeal.main_arg7) = m ((c.tc : Thread Cert.KernelOIdeal.nD Cert.KernelOIdeal.τ).loc Cert.KernelOIdeal.main_arg7)
          ∧ r.2.mem ((c.tc : Thread Cert.KernelOIdeal.nD Cert.KernelOIdeal.τ).loc Cert.KernelOIdeal.main_arg8) = m ((c.tc : Thread Cert.KernelOIdeal.nD Cert.KernelOIdeal.τ).loc Cert.KernelOIdeal.main_arg8)
          ∧ r.2.mem ((c.tc : Thread Cert.KernelOIdeal.nD Cert.KernelOIdeal.τ).loc Cert.KernelOIdeal.main_arg9) = m ((c.tc : Thread Cert.KernelOIdeal.nD Cert.KernelOIdeal.τ).loc Cert.KernelOIdeal.main_arg9)
          ∧ r.2.mem ((c.tc : Thread Cert.KernelOIdeal.nD Cert.KernelOIdeal.τ).loc Cert.KernelOIdeal.main_arg10) = m ((c.tc : Thread Cert.KernelOIdeal.nD Cert.KernelOIdeal.τ).loc Cert.KernelOIdeal.main_arg10)
          ∧ r.2.mem ((c.tc : Thread Cert.KernelOIdeal.nD Cert.KernelOIdeal.τ).loc Cert.KernelOIdeal.main_arg11) = m ((c.tc : Thread Cert.KernelOIdeal.nD Cert.KernelOIdeal.τ).loc Cert.KernelOIdeal.main_arg11)
          ∧ r.2.mem ((c.tc : Thread Cert.KernelOIdeal.nD Cert.KernelOIdeal.τ).loc Cert.KernelOIdeal.main_arg12) = m ((c.tc : Thread Cert.KernelOIdeal.nD Cert.KernelOIdeal.τ).loc Cert.KernelOIdeal.main_arg12)
          ∧ r.2.mem ((c.tc : Thread Cert.KernelOIdeal.nD Cert.KernelOIdeal.τ).loc Cert.KernelOIdeal.main_arg13) = m ((c.tc : Thread Cert.KernelOIdeal.nD Cert.KernelOIdeal.τ).loc Cert.KernelOIdeal.main_arg13))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v146) = v0 c
          ∧ r.2.mem ((c.tc : Thread Cert.ReferenceOIdeal.nD Cert.ReferenceOIdeal.τ).loc Cert.ReferenceOIdeal.main_v147) = v1 c
          ∧ r.2.mem ((c.tc : Thread Cert.ReferenceOIdeal.nD Cert.ReferenceOIdeal.τ).loc Cert.ReferenceOIdeal.main_v148) = v2 c
          ∧ r.2.mem ((c.tc : Thread Cert.ReferenceOIdeal.nD Cert.ReferenceOIdeal.τ).loc Cert.ReferenceOIdeal.main_v149) = v3 c
          ∧ r.2.mem ((c.tc : Thread Cert.ReferenceOIdeal.nD Cert.ReferenceOIdeal.τ).loc Cert.ReferenceOIdeal.main_v150) = v4 c
          ∧ r.2.mem ((c.tc : Thread Cert.ReferenceOIdeal.nD Cert.ReferenceOIdeal.τ).loc Cert.ReferenceOIdeal.main_v151) = v5 c
          ∧ r.2.mem ((c.tc : Thread Cert.ReferenceOIdeal.nD Cert.ReferenceOIdeal.τ).loc Cert.ReferenceOIdeal.main_v152) = v6 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2)
          ∧ r.2.mem ((c.tc : Thread Cert.ReferenceOIdeal.nD Cert.ReferenceOIdeal.τ).loc Cert.ReferenceOIdeal.main_arg3) = m' ((c.tc : Thread Cert.ReferenceOIdeal.nD Cert.ReferenceOIdeal.τ).loc Cert.ReferenceOIdeal.main_arg3)
          ∧ r.2.mem ((c.tc : Thread Cert.ReferenceOIdeal.nD Cert.ReferenceOIdeal.τ).loc Cert.ReferenceOIdeal.main_arg4) = m' ((c.tc : Thread Cert.ReferenceOIdeal.nD Cert.ReferenceOIdeal.τ).loc Cert.ReferenceOIdeal.main_arg4)
          ∧ r.2.mem ((c.tc : Thread Cert.ReferenceOIdeal.nD Cert.ReferenceOIdeal.τ).loc Cert.ReferenceOIdeal.main_arg5) = m' ((c.tc : Thread Cert.ReferenceOIdeal.nD Cert.ReferenceOIdeal.τ).loc Cert.ReferenceOIdeal.main_arg5)
          ∧ r.2.mem ((c.tc : Thread Cert.ReferenceOIdeal.nD Cert.ReferenceOIdeal.τ).loc Cert.ReferenceOIdeal.main_arg6) = m' ((c.tc : Thread Cert.ReferenceOIdeal.nD Cert.ReferenceOIdeal.τ).loc Cert.ReferenceOIdeal.main_arg6)
          ∧ r.2.mem ((c.tc : Thread Cert.ReferenceOIdeal.nD Cert.ReferenceOIdeal.τ).loc Cert.ReferenceOIdeal.main_arg7) = m' ((c.tc : Thread Cert.ReferenceOIdeal.nD Cert.ReferenceOIdeal.τ).loc Cert.ReferenceOIdeal.main_arg7)
          ∧ r.2.mem ((c.tc : Thread Cert.ReferenceOIdeal.nD Cert.ReferenceOIdeal.τ).loc Cert.ReferenceOIdeal.main_arg8) = m' ((c.tc : Thread Cert.ReferenceOIdeal.nD Cert.ReferenceOIdeal.τ).loc Cert.ReferenceOIdeal.main_arg8)
          ∧ r.2.mem ((c.tc : Thread Cert.ReferenceOIdeal.nD Cert.ReferenceOIdeal.τ).loc Cert.ReferenceOIdeal.main_arg9) = m' ((c.tc : Thread Cert.ReferenceOIdeal.nD Cert.ReferenceOIdeal.τ).loc Cert.ReferenceOIdeal.main_arg9)
          ∧ r.2.mem ((c.tc : Thread Cert.ReferenceOIdeal.nD Cert.ReferenceOIdeal.τ).loc Cert.ReferenceOIdeal.main_arg10) = m' ((c.tc : Thread Cert.ReferenceOIdeal.nD Cert.ReferenceOIdeal.τ).loc Cert.ReferenceOIdeal.main_arg10)
          ∧ r.2.mem ((c.tc : Thread Cert.ReferenceOIdeal.nD Cert.ReferenceOIdeal.τ).loc Cert.ReferenceOIdeal.main_arg11) = m' ((c.tc : Thread Cert.ReferenceOIdeal.nD Cert.ReferenceOIdeal.τ).loc Cert.ReferenceOIdeal.main_arg11)
          ∧ r.2.mem ((c.tc : Thread Cert.ReferenceOIdeal.nD Cert.ReferenceOIdeal.τ).loc Cert.ReferenceOIdeal.main_arg12) = m' ((c.tc : Thread Cert.ReferenceOIdeal.nD Cert.ReferenceOIdeal.τ).loc Cert.ReferenceOIdeal.main_arg12)
          ∧ r.2.mem ((c.tc : Thread Cert.ReferenceOIdeal.nD Cert.ReferenceOIdeal.τ).loc Cert.ReferenceOIdeal.main_arg13) = m' ((c.tc : Thread Cert.ReferenceOIdeal.nD Cert.ReferenceOIdeal.τ).loc Cert.ReferenceOIdeal.main_arg13))

def Claim : Prop :=
  ∃ (hKernel : Cert.Kernel.Facts) (hKernelIdeal : Cert.KernelIdeal.Facts) (hReferenceIdeal : Cert.ReferenceIdeal.Facts) (hKernelX : Cert.KernelX.Facts) (hKernelXIdeal : Cert.KernelXIdeal.Facts) (hReferenceXIdeal : Cert.ReferenceXIdeal.Facts) (hKernelM : Cert.KernelM.Facts) (hKernelMIdeal : Cert.KernelMIdeal.Facts) (hReferenceMIdeal : Cert.ReferenceMIdeal.Facts) (hKernelO : Cert.KernelO.Facts) (hKernelOIdeal : Cert.KernelOIdeal.Facts) (hReferenceOIdeal : Cert.ReferenceOIdeal.Facts) (hPre_scores_finite : Cert.Pre_scores_finite.Facts) (hPre_plain_scores_finite : Cert.Pre_plain_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_KernelX (hKernelX := hKernelX)
    ∧ quiescent_KernelXIdeal (hKernelXIdeal := hKernelXIdeal)
    ∧ quiescent_KernelXIdeal_pre_plain_scores_finite (hKernelXIdeal := hKernelXIdeal) (hPre_plain_scores_finite := hPre_plain_scores_finite)
    ∧ quiescent_ReferenceXIdeal (hReferenceXIdeal := hReferenceXIdeal)
    ∧ quiescent_ReferenceXIdeal_pre_plain_scores_finite (hReferenceXIdeal := hReferenceXIdeal) (hPre_plain_scores_finite := hPre_plain_scores_finite)
    ∧ quiescent_KernelM (hKernelM := hKernelM)
    ∧ quiescent_KernelMIdeal (hKernelMIdeal := hKernelMIdeal)
    ∧ quiescent_ReferenceMIdeal (hReferenceMIdeal := hReferenceMIdeal)
    ∧ quiescent_KernelO (hKernelO := hKernelO)
    ∧ quiescent_KernelOIdeal (hKernelOIdeal := hKernelOIdeal)
    ∧ quiescent_ReferenceOIdeal (hReferenceOIdeal := hReferenceOIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_KernelX_KernelXIdeal
    ∧ algebraic_KernelXIdeal_ReferenceXIdeal_pre_plain_scores_finite (hKernelXIdeal := hKernelXIdeal) (hReferenceXIdeal := hReferenceXIdeal) (hPre_plain_scores_finite := hPre_plain_scores_finite)
    ∧ preserves_KernelM_KernelMIdeal
    ∧ algebraic_KernelMIdeal_ReferenceMIdeal (hKernelMIdeal := hKernelMIdeal) (hReferenceMIdeal := hReferenceMIdeal)
    ∧ preserves_KernelO_KernelOIdeal
    ∧ algebraic_KernelOIdeal_ReferenceOIdeal (hKernelOIdeal := hKernelOIdeal) (hReferenceOIdeal := hReferenceOIdeal)
-- ==== Pre_plain_scores_finite.lean ====
abbrev S8x8192x1024 : Shape := ⟨3, ![8, 8192, 1024]⟩
abbrev S8x256x1024 : Shape := ⟨3, ![8, 256, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bitsLt_bf16_f32 : FTy.bits .bf16 < FTy.bits .f32
  bcast_S_S8x256x1024 : S_.BroadcastsInDim S8x256x1024 (![] : Fin 0 → Fin S8x256x1024.rank)
  reducesTo_S8x256x1024_S_d0_1_2 : S8x256x1024.ReducesTo [0, 1, 2] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v14 : IVec S_ 1) (main_v15 : FVec F S1024x1024 .f32) (main_v16 : FVec F S1024x1024 .f32) : IVec S_ 1 :=
  let main_v17 : IVec S1024x1024 1 := cmpf .olt main_v15 main_v16
  let main_c_5 : IVec S_ 1 := constantI S_ 1 1#1
  let main_v18 : IVec S_ 1 := (fun x v => Host.reduce IntOp.andi x v reducesTo_S1024x1024_S_d0_1 h_S_) main_v17 main_c_5
  let main_v19 : IVec S_ 1 := andi main_v14 main_v18
  main_v19

def fn {F : FTy → Type} [FloatOps F] (main_arg0 : FVec F S8x8192x1024 .f32) (main_arg1 : FVec F S8x256x1024 .bf16) (main_arg2 : FVec F S8x256x1024 .bf16) (main_arg3 : FVec F S1024 .f32) (main_arg4 : FVec F S1024x1024 .f32) (main_arg5 : FVec F S1024x1024 .f32) (main_arg6 : FVec F S1024 .f32) (main_arg7 : FVec F S1024x5632 .f32) (main_arg8 : FVec F S2816x1024 .f32) (main_arg9 : FVec F S1024 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S8x256x1024 .f32 := (extf .f32 · bitsLt_bf16_f32) main_arg1
  let main_v5 : FVec F S8x256x1024 .f32 := Host.absf main_v4
  let main_cst_0 : FVec F S_ .f32 := constant S_ .f32 0x7F800000#32
  let main_v6 : FVec F S8x256x1024 .f32 := broadcastInDim S8x256x1024 ![] bcast_S_S8x256x1024 main_cst_0
  let main_v7 : IVec S8x256x1024 1 := cmpf .olt main_v5 main_v6
  let main_c_1 : IVec S_ 1 := constantI S_ 1 1#1
  let main_v8 : IVec S_ 1 := (fun x v => Host.reduce IntOp.andi x v reducesTo_S8x256x1024_S_d0_1_2 h_S_) main_v7 main_c_1
  let main_v9 : IVec S_ 1 := andi main_v3 main_v8
  let main_v10 : FVec F S1024 .f32 := Host.absf main_arg3
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  let main_c_3 : IVec S_ 1 := constantI S_ 1 1#1
  let main_v13 : IVec S_ 1 := (fun x v => Host.reduce IntOp.andi x v reducesTo_S1024_S_d0 h_S_) main_v12 main_c_3
  let main_v14 : IVec S_ 1 := andi main_v9 main_v13
  let main_v15 : FVec F S1024x1024 .f32 := Host.absf main_arg4
  let main_cst_4 : FVec F S_ .f32 := constant S_ .f32 0x7F800000#32
  let main_v16 : FVec F S1024x1024 .f32 := broadcastInDim S1024x1024 ![] bcast_S_S1024x1024 main_cst_4
  fn_part1 (F := F) main_v14 main_v15 main_v16
-- ==== Pre_scores_finite.lean ====
abbrev S8x8192x512 : Shape := ⟨3, ![8, 8192, 512]⟩
abbrev S1024x1024 : Shape := ⟨2, ![1024, 1024]⟩
abbrev S8x8192x1024 : Shape := ⟨3, ![8, 8192, 1024]⟩
abbrev S8x256x1024 : Shape := ⟨3, ![8, 256, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bitsLt_bf16_f32 : FTy.bits .bf16 < FTy.bits .f32
  bcast_S_S8x8192x512 : S_.BroadcastsInDim S8x8192x512 (![] : Fin 0 → Fin S8x8192x512.rank)
  reducesTo_S8x8192x512_S_d0_1_2 : S8x8192x512.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S8x256x1024 : S_.BroadcastsInDim S8x256x1024 (![] : Fin 0 → Fin S8x256x1024.rank)
  reducesTo_S8x256x1024_S_d0_1_2 : S8x256x1024.ReducesTo [0, 1, 2] S_
  bcast_S_S1024 : S_.BroadcastsInDim S1024 (![] : Fin 0 → Fin S1024.rank)
  reducesTo_S1024_S_d0 : S1024.ReducesTo [0] S_

variable [Facts]

def fn_part2 {F : FTy → Type} [FloatOps F] (main_v31 : IVec S_ 1) (main_v34 : IVec S1024x1024 1) : IVec S_ 1 :=
  let main_c_11 : IVec S_ 1 := constantI S_ 1 1#1
  let main_v35 : IVec S_ 1 := (fun x v => Host.reduce IntOp.andi x v reducesTo_S1024x1024_S_d0_1 h_S_) main_v34 main_c_11
  let main_v36 : IVec S_ 1 := andi main_v31 main_v35
  main_v36

def fn_part1 {F : FTy → Type} [FloatOps F] (main_arg4 : FVec F S8x256x1024 .bf16) (main_arg6 : FVec F S1024 .f32) (main_arg7 : FVec F S1024x1024 .f32) (main_v15 : IVec S_ 1) (main_v16 : FVec F S1024x1024 .f32) (main_cst_4 : FVec F S_ .f32) : IVec S_ 1 :=
  let main_v17 : FVec F S1024x1024 .f32 := broadcastInDim S1024x1024 ![] bcast_S_S1024x1024 main_cst_4
  let main_v18 : IVec S1024x1024 1 := cmpf .olt main_v16 main_v17
  let main_c_5 : IVec S_ 1 := constantI S_ 1 1#1
  let main_v19 : IVec S_ 1 := (fun x v => Host.reduce IntOp.andi x v reducesTo_S1024x1024_S_d0_1 h_S_) main_v18 main_c_5
  let main_v20 : IVec S_ 1 := andi main_v15 main_v19
  let main_v21 : FVec F S8x256x1024 .f32 := (extf .f32 · bitsLt_bf16_f32) main_arg4
  let main_v22 : FVec F S8x256x1024 .f32 := Host.absf main_v21
  let main_cst_6 : FVec F S_ .f32 := constant S_ .f32 0x7F800000#32
  let main_v23 : FVec F S8x256x1024 .f32 := broadcastInDim S8x256x1024 ![] bcast_S_S8x256x1024 main_cst_6
  let main_v24 : IVec S8x256x1024 1 := cmpf .olt main_v22 main_v23
  let main_c_7 : IVec S_ 1 := constantI S_ 1 1#1
  let main_v25 : IVec S_ 1 := (fun x v => Host.reduce IntOp.andi x v reducesTo_S8x256x1024_S_d0_1_2 h_S_) main_v24 main_c_7
  let main_v26 : IVec S_ 1 := andi main_v20 main_v25
  let main_v27 : FVec F S1024 .f32 := Host.absf main_arg6
  let main_cst_8 : FVec F S_ .f32 := constant S_ .f32 0x7F800000#32
  let main_v28 : FVec F S1024 .f32 := broadcastInDim S1024 ![] bcast_S_S1024 main_cst_8
  let main_v29 : IVec S1024 1 := cmpf .olt main_v27 main_v28
  let main_c_9 : IVec S_ 1 := constantI S_ 1 1#1
  let main_v30 : IVec S_ 1 := (fun x v => Host.reduce IntOp.andi x v reducesTo_S1024_S_d0 h_S_) main_v29 main_c_9
  let main_v31 : IVec S_ 1 := andi main_v26 main_v30
  let main_v32 : FVec F S1024x1024 .f32 := Host.absf main_arg7
  let main_cst_10 : FVec F S_ .f32 := constant S_ .f32 0x7F800000#32
  let main_v33 : FVec F S1024x1024 .f32 := broadcastInDim S1024x1024 ![] bcast_S_S1024x1024 main_cst_10
  let main_v34 : IVec S1024x1024 1 := cmpf .olt main_v32 main_v33
  fn_part2 (F := F) main_v31 main_v34

def fn {F : FTy → Type} [FloatOps F] (main_arg0 : FVec F S8x8192x512 .bf16) (main_arg1 : FVec F S8x8192x512 .bf16) (main_arg2 : FVec F S1024x1024 .f32) (main_arg3 : FVec F S8x8192x1024 .f32) (main_arg4 : FVec F S8x256x1024 .bf16) (main_arg5 : FVec F S8x256x1024 .bf16) (main_arg6 : FVec F S1024 .f32) (main_arg7 : FVec F S1024x1024 .f32) (main_arg8 : FVec F S1024x1024 .f32) (main_arg9 : FVec F S1024 .f32) (main_arg10 : FVec F S1024x5632 .f32) (main_arg11 : FVec F S2816x1024 .f32) (main_arg12 : FVec F S1024 .f32) : IVec S_ 1 :=
  let main_v0 : FVec F S8x8192x1024 .f32 := Host.absf main_arg3
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S8x8192x512 .f32 := (extf .f32 · bitsLt_bf16_f32) main_arg0
  let main_v5 : FVec F S8x8192x512 .f32 := Host.absf main_v4
  let main_cst_0 : FVec F S_ .f32 := constant S_ .f32 0x7F800000#32
  let main_v6 : FVec F S8x8192x512 .f32 := broadcastInDim S8x8192x512 ![] bcast_S_S8x8192x512 main_cst_0
  let main_v7 : IVec S8x8192x512 1 := cmpf .olt main_v5 main_v6
  let main_c_1 : IVec S_ 1 := constantI S_ 1 1#1
  let main_v8 : IVec S_ 1 := (fun x v => Host.reduce IntOp.andi x v reducesTo_S8x8192x512_S_d0_1_2 h_S_) main_v7 main_c_1
  let main_v9 : IVec S_ 1 := andi main_v3 main_v8
  let main_v10 : FVec F S8x8192x512 .f32 := (extf .f32 · bitsLt_bf16_f32) main_arg1
  let main_v11 : FVec F S8x8192x512 .f32 := Host.absf main_v10
  let main_cst_2 : FVec F S_ .f32 := constant S_ .f32 0x7F800000#32
  let main_v12 : FVec F S8x8192x512 .f32 := broadcastInDim S8x8192x512 ![] bcast_S_S8x8192x512 main_cst_2
  let main_v13 : IVec S8x8192x512 1 := cmpf .olt main_v11 main_v12
  let main_c_3 : IVec S_ 1 := constantI S_ 1 1#1
  let main_v14 : IVec S_ 1 := (fun x v => Host.reduce IntOp.andi x v reducesTo_S8x8192x512_S_d0_1_2 h_S_) main_v13 main_c_3
  let main_v15 : IVec S_ 1 := andi main_v9 main_v14
  let main_v16 : FVec F S1024x1024 .f32 := Host.absf main_arg2
  let main_cst_4 : FVec F S_ .f32 := constant S_ .f32 0x7F800000#32
  fn_part1 (F := F) main_arg4 main_arg6 main_arg7 main_v15 main_v16 main_cst_4
-- ==== Kernel.lean ====
abbrev S8x8192x512 : Shape := ⟨3, ![8, 8192, 512]⟩
abbrev S1024x1024 : Shape := ⟨2, ![1024, 1024]⟩
abbrev S8x8192x1024 : Shape := ⟨3, ![8, 8192, 1024]⟩
abbrev S8x256x1024 : Shape := ⟨3, ![8, 256, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x512x512 : Shape := ⟨3, ![1, 512, 512]⟩
abbrev S1x512x1024 : Shape := ⟨3, ![1, 512, 1024]⟩
abbrev S1x256x1024 : Shape := ⟨3, ![1, 256, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 22
  | .vmem => 20
  | .smem => 0
  | _ => 0

abbrev bufTy : (tb : Table) → Fin (tcTables nBuf tb) → BufTy
  | .hbm, ⟨0, _⟩ => ⟨S8x8192x512, .bf16⟩
  | .hbm, ⟨1, _⟩ => ⟨S8x8192x512, .bf16⟩
  | .hbm, ⟨2, _⟩ => ⟨S1024x1024, .f32⟩
  | .hbm, ⟨3, _⟩ => ⟨S8x8192x1024, .f32⟩
  | .hbm, ⟨4, _⟩ => ⟨S8x256x1024, .bf16⟩
  | .hbm, ⟨5, _⟩ => ⟨S8x256x1024, .bf16⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024x5632, .f32⟩
  | .hbm, ⟨11, _⟩ => ⟨S2816x1024, .f32⟩
  | .hbm, ⟨12, _⟩ => ⟨S1024, .f32⟩
  | .hbm, ⟨13, _⟩ => ⟨S1024x1024, .bf16⟩
  | .hbm, ⟨14, _⟩ => ⟨S1x1024, .f32⟩
  | .hbm, ⟨15, _⟩ => ⟨S1024x1024, .bf16⟩
  | .hbm, ⟨16, _⟩ => ⟨S1024x1024, .bf16⟩
  | .hbm, ⟨17, _⟩ => ⟨S1x1024, .f32⟩
  | .hbm, ⟨18, _⟩ => ⟨S1024x5632, .bf16⟩
  | .hbm, ⟨19, _⟩ => ⟨S2816x1024, .bf16⟩
  | .hbm, ⟨20, _⟩ => ⟨S1x1024, .f32⟩
  | .hbm, ⟨21, _⟩ => ⟨S8x8192x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x5632, .bf16⟩
  | .local _ .vmem, ⟨16, _⟩ => ⟨S2816x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | _, _ => ⟨S8x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S8x8192x512 : Shape := ⟨3, ![8, 8192, 512]⟩
abbrev S1024x1024 : Shape := ⟨2, ![1024, 1024]⟩
abbrev S8x8192x1024 : Shape := ⟨3, ![8, 8192, 1024]⟩
abbrev S8x256x1024 : Shape := ⟨3, ![8, 256, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4x256 : Shape := ⟨4, ![8, 8192, 4, 256]⟩
abbrev S8x256x4x256 : Shape := ⟨4, ![8, 256, 4, 256]⟩
abbrev S8x4x8192x256 : Shape := ⟨4, ![8, 4, 8192, 256]⟩
abbrev S8x4x8192 : Shape := ⟨3, ![8, 4, 8192]⟩
abbrev S8x4x8192x1 : Shape := ⟨4, ![8, 4, 8192, 1]⟩
abbrev S8x4x256x8192 : Shape := ⟨4, ![8, 4, 256, 8192]⟩
abbrev S8x8192x5632 : Shape := ⟨3, ![8, 8192, 5632]⟩
abbrev S8x8192x2816 : Shape := ⟨3, ![8, 8192, 2816]⟩

abbrev nBuf : Space → Nat
  | .hbm => 110
  | .vmem => 0
  | .smem => 0
  | _ => 0

abbrev bufTy : (tb : Table) → Fin (tcTables nBuf tb) → BufTy
  | .hbm, ⟨0, _⟩ => ⟨S8x8192x512, .bf16⟩
  | .hbm, ⟨1, _⟩ => ⟨S8x8192x512, .bf16⟩
  | .hbm, ⟨2, _⟩ => ⟨S1024x1024, .f32⟩
  | .hbm, ⟨3, _⟩ => ⟨S8x8192x1024, .f32⟩
  | .hbm, ⟨4, _⟩ => ⟨S8x256x1024, .bf16⟩
  | .hbm, ⟨5, _⟩ => ⟨S8x256x1024, .bf16⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024x5632, .f32⟩
  | .hbm, ⟨11, _⟩ => ⟨S2816x1024, .f32⟩
  | .hbm, ⟨12, _⟩ => ⟨S1024, .f32⟩
  | .hbm, ⟨13, _⟩ => ⟨S8x8192x512, .f32⟩
  | .hbm, ⟨14, _⟩ => ⟨S8x8192x512, .f32⟩
  | .hbm, ⟨15, _⟩ => ⟨S8x8192x1024, .f32⟩
  | .hbm, ⟨16, _⟩ => ⟨S8x8192x1024, .f32⟩
  | .hbm, ⟨17, _⟩ => ⟨S8x8192x1024, .f32⟩
  | .hbm, ⟨18, _⟩ => ⟨S8x8192x1024, .f32⟩
  | .hbm, ⟨19, _⟩ => ⟨S_, .f32⟩
  | .hbm, ⟨20, _⟩ => ⟨S8x8192, .f32⟩
  | .hbm, ⟨21, _⟩ => ⟨S8x8192x1, .f32⟩
  | .hbm, ⟨22, _⟩ => ⟨S_, .f32⟩
  | .hbm, ⟨23, _⟩ => ⟨S8x8192x1, .f32⟩
  | .hbm, ⟨24, _⟩ => ⟨S8x8192x1, .f32⟩
  | .hbm, ⟨25, _⟩ => ⟨S_, .f32⟩
  | .hbm, ⟨26, _⟩ => ⟨S8x8192x1, .f32⟩
  | .hbm, ⟨27, _⟩ => ⟨S8x8192x1, .f32⟩
  | .hbm, ⟨28, _⟩ => ⟨S8x8192x1, .f32⟩
  | .hbm, ⟨29, _⟩ => ⟨S8x8192x1024, .f32⟩
  | .hbm, ⟨30, _⟩ => ⟨S8x8192x1024, .f32⟩
  | .hbm, ⟨31, _⟩ => ⟨S1x1x1024, .f32⟩
  | .hbm, ⟨32, _⟩ => ⟨S8x8192x1024, .f32⟩
  | .hbm, ⟨33, _⟩ => ⟨S8x8192x1024, .f32⟩
  | .hbm, ⟨34, _⟩ => ⟨S8x8192x1024, .f32⟩
  | .hbm, ⟨35, _⟩ => ⟨S8x8192x4x256, .f32⟩
  | .hbm, ⟨36, _⟩ => ⟨S8x256x1024, .f32⟩
  | .hbm, ⟨37, _⟩ => ⟨S8x256x4x256, .f32⟩
  | .hbm, ⟨38, _⟩ => ⟨S8x256x1024, .f32⟩
  | .hbm, ⟨39, _⟩ => ⟨S8x256x4x256, .f32⟩
  | .hbm, ⟨40, _⟩ => ⟨S8x4x8192x256, .f32⟩
  | .hbm, ⟨41, _⟩ => ⟨S_, .f32⟩
  | .hbm, ⟨42, _⟩ => ⟨S8x4x8192x256, .f32⟩
  | .hbm, ⟨43, _⟩ => ⟨S8x4x8192x256, .f32⟩
  | .hbm, ⟨44, _⟩ => ⟨S_, .f32⟩
  | .hbm, ⟨45, _⟩ => ⟨S8x4x8192, .f32⟩
  | .hbm, ⟨46, _⟩ => ⟨S_, .f32⟩
  | .hbm, ⟨47, _⟩ => ⟨S8x4x8192, .f32⟩
  | .hbm, ⟨48, _⟩ => ⟨S8x4x8192, .f32⟩
  | .hbm, ⟨49, _⟩ => ⟨S8x4x8192x1, .f32⟩
  | .hbm, ⟨50, _⟩ => ⟨S8x4x8192x256, .f32⟩
  | .hbm, ⟨51, _⟩ => ⟨S8x4x8192x256, .f32⟩
  | .hbm, ⟨52, _⟩ => ⟨S8x4x8192x256, .f32⟩
  | .hbm, ⟨53, _⟩ => ⟨S_, .f32⟩
  | .hbm, ⟨54, _⟩ => ⟨S8x4x8192, .f32⟩
  | .hbm, ⟨55, _⟩ => ⟨S8x4x8192x1, .f32⟩
  | .hbm, ⟨56, _⟩ => ⟨S8x4x8192x256, .f32⟩
  | .hbm, ⟨57, _⟩ => ⟨S8x4x8192x256, .f32⟩
  | .hbm, ⟨58, _⟩ => ⟨S8x4x256x8192, .f32⟩
  | .hbm, ⟨59, _⟩ => ⟨S8x8192x4x256, .f32⟩
  | .hbm, ⟨60, _⟩ => ⟨S8x8192x1024, .f32⟩
  | .hbm, ⟨61, _⟩ => ⟨S8x8192x1024, .f32⟩
  | .hbm, ⟨62, _⟩ => ⟨S8x8192x1024, .f32⟩
  | .hbm, ⟨63, _⟩ => ⟨S8x8192x1024, .f32⟩
  | .hbm, ⟨64, _⟩ => ⟨S_, .f32⟩
  | .hbm, ⟨65, _⟩ => ⟨S8x8192, .f32⟩
  | .hbm, ⟨66, _⟩ => ⟨S8x8192x1, .f32⟩
  | .hbm, ⟨67, _⟩ => ⟨S_, .f32⟩
  | .hbm, ⟨68, _⟩ => ⟨S8x8192x1, .f32⟩
  | .hbm, ⟨69, _⟩ => ⟨S8x8192x1, .f32⟩
  | .hbm, ⟨70, _⟩ => ⟨S_, .f32⟩
  | .hbm, ⟨71, _⟩ => ⟨S8x8192x1, .f32⟩
  | .hbm, ⟨72, _⟩ => ⟨S8x8192x1, .f32⟩
  | .hbm, ⟨73, _⟩ => ⟨S8x8192x1, .f32⟩
  | .hbm, ⟨74, _⟩ => ⟨S8x8192x1024, .f32⟩
  | .hbm, ⟨75, _⟩ => ⟨S8x8192x1024, .f32⟩
  | .hbm, ⟨76, _⟩ => ⟨S1x1x1024, .f32⟩
  | .hbm, ⟨77, _⟩ => ⟨S8x8192x1024, .f32⟩
  | .hbm, ⟨78, _⟩ => ⟨S8x8192x1024, .f32⟩
  | .hbm, ⟨79, _⟩ => ⟨S8x8192x5632, .f32⟩
  | .hbm, ⟨80, _⟩ => ⟨S8x8192x2816, .f32⟩
  | .hbm, ⟨81, _⟩ => ⟨S8x8192x2816, .f32⟩
  | .hbm, ⟨82, _⟩ => ⟨S8x8192x2816, .f32⟩
  | .hbm, ⟨83, _⟩ => ⟨S8x8192x2816, .f32⟩
  | .hbm, ⟨84, _⟩ => ⟨S_, .f32⟩
  | .hbm, ⟨85, _⟩ => ⟨S8x8192x2816, .f32⟩
  | .hbm, ⟨86, _⟩ => ⟨S8x8192x2816, .f32⟩
  | .hbm, ⟨87, _⟩ => ⟨S_, .f32⟩
  | .hbm, ⟨88, _⟩ => ⟨S8x8192x2816, .f32⟩
  | .hbm, ⟨89, _⟩ => ⟨S8x8192x2816, .f32⟩
  | .hbm, ⟨90, _⟩ => ⟨S8x8192x2816, .f32⟩
  | .hbm, ⟨91, _⟩ => ⟨S8x8192x2816, .f32⟩
  | .hbm, ⟨92, _⟩ => ⟨S8x8192x1024, .f32⟩
  | .hbm, ⟨93, _⟩ => ⟨S8x8192x1024, .f32⟩
  | .hbm, ⟨94, _⟩ => ⟨S8x8192x1024, .f32⟩
  | .hbm, ⟨95, _⟩ => ⟨S_, .f32⟩
  | .hbm, ⟨96, _⟩ => ⟨S8x8192, .f32⟩
  | .hbm, ⟨97, _⟩ => ⟨S8x8192x1, .f32⟩
  | .hbm, ⟨98, _⟩ => ⟨S_, .f32⟩
  | .hbm, ⟨99, _⟩ => ⟨S8x8192x1, .f32⟩
  | .hbm, ⟨100, _⟩ => ⟨S8x8192x1, .f32⟩
  | .hbm, ⟨101, _⟩ => ⟨S_, .f32⟩
  | .hbm, ⟨102, _⟩ => ⟨S8x8192x1, .f32⟩
  | .hbm, ⟨103, _⟩ => ⟨S8x8192x1, .f32⟩
  | .hbm, ⟨104, _⟩ => ⟨S8x8192x1, .f32⟩
  | .hbm, ⟨105, _⟩ => ⟨S8x8192x1024, .f32⟩
  | .hbm, ⟨106, _⟩ => ⟨S8x8192x1024, .f32⟩
  | .hbm, ⟨107, _⟩ => ⟨S1x1x1024, .f32⟩
  | .hbm, ⟨108, _⟩ => ⟨S8x8192x1024, .f32⟩
  | .hbm, ⟨109, _⟩ => ⟨S8x8192x1024, .f32⟩
  | _, _ => ⟨S8x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call0_v0 : Ref sig .tc := ⟨.hbm, 82, rfl⟩
abbrev main_call0_v1 : Ref sig .tc := ⟨.hbm, 83, rfl⟩
abbrev main_call0_cst : Ref sig .tc := ⟨.hbm, 84, rfl⟩
abbrev main_call0_v2 : Ref sig .tc := ⟨.hbm, 85, rfl⟩
abbrev main_call0_v3 : Ref sig .tc := ⟨.hbm, 86, rfl⟩
abbrev main_call0_cst_0 : Ref sig .tc := ⟨.hbm, 87, rfl⟩
abbrev main_call0_v4 : Ref sig .tc := ⟨.hbm, 88, rfl⟩
abbrev main_call0_v5 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_9 : Ref sig .tc := ⟨.hbm, 95, rfl⟩
abbrev main_v64 : Ref sig .tc := ⟨.hbm, 96, rfl⟩
abbrev main_v65 : Ref sig .tc := ⟨.hbm, 97, rfl⟩
abbrev main_cst_10 : Ref sig .tc := ⟨.hbm, 98, rfl⟩
abbrev main_v66 : Ref sig .tc := ⟨.hbm, 99, rfl⟩
abbrev main_v67 : Ref sig .tc := ⟨.hbm, 100, rfl⟩
abbrev main_cst_11 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩

abbrev nD : Nat := 1
abbrev τ : Topo := Topo.v7x

variable {F : FTy → Type} [FloatOps F]
-- ==== KernelX.lean ====
abbrev S8x8192x1024 : Shape := ⟨3, ![8, 8192, 1024]⟩
abbrev S8x256x1024 : Shape := ⟨3, ![8, 256, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S1x256x1024 : Shape := ⟨3, ![1, 256, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 18
  | .vmem => 15
  | .smem => 0
  | _ => 0

abbrev bufTy : (tb : Table) → Fin (tcTables nBuf tb) → BufTy
  | .hbm, ⟨0, _⟩ => ⟨S8x8192x1024, .f32⟩
  | .hbm, ⟨1, _⟩ => ⟨S8x256x1024, .bf16⟩
  | .hbm, ⟨2, _⟩ => ⟨S8x256x1024, .bf16⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1024, .f32⟩
  | .hbm, ⟨10, _⟩ => ⟨S1x1024, .f32⟩
  | .hbm, ⟨11, _⟩ => ⟨S1024x1024, .bf16⟩
  | .hbm, ⟨12, _⟩ => ⟨S1024x1024, .bf16⟩
  | .hbm, ⟨13, _⟩ => ⟨S1x1024, .f32⟩
  | .hbm, ⟨14, _⟩ => ⟨S1024x5632, .bf16⟩
  | .hbm, ⟨15, _⟩ => ⟨S2816x1024, .bf16⟩
  | .hbm, ⟨16, _⟩ => ⟨S1x1024, .f32⟩
  | .hbm, ⟨17, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S2816x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceXIdeal.lean ====
abbrev S8x8192x1024 : Shape := ⟨3, ![8, 8192, 1024]⟩
abbrev S8x256x1024 : Shape := ⟨3, ![8, 256, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4x256 : Shape := ⟨4, ![8, 8192, 4, 256]⟩
abbrev S8x256x4x256 : Shape := ⟨4, ![8, 256, 4, 256]⟩
abbrev S8x4x8192x256 : Shape := ⟨4, ![8, 4, 8192, 256]⟩
abbrev S8x4x8192 : Shape := ⟨3, ![8, 4, 8192]⟩
abbrev S8x4x8192x1 : Shape := ⟨4, ![8, 4, 8192, 1]⟩
abbrev S8x4x256x8192 : Shape := ⟨4, ![8, 4, 256, 8192]⟩
abbrev S8x8192x5632 : Shape := ⟨3, ![8, 8192, 5632]⟩
abbrev S8x8192x2816 : Shape := ⟨3, ![8, 8192, 2816]⟩

abbrev nBuf : Space → Nat
  | .hbm => 86
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x256x1024, .bf16⟩
  | .hbm, ⟨2, _⟩ => ⟨S8x256x1024, .bf16⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1024, .f32⟩
  | .hbm, ⟨10, _⟩ => ⟨S8x8192x1024, .f32⟩
  | .hbm, ⟨11, _⟩ => ⟨S_, .f32⟩
  | .hbm, ⟨12, _⟩ => ⟨S8x8192, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S_, .f32⟩
  | .hbm, ⟨18, _⟩ => ⟨S8x8192x1, .f32⟩
  | .hbm, ⟨19, _⟩ => ⟨S8x8192x1, .f32⟩
  | .hbm, ⟨20, _⟩ => ⟨S8x8192x1, .f32⟩
  | .hbm, ⟨21, _⟩ => ⟨S8x8192x1024, .f32⟩
  | .hbm, ⟨22, _⟩ => ⟨S8x8192x1024, .f32⟩
  | .hbm, ⟨23, _⟩ => ⟨S1x1x1024, .f32⟩
  | .hbm, ⟨24, _⟩ => ⟨S8x8192x1024, .f32⟩
  | .hbm, ⟨25, _⟩ => ⟨S8x8192x1024, .f32⟩
  | .hbm, ⟨26, _⟩ => ⟨S8x8192x1024, .f32⟩
  | .hbm, ⟨27, _⟩ => ⟨S8x8192x4x256, .f32⟩
  | .hbm, ⟨28, _⟩ => ⟨S8x256x1024, .f32⟩
  | .hbm, ⟨29, _⟩ => ⟨S8x256x4x256, .f32⟩
  | .hbm, ⟨30, _⟩ => ⟨S8x256x1024, .f32⟩
  | .hbm, ⟨31, _⟩ => ⟨S8x256x4x256, .f32⟩
  | .hbm, ⟨32, _⟩ => ⟨S8x4x8192x256, .f32⟩
  | .hbm, ⟨33, _⟩ => ⟨S_, .f32⟩
  | .hbm, ⟨34, _⟩ => ⟨S8x4x8192x256, .f32⟩
  | .hbm, ⟨35, _⟩ => ⟨S8x4x8192x256, .f32⟩
  | .hbm, ⟨36, _⟩ => ⟨S_, .f32⟩
  | .hbm, ⟨37, _⟩ => ⟨S8x4x8192, .f32⟩
  | .hbm, ⟨38, _⟩ => ⟨S_, .f32⟩
  | .hbm, ⟨39, _⟩ => ⟨S8x4x8192, .f32⟩
  | .hbm, ⟨40, _⟩ => ⟨S8x4x8192, .f32⟩
  | .hbm, ⟨41, _⟩ => ⟨S8x4x8192x1, .f32⟩
  | .hbm, ⟨42, _⟩ => ⟨S8x4x8192x256, .f32⟩
  | .hbm, ⟨43, _⟩ => ⟨S8x4x8192x256, .f32⟩
  | .hbm, ⟨44, _⟩ => ⟨S8x4x8192x256, .f32⟩
  | .hbm, ⟨45, _⟩ => ⟨S_, .f32⟩
  | .hbm, ⟨46, _⟩ => ⟨S8x4x8192, .f32⟩
  | .hbm, ⟨47, _⟩ => ⟨S8x4x8192x1, .f32⟩
  | .hbm, ⟨48, _⟩ => ⟨S8x4x8192x256, .f32⟩
  | .hbm, ⟨49, _⟩ => ⟨S8x4x8192x256, .f32⟩
  | .hbm, ⟨50, _⟩ => ⟨S8x4x256x8192, .f32⟩
  | .hbm, ⟨51, _⟩ => ⟨S8x8192x4x256, .f32⟩
  | .hbm, ⟨52, _⟩ => ⟨S8x8192x1024, .f32⟩
  | .hbm, ⟨53, _⟩ => ⟨S8x8192x1024, .f32⟩
  | .hbm, ⟨54, _⟩ => ⟨S8x8192x1024, .f32⟩
  | .hbm, ⟨55, _⟩ => ⟨S8x8192x1024, .f32⟩
  | .hbm, ⟨56, _⟩ => ⟨S_, .f32⟩
  | .hbm, ⟨57, _⟩ => ⟨S8x8192, .f32⟩
  | .hbm, ⟨58, _⟩ => ⟨S8x8192x1, .f32⟩
  | .hbm, ⟨59, _⟩ => ⟨S_, .f32⟩
  | .hbm, ⟨60, _⟩ => ⟨S8x8192x1, .f32⟩
  | .hbm, ⟨61, _⟩ => ⟨S8x8192x1, .f32⟩
  | .hbm, ⟨62, _⟩ => ⟨S_, .f32⟩
  | .hbm, ⟨63, _⟩ => ⟨S8x8192x1, .f32⟩
  | .hbm, ⟨64, _⟩ => ⟨S8x8192x1, .f32⟩
  | .hbm, ⟨65, _⟩ => ⟨S8x8192x1, .f32⟩
  | .hbm, ⟨66, _⟩ => ⟨S8x8192x1024, .f32⟩
  | .hbm, ⟨67, _⟩ => ⟨S8x8192x1024, .f32⟩
  | .hbm, ⟨68, _⟩ => ⟨S1x1x1024, .f32⟩
  | .hbm, ⟨69, _⟩ => ⟨S8x8192x1024, .f32⟩
  | .hbm, ⟨70, _⟩ => ⟨S8x8192x1024, .f32⟩
  | .hbm, ⟨71, _⟩ => ⟨S8x8192x5632, .f32⟩
  | .hbm, ⟨72, _⟩ => ⟨S8x8192x2816, .f32⟩
  | .hbm, ⟨73, _⟩ => ⟨S8x8192x2816, .f32⟩
  | .hbm, ⟨74, _⟩ => ⟨S8x8192x2816, .f32⟩
  | .hbm, ⟨75, _⟩ => ⟨S8x8192x2816, .f32⟩
  | .hbm, ⟨76, _⟩ => ⟨S_, .f32⟩
  | .hbm, ⟨77, _⟩ => ⟨S8x8192x2816, .f32⟩
  | .hbm, ⟨78, _⟩ => ⟨S8x8192x2816, .f32⟩
  | .hbm, ⟨79, _⟩ => ⟨S_, .f32⟩
  | .hbm, ⟨80, _⟩ => ⟨S8x8192x2816, .f32⟩
  | .hbm, ⟨81, _⟩ => ⟨S8x8192x2816, .f32⟩
  | .hbm, ⟨82, _⟩ => ⟨S8x8192x2816, .f32⟩
  | .hbm, ⟨83, _⟩ => ⟨S8x8192x2816, .f32⟩
  | .hbm, ⟨84, _⟩ => ⟨S8x8192x1024, .f32⟩
  | .hbm, ⟨85, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩

abbrev nD : Nat := 1
abbrev τ : Topo := Topo.v7x

variable {F : FTy → Type} [FloatOps F]
-- ==== KernelM.lean ====
abbrev S8x256x1024 : Shape := ⟨3, ![8, 256, 1024]⟩
abbrev S2x1024 : Shape := ⟨2, ![2, 1024]⟩
abbrev S2x1024x2048 : Shape := ⟨3, ![2, 1024, 2048]⟩
abbrev S2x1x1024 : Shape := ⟨3, ![2, 1, 1024]⟩
abbrev S2x8x256x1024 : Shape := ⟨4, ![2, 8, 256, 1024]⟩
abbrev S1x256x1024 : Shape := ⟨3, ![1, 256, 1024]⟩
abbrev S1x1x1024 : Shape := ⟨3, ![1, 1, 1024]⟩
abbrev S1x1024x2048 : Shape := ⟨3, ![1, 1024, 2048]⟩
abbrev S1x1x256x1024 : Shape := ⟨4, ![1, 1, 256, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩

abbrev nBuf : Space → Nat
  | .hbm => 7
  | .vmem => 10
  | .smem => 0
  | _ => 0

abbrev bufTy : (tb : Table) → Fin (tcTables nBuf tb) → BufTy
  | .hbm, ⟨0, _⟩ => ⟨S8x256x1024, .f32⟩
  | .hbm, ⟨1, _⟩ => ⟨S2x1024, .f32⟩
  | .hbm, ⟨2, _⟩ => ⟨S2x1024x2048, .f32⟩
  | .hbm, ⟨3, _⟩ => ⟨S2x1x1024, .f32⟩
  | .hbm, ⟨4, _⟩ => ⟨S2x1024x2048, .bf16⟩
  | .hbm, ⟨5, _⟩ => ⟨S2x8x256x1024, .bf16⟩
  | .hbm, ⟨6, _⟩ => ⟨S2x8x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x2048, .bf16⟩
  | .local _ .vmem, ⟨5, _⟩ => ⟨S1x1024x2048, .bf16⟩
  | .local _ .vmem, ⟨6, _⟩ => ⟨S1x1x256x1024, .bf16⟩
  | .local _ .vmem, ⟨7, _⟩ => ⟨S1x1x256x1024, .bf16⟩
  | .local _ .vmem, ⟨8, _⟩ => ⟨S1x1x256x1024, .bf16⟩
  | .local _ .vmem, ⟨9, _⟩ => ⟨S1x1x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceMIdeal.lean ====
abbrev S8x256x1024 : Shape := ⟨3, ![8, 256, 1024]⟩
abbrev S2x1024 : Shape := ⟨2, ![2, 1024]⟩
abbrev S2x1024x2048 : Shape := ⟨3, ![2, 1024, 2048]⟩
abbrev S1x1024 : Shape := ⟨2, ![1, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1x1024x2048 : Shape := ⟨3, ![1, 1024, 2048]⟩
abbrev S1024x2048 : Shape := ⟨2, ![1024, 2048]⟩
abbrev S8x256x2048 : Shape := ⟨3, ![8, 256, 2048]⟩
abbrev S1x8x256x2048 : Shape := ⟨4, ![1, 8, 256, 2048]⟩
abbrev S2x8x256x2048 : Shape := ⟨4, ![2, 8, 256, 2048]⟩
abbrev S2x8x256x1024 : Shape := ⟨4, ![2, 8, 256, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S2x1024, .f32⟩
  | .hbm, ⟨2, _⟩ => ⟨S2x1024x2048, .f32⟩
  | .hbm, ⟨3, _⟩ => ⟨S1x1024, .f32⟩
  | .hbm, ⟨4, _⟩ => ⟨S1024, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S1x1024x2048, .f32⟩
  | .hbm, ⟨22, _⟩ => ⟨S1024x2048, .f32⟩
  | .hbm, ⟨23, _⟩ => ⟨S8x256x2048, .f32⟩
  | .hbm, ⟨24, _⟩ => ⟨S1x1024, .f32⟩
  | .hbm, ⟨25, _⟩ => ⟨S1024, .f32⟩
  | .hbm, ⟨26, _⟩ => ⟨S8x256x1024, .f32⟩
  | .hbm, ⟨27, _⟩ => ⟨S_, .f32⟩
  | .hbm, ⟨28, _⟩ => ⟨S8x256, .f32⟩
  | .hbm, ⟨29, _⟩ => ⟨S8x256x1, .f32⟩
  | .hbm, ⟨30, _⟩ => ⟨S_, .f32⟩
  | .hbm, ⟨31, _⟩ => ⟨S8x256x1, .f32⟩
  | .hbm, ⟨32, _⟩ => ⟨S8x256x1, .f32⟩
  | .hbm, ⟨33, _⟩ => ⟨S_, .f32⟩
  | .hbm, ⟨34, _⟩ => ⟨S8x256x1, .f32⟩
  | .hbm, ⟨35, _⟩ => ⟨S8x256x1, .f32⟩
  | .hbm, ⟨36, _⟩ => ⟨S8x256x1, .f32⟩
  | .hbm, ⟨37, _⟩ => ⟨S8x256x1024, .f32⟩
  | .hbm, ⟨38, _⟩ => ⟨S8x256x1024, .f32⟩
  | .hbm, ⟨39, _⟩ => ⟨S1x1x1024, .f32⟩
  | .hbm, ⟨40, _⟩ => ⟨S8x256x1024, .f32⟩
  | .hbm, ⟨41, _⟩ => ⟨S8x256x1024, .f32⟩
  | .hbm, ⟨42, _⟩ => ⟨S1x1024x2048, .f32⟩
  | .hbm, ⟨43, _⟩ => ⟨S1024x2048, .f32⟩
  | .hbm, ⟨44, _⟩ => ⟨S8x256x2048, .f32⟩
  | .hbm, ⟨45, _⟩ => ⟨S1x8x256x2048, .f32⟩
  | .hbm, ⟨46, _⟩ => ⟨S1x8x256x2048, .f32⟩
  | .hbm, ⟨47, _⟩ => ⟨S2x8x256x2048, .f32⟩
  | .hbm, ⟨48, _⟩ => ⟨S2x8x256x1024, .f32⟩
  | .hbm, ⟨49, _⟩ => ⟨S2x8x256x1024, .bf16⟩
  | .hbm, ⟨50, _⟩ => ⟨S2x8x256x1024, .f32⟩
  | .hbm, ⟨51, _⟩ => ⟨S2x8x256x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== KernelO.lean ====
abbrev S8x8192x1024 : Shape := ⟨3, ![8, 8192, 1024]⟩
abbrev S1024 : Shape := ⟨1, ![1024]⟩
abbrev S1024x1480 : Shape := ⟨2, ![1024, 1480]⟩
abbrev S256 : Shape := ⟨1, ![256]⟩
abbrev S128 : Shape := ⟨1, ![128]⟩
abbrev S256x512 : Shape := ⟨2, ![256, 512]⟩
abbrev S8x64x128 : Shape := ⟨3, ![8, 64, 128]⟩
abbrev S64 : Shape := ⟨1, ![64]⟩
abbrev S512 : Shape := ⟨1, ![512]⟩
abbrev S4x128x128 : Shape := ⟨3, ![4, 128, 128]⟩
abbrev S4x128 : Shape := ⟨2, ![4, 128]⟩
abbrev S1024x384 : Shape := ⟨2, ![1024, 384]⟩
abbrev S1024x1024 : Shape := ⟨2, ![1024, 1024]⟩
abbrev S1024x64 : Shape := ⟨2, ![1024, 64]⟩
abbrev S_ : Shape := ⟨0, ![]⟩
abbrev S1024x1536 : Shape := ⟨2, ![1024, 1536]⟩
abbrev S1024x8 : Shape := ⟨2, ![1024, 8]⟩
abbrev S8x1024 : Shape := ⟨2, ![8, 1024]⟩
abbrev S16x1024 : Shape := ⟨2, ![16, 1024]⟩
abbrev S8x128x64 : Shape := ⟨3, ![8, 128, 64]⟩
abbrev S256x8x64 : Shape := ⟨3, ![256, 8, 64]⟩
abbrev S8x64x256 : Shape := ⟨3, ![8, 64, 256]⟩
abbrev S1x1024 : Shape := ⟨2, ![1, 1024]⟩
abbrev S1x256 : Shape := ⟨2, ![1, 256]⟩
abbrev S1x128 : Shape := ⟨2, ![1, 128]⟩
abbrev S1x64 : Shape := ⟨2, ![1, 64]⟩
abbrev S1x512 : Shape := ⟨2, ![1, 512]⟩
abbrev S128x4 : Shape := ⟨2, ![128, 4]⟩
abbrev S8x32x8x128x256 : Shape := ⟨5, ![8, 32, 8, 128, 256]⟩
abbrev S8x32x64x2048 : Shape := ⟨4, ![8, 32, 64, 2048]⟩
abbrev S8x8x8192 : Shape := ⟨3, ![8, 8, 8192]⟩
abbrev S8x8192x128 : Shape := ⟨3, ![8, 8192, 128]⟩
abbrev S8x16x144x512 : Shape := ⟨4, ![8, 16, 144, 512]⟩
abbrev S8x8192x64 : Shape := ⟨3, ![8, 8192, 64]⟩
abbrev S8x8192x512 : Shape := ⟨3, ![8, 8192, 512]⟩
abbrev S1x512x1024 : Shape := ⟨3, ![1, 512, 1024]⟩
abbrev S1x2x8x128x256 : Shape := ⟨5, ![1, 2, 8, 128, 256]⟩
abbrev S1x2x64x2048 : Shape := ⟨4, ![1, 2, 64, 2048]⟩
abbrev S1x8x512 : Shape := ⟨3, ![1, 8, 512]⟩
abbrev S1x512x128 : Shape := ⟨3, ![1, 512, 128]⟩
abbrev S1x1x144x512 : Shape := ⟨4, ![1, 1, 144, 512]⟩
abbrev S1x512x64 : Shape := ⟨3, ![1, 512, 64]⟩
abbrev S1x512x512 : Shape := ⟨3, ![1, 512, 512]⟩
abbrev S512x1024 : Shape := ⟨2, ![512, 1024]⟩
abbrev S512x1 : Shape := ⟨2, ![512, 1]⟩
abbrev S1024x256 : Shape := ⟨2, ![1024, 256]⟩
abbrev S512x256 : Shape := ⟨2, ![512, 256]⟩
abbrev S1024x128 : Shape := ⟨2, ![1024, 128]⟩
abbrev S512x128 : Shape := ⟨2, ![512, 128]⟩
abbrev S128x512 : Shape := ⟨2, ![128, 512]⟩
abbrev S1x1x128x512 : Shape := ⟨4, ![1, 1, 128, 512]⟩
abbrev S16x512 : Shape := ⟨2, ![16, 512]⟩
abbrev S1x1x16x512 : Shape := ⟨4, ![1, 1, 16, 512]⟩
abbrev S1024x512 : Shape := ⟨2, ![1024, 512]⟩
abbrev S512x512 : Shape := ⟨2, ![512, 512]⟩
abbrev S512x64 : Shape := ⟨2, ![512, 64]⟩
abbrev S8x512 : Shape := ⟨2, ![8, 512]⟩
abbrev S1x128x64 : Shape := ⟨3, ![1, 128, 64]⟩
abbrev S128x64 : Shape := ⟨2, ![128, 64]⟩
abbrev S1x64x256 : Shape := ⟨3, ![1, 64, 256]⟩
abbrev S64x256 : Shape := ⟨2, ![64, 256]⟩
abbrev S64x512 : Shape := ⟨2, ![64, 512]⟩
abbrev S128x256 : Shape := ⟨2, ![128, 256]⟩
abbrev S1x1x1x128x256 : Shape := ⟨5, ![1, 1, 1, 128, 256]⟩
abbrev S1x1x64x256 : Shape := ⟨4, ![1, 1, 64, 256]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 48
  | .vmem => 30
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x1480, .f32⟩
  | .hbm, ⟨3, _⟩ => ⟨S256, .f32⟩
  | .hbm, ⟨4, _⟩ => ⟨S128, .f32⟩
  | .hbm, ⟨5, _⟩ => ⟨S256x512, .f32⟩
  | .hbm, ⟨6, _⟩ => ⟨S8x64x128, .f32⟩
  | .hbm, ⟨7, _⟩ => ⟨S256x512, .f32⟩
  | .hbm, ⟨8, _⟩ => ⟨S64, .f32⟩
  | .hbm, ⟨9, _⟩ => ⟨S64, .f32⟩
  | .hbm, ⟨10, _⟩ => ⟨S512, .f32⟩
  | .hbm, ⟨11, _⟩ => ⟨S512, .f32⟩
  | .hbm, ⟨12, _⟩ => ⟨S4x128x128, .f32⟩
  | .hbm, ⟨13, _⟩ => ⟨S4x128, .f32⟩
  | .hbm, ⟨14, _⟩ => ⟨S1024x384, .f32⟩
  | .hbm, ⟨15, _⟩ => ⟨S1024x1024, .f32⟩
  | .hbm, ⟨16, _⟩ => ⟨S1024x64, .f32⟩
  | .hbm, ⟨17, _⟩ => ⟨S_, .f32⟩
  | .hbm, ⟨18, _⟩ => ⟨S1024x64, .f32⟩
  | .hbm, ⟨19, _⟩ => ⟨S1024x1536, .f32⟩
  | .hbm, ⟨20, _⟩ => ⟨S1024x1536, .bf16⟩
  | .hbm, ⟨21, _⟩ => ⟨S1024x8, .f32⟩
  | .hbm, ⟨22, _⟩ => ⟨S8x1024, .f32⟩
  | .hbm, ⟨23, _⟩ => ⟨S_, .f32⟩
  | .hbm, ⟨24, _⟩ => ⟨S8x1024, .f32⟩
  | .hbm, ⟨25, _⟩ => ⟨S16x1024, .f32⟩
  | .hbm, ⟨26, _⟩ => ⟨S16x1024, .bf16⟩
  | .hbm, ⟨27, _⟩ => ⟨S8x128x64, .f32⟩
  | .hbm, ⟨28, _⟩ => ⟨S8x128x64, .bf16⟩
  | .hbm, ⟨29, _⟩ => ⟨S256x8x64, .f32⟩
  | .hbm, ⟨30, _⟩ => ⟨S8x64x256, .f32⟩
  | .hbm, ⟨31, _⟩ => ⟨S8x64x256, .bf16⟩
  | .hbm, ⟨32, _⟩ => ⟨S1x1024, .f32⟩
  | .hbm, ⟨33, _⟩ => ⟨S1x256, .f32⟩
  | .hbm, ⟨34, _⟩ => ⟨S1x128, .f32⟩
  | .hbm, ⟨35, _⟩ => ⟨S256x512, .bf16⟩
  | .hbm, ⟨36, _⟩ => ⟨S1x64, .f32⟩
  | .hbm, ⟨37, _⟩ => ⟨S1x64, .f32⟩
  | .hbm, ⟨38, _⟩ => ⟨S1x512, .f32⟩
  | .hbm, ⟨39, _⟩ => ⟨S1x512, .f32⟩
  | .hbm, ⟨40, _⟩ => ⟨S128x4, .f32⟩
  | .hbm, ⟨41, _⟩ => ⟨S8x32x8x128x256, .bf16⟩
  | .hbm, ⟨42, _⟩ => ⟨S8x32x64x2048, .bf16⟩
  | .hbm, ⟨43, _⟩ => ⟨S8x8x8192, .f32⟩
  | .hbm, ⟨44, _⟩ => ⟨S8x8192x128, .bf16⟩
  | .hbm, ⟨45, _⟩ => ⟨S8x16x144x512, .bf16⟩
  | .hbm, ⟨46, _⟩ => ⟨S8x8192x64, .bf16⟩
  | .hbm, ⟨47, _⟩ => ⟨S8x8192x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1536, .bf16⟩
  | .local _ .vmem, ⟨4, _⟩ => ⟨S16x1024, .bf16⟩
  | .local _ .vmem, ⟨5, _⟩ => ⟨S1x256, .f32⟩
  | .local _ .vmem, ⟨6, _⟩ => ⟨S1x128, .f32⟩
  | .local _ .vmem, ⟨7, _⟩ => ⟨S256x512, .bf16⟩
  | .local _ .vmem, ⟨8, _⟩ => ⟨S8x128x64, .bf16⟩
  | .local _ .vmem, ⟨9, _⟩ => ⟨S8x64x256, .bf16⟩
  | .local _ .vmem, ⟨10, _⟩ => ⟨S1x64, .f32⟩
  | .local _ .vmem, ⟨11, _⟩ => ⟨S1x64, .f32⟩
  | .local _ .vmem, ⟨12, _⟩ => ⟨S1x512, .f32⟩
  | .local _ .vmem, ⟨13, _⟩ => ⟨S1x512, .f32⟩
  | .local _ .vmem, ⟨14, _⟩ => ⟨S4x128x128, .f32⟩
  | .local _ .vmem, ⟨15, _⟩ => ⟨S128x4, .f32⟩
  | .local _ .vmem, ⟨16, _⟩ => ⟨S1x2x8x128x256, .bf16⟩
  | .local _ .vmem, ⟨17, _⟩ => ⟨S1x2x8x128x256, .bf16⟩
  | .local _ .vmem, ⟨18, _⟩ => ⟨S1x2x64x2048, .bf16⟩
  | .local _ .vmem, ⟨19, _⟩ => ⟨S1x2x64x2048, .bf16⟩
  | .local _ .vmem, ⟨20, _⟩ => ⟨S1x8x512, .f32⟩
  | .local _ .vmem, ⟨21, _⟩ => ⟨S1x8x512, .f32⟩
  | .local _ .vmem, ⟨22, _⟩ => ⟨S1x512x128, .bf16⟩
  | .local _ .vmem, ⟨23, _⟩ => ⟨S1x512x128, .bf16⟩
  | .local _ .vmem, ⟨24, _⟩ => ⟨S1x1x144x512, .bf16⟩
  | .local _ .vmem, ⟨25, _⟩ => ⟨S1x1x144x512, .bf16⟩
  | .local _ .vmem, ⟨26, _⟩ => ⟨S1x512x64, .bf16⟩
  | .local _ .vmem, ⟨27, _⟩ => ⟨S1x512x64, .bf16⟩
  | .local _ .vmem, ⟨28, _⟩ => ⟨S1x512x512, .bf16⟩
  | .local _ .vmem, ⟨29, _⟩ => ⟨S1x512x512, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev main_v25_2 : Ref sig .tc := ⟨.hbm, 43, rfl⟩
abbrev main_v25_3 : Ref sig .tc := ⟨.hbm, 44, rfl⟩
abbrev main_v25_4 : Ref sig .tc := ⟨.hbm, 45, rfl⟩
abbrev main_v25_5 : Ref sig .tc := ⟨.hbm, 46, rfl⟩
abbrev main_v25_6 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x64x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x4 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x2x8x128x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x64x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x144x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x64 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== ReferenceOIdeal.lean ====
abbrev S8x8192x1024 : Shape := ⟨3, ![8, 8192, 1024]⟩
abbrev S1024 : Shape := ⟨1, ![1024]⟩
abbrev S1024x1480 : Shape := ⟨2, ![1024, 1480]⟩
abbrev S256 : Shape := ⟨1, ![256]⟩
abbrev S128 : Shape := ⟨1, ![128]⟩
abbrev S256x512 : Shape := ⟨2, ![256, 512]⟩
abbrev S8x64x128 : Shape := ⟨3, ![8, 64, 128]⟩
abbrev S64 : Shape := ⟨1, ![64]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x1480 : Shape := ⟨3, ![8, 8192, 1480]⟩
abbrev S8x8192x256 : Shape := ⟨3, ![8, 8192, 256]⟩
abbrev S1x1x256 : Shape := ⟨3, ![1, 1, 256]⟩
abbrev S8x8192x128 : Shape := ⟨3, ![8, 8192, 128]⟩
abbrev S1x1x128 : Shape := ⟨3, ![1, 1, 128]⟩
abbrev S8x8192x64 : Shape := ⟨3, ![8, 8192, 64]⟩
abbrev S1x1x64 : Shape := ⟨3, ![1, 1, 64]⟩
abbrev S8x8192x8 : Shape := ⟨3, ![8, 8192, 8]⟩
abbrev S8x8192x512 : Shape := ⟨3, ![8, 8192, 512]⟩
abbrev S8x8192x8x64 : Shape := ⟨4, ![8, 8192, 8, 64]⟩
abbrev S8x128x8x8192 : Shape := ⟨4, ![8, 128, 8, 8192]⟩
abbrev S8x8192x8x128 : Shape := ⟨4, ![8, 8192, 8, 128]⟩
abbrev S1x1x512 : Shape := ⟨3, ![1, 1, 512]⟩
abbrev S8x64x128x4x128 : Shape := ⟨5, ![8, 64, 128, 4, 128]⟩
abbrev S128x128 : Shape := ⟨2, ![128, 128]⟩
abbrev S1x128x128 : Shape := ⟨3, ![1, 128, 128]⟩
abbrev S4x8x64x128x128 : Shape := ⟨5, ![4, 8, 64, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S8x32x256x8x128 : Shape := ⟨5, ![8, 32, 256, 8, 128]⟩
abbrev S8x32x8x128x256 : Shape := ⟨5, ![8, 32, 8, 128, 256]⟩
abbrev S8x32x256x8x64 : Shape := ⟨5, ![8, 32, 256, 8, 64]⟩
abbrev S8x32x64x8x256 : Shape := ⟨5, ![8, 32, 64, 8, 256]⟩
abbrev S8x32x64x2048 : Shape := ⟨4, ![8, 32, 64, 2048]⟩
abbrev S8x16x512x128 : Shape := ⟨4, ![8, 16, 512, 128]⟩
abbrev S8x16x128x512 : Shape := ⟨4, ![8, 16, 128, 512]⟩
abbrev S8x16x16x512 : Shape := ⟨4, ![8, 16, 16, 512]⟩
abbrev S8x16x144x512 : Shape := ⟨4, ![8, 16, 144, 512]⟩
abbrev S8x8x8192 : Shape := ⟨3, ![8, 8, 8192]⟩

abbrev nBuf : Space → Nat
  | .hbm => 204
  | .vmem => 0
  | .smem => 0
  | _ => 0

abbrev hbmTy0_0 (i : Nat) : BufTy := match i % 128 with
  | 0 => ⟨S8x8192x1024, .f32⟩
  | 1 => ⟨S1024, .f32⟩
  | 2 => ⟨S1024x1480, .f32⟩
  | 3 => ⟨S256, .f32⟩
  | 4 => ⟨S128, .f32⟩
  | 5 => ⟨S256x512, .f32⟩
  | 6 => ⟨S8x64x128, .f32⟩
  | 7 => ⟨S256x512, .f32⟩
  | 8 => ⟨S64, .f32⟩
  | 9 => ⟨S64, .f32⟩
  | 10 => ⟨S512, .f32⟩
  | 11 => ⟨S512, .f32⟩
  | 12 => ⟨S4x128x128, .f32⟩
  | 13 => ⟨S4x128, .f32⟩
  | 14 => ⟨S8x8192x1024, .f32⟩
  | 15 => ⟨S_, .f32⟩
  | 16 => ⟨S8x8192, .f32⟩
  | 17 => ⟨S8x8192x1, .f32⟩
  | 18 => ⟨S_, .f32⟩
  | 19 => ⟨S8x8192x1, .f32⟩
  | 20 => ⟨S8x8192x1, .f32⟩
  | 21 => ⟨S_, .f32⟩
  | 22 => ⟨S8x8192x1, .f32⟩
  | 23 => ⟨S8x8192x1, .f32⟩
  | 24 => ⟨S8x8192x1, .f32⟩
  | 25 => ⟨S8x8192x1024, .f32⟩
  | 26 => ⟨S8x8192x1024, .f32⟩
  | 27 => ⟨S1x1x1024, .f32⟩
  | 28 => ⟨S8x8192x1024, .f32⟩
  | 29 => ⟨S8x8192x1024, .f32⟩
  | 30 => ⟨S8x8192x1480, .f32⟩
  | 31 => ⟨S8x8192x256, .f32⟩
  | 32 => ⟨S8x8192x256, .f32⟩
  | 33 => ⟨S_, .f32⟩
  | 34 => ⟨S8x8192, .f32⟩
  | 35 => ⟨S8x8192x1, .f32⟩
  | 36 => ⟨S_, .f32⟩
  | 37 => ⟨S8x8192x1, .f32⟩
  | 38 => ⟨S8x8192x1, .f32⟩
  | 39 => ⟨S_, .f32⟩
  | 40 => ⟨S8x8192x1, .f32⟩
  | 41 => ⟨S8x8192x1, .f32⟩
  | 42 => ⟨S8x8192x1, .f32⟩
  | 43 => ⟨S8x8192x256, .f32⟩
  | 44 => ⟨S8x8192x256, .f32⟩
  | 45 => ⟨S1x1x256, .f32⟩
  | 46 => ⟨S8x8192x256, .f32⟩
  | 47 => ⟨S8x8192x256, .f32⟩
  | 48 => ⟨S8x8192x128, .f32⟩
  | 49 => ⟨S8x8192x128, .f32⟩
  | 50 => ⟨S_, .f32⟩
  | 51 => ⟨S8x8192, .f32⟩
  | 52 => ⟨S8x8192x1, .f32⟩
  | 53 => ⟨S_, .f32⟩
  | 54 => ⟨S8x8192x1, .f32⟩
  | 55 => ⟨S8x8192x1, .f32⟩
  | 56 => ⟨S_, .f32⟩
  | 57 => ⟨S8x8192x1, .f32⟩
  | 58 => ⟨S8x8192x1, .f32⟩
  | 59 => ⟨S8x8192x1, .f32⟩
  | 60 => ⟨S8x8192x128, .f32⟩
  | 61 => ⟨S8x8192x128, .f32⟩
  | 62 => ⟨S1x1x128, .f32⟩
  | 63 => ⟨S8x8192x128, .f32⟩
  | 64 => ⟨S8x8192x128, .f32⟩
  | 65 => ⟨S8x8192x64, .f32⟩
  | 66 => ⟨S_, .f32⟩
  | 67 => ⟨S8x8192, .f32⟩
  | 68 => ⟨S8x8192x1, .f32⟩
  | 69 => ⟨S_, .f32⟩
  | 70 => ⟨S8x8192x1, .f32⟩
  | 71 => ⟨S8x8192x1, .f32⟩
  | 72 => ⟨S8x8192x64, .f32⟩
  | 73 => ⟨S8x8192x64, .f32⟩
  | 74 => ⟨S8x8192x64, .f32⟩
  | 75 => ⟨S_, .f32⟩
  | 76 => ⟨S8x8192, .f32⟩
  | 77 => ⟨S8x8192x1, .f32⟩
  | 78 => ⟨S_, .f32⟩
  | 79 => ⟨S8x8192x1, .f32⟩
  | 80 => ⟨S8x8192x1, .f32⟩
  | 81 => ⟨S8x8192x64, .f32⟩
  | 82 => ⟨S8x8192x64, .f32⟩
  | 83 => ⟨S_, .f32⟩
  | 84 => ⟨S8x8192x1, .f32⟩
  | 85 => ⟨S8x8192x1, .f32⟩
  | 86 => ⟨S8x8192x1, .f32⟩
  | 87 => ⟨S8x8192x64, .f32⟩
  | 88 => ⟨S8x8192x64, .f32⟩
  | 89 => ⟨S1x1x64, .f32⟩
  | 90 => ⟨S8x8192x64, .f32⟩
  | 91 => ⟨S8x8192x64, .f32⟩
  | 92 => ⟨S1x1x64, .f32⟩
  | 93 => ⟨S8x8192x64, .f32⟩
  | 94 => ⟨S8x8192x64, .f32⟩
  | 95 => ⟨S8x8192x8, .f32⟩
  | 96 => ⟨S_, .f32⟩
  | 97 => ⟨S8x8192x8, .f32⟩
  | 98 => ⟨S8x8192x8, .f32⟩
  | 99 => ⟨S8x8192x512, .f32⟩
  | 100 => ⟨S8x8192x8x64, .f32⟩
  | 101 => ⟨S8x128x8x8192, .f32⟩
  | 102 => ⟨S8x8192x8x128, .f32⟩
  | 103 => ⟨S_, .f32⟩
  | 104 => ⟨S8x8192x8x128, .f32⟩
  | 105 => ⟨S8x8192x8x128, .f32⟩
  | 106 => ⟨S8x8192x512, .f32⟩
  | 107 => ⟨S8x8192x8x64, .f32⟩
  | 108 => ⟨S_, .f32⟩
  | 109 => ⟨S8x8192x8x64, .f32⟩
  | 110 => ⟨S8x8192x8x64, .f32⟩
  | 111 => ⟨S8x8192x512, .f32⟩
  | 112 => ⟨S_, .f32⟩
  | 113 => ⟨S8x8192x512, .f32⟩
  | 114 => ⟨S8x8192x512, .f32⟩
  | 115 => ⟨S8x8192x512, .f32⟩
  | 116 => ⟨S_, .f32⟩
  | 117 => ⟨S8x8192x512, .f32⟩
  | 118 => ⟨S8x8192x512, .f32⟩
  | 119 => ⟨S8x8192x512, .f32⟩
  | 120 => ⟨S8x8192x512, .f32⟩
  | 121 => ⟨S8x8192x512, .f32⟩
  | 122 => ⟨S_, .f32⟩
  | 123 => ⟨S8x8192x512, .f32⟩
  | 124 => ⟨S8x8192x512, .f32⟩
  | 125 => ⟨S8x8192x512, .f32⟩
  | 126 => ⟨S_, .f32⟩
  | 127 => ⟨S8x8192x512, .f32⟩
  | _ => ⟨S8x8192x1024, .f32⟩

abbrev hbmTy0_1 (i : Nat) : BufTy := match i % 128 with
  | 0 => ⟨S8x8192x512, .f32⟩
  | 1 => ⟨S8x8192x512, .f32⟩
  | 2 => ⟨S8x8192x512, .f32⟩
  | 3 => ⟨S_, .f32⟩
  | 4 => ⟨S8x8192, .f32⟩
  | 5 => ⟨S8x8192x1, .f32⟩
  | 6 => ⟨S_, .f32⟩
  | 7 => ⟨S8x8192x1, .f32⟩
  | 8 => ⟨S8x8192x1, .f32⟩
  | 9 => ⟨S8x8192x512, .f32⟩
  | 10 => ⟨S8x8192x512, .f32⟩
  | 11 => ⟨S8x8192x512, .f32⟩
  | 12 => ⟨S_, .f32⟩
  | 13 => ⟨S8x8192, .f32⟩
  | 14 => ⟨S8x8192x1, .f32⟩
  | 15 => ⟨S_, .f32⟩
  | 16 => ⟨S8x8192x1, .f32⟩
  | 17 => ⟨S8x8192x1, .f32⟩
  | 18 => ⟨S8x8192x512, .f32⟩
  | 19 => ⟨S8x8192x512, .f32⟩
  | 20 => ⟨S_, .f32⟩
  | 21 => ⟨S8x8192x1, .f32⟩
  | 22 => ⟨S8x8192x1, .f32⟩
  | 23 => ⟨S8x8192x1, .f32⟩
  | 24 => ⟨S8x8192x512, .f32⟩
  | 25 => ⟨S8x8192x512, .f32⟩
  | 26 => ⟨S1x1x512, .f32⟩
  | 27 => ⟨S8x8192x512, .f32⟩
  | 28 => ⟨S8x8192x512, .f32⟩
  | 29 => ⟨S1x1x512, .f32⟩
  | 30 => ⟨S8x8192x512, .f32⟩
  | 31 => ⟨S8x8192x512, .f32⟩
  | 32 => ⟨S8x64x128x4x128, .f32⟩
  | 33 => ⟨S_, .f32⟩
  | 34 => ⟨S128x128, .f32⟩
  | 35 => ⟨S128x128, .i32⟩
  | 36 => ⟨S_, .i32⟩
  | 37 => ⟨S128x128, .i32⟩
  | 38 => ⟨S128x128, .i32⟩
  | 39 => ⟨S128x128, .i32⟩
  | 40 => ⟨S128x128, .i1⟩
  | 41 => ⟨S_, .f32⟩
  | 42 => ⟨S128x128, .f32⟩
  | 43 => ⟨S128x128, .f32⟩
  | 44 => ⟨S1x128x128, .f32⟩
  | 45 => ⟨S4x128x128, .f32⟩
  | 46 => ⟨S4x128x128, .f32⟩
  | 47 => ⟨S4x8x64x128x128, .f32⟩
  | 48 => ⟨S8x64x128x4x128, .f32⟩
  | 49 => ⟨S128x4, .f32⟩
  | 50 => ⟨S128x4x1, .f32⟩
  | 51 => ⟨S1x1x128x4x1, .f32⟩
  | 52 => ⟨S8x64x128x4x128, .f32⟩
  | 53 => ⟨S8x64x128x4x128, .f32⟩
  | 54 => ⟨S8x8192x512, .f32⟩
  | 55 => ⟨S8x8192x512, .f32⟩
  | 56 => ⟨S_, .f32⟩
  | 57 => ⟨S8x8192x8x128, .f32⟩
  | 58 => ⟨S8x8192x8x128, .f32⟩
  | 59 => ⟨S8x32x256x8x128, .f32⟩
  | 60 => ⟨S8x32x8x128x256, .f32⟩
  | 61 => ⟨S8x32x256x8x64, .f32⟩
  | 62 => ⟨S8x32x64x8x256, .f32⟩
  | 63 => ⟨S8x32x64x2048, .f32⟩
  | 64 => ⟨S8x16x512x128, .f32⟩
  | 65 => ⟨S8x16x128x512, .f32⟩
  | 66 => ⟨S_, .f32⟩
  | 67 => ⟨S8x16x16x512, .f32⟩
  | 68 => ⟨S8x16x144x512, .f32⟩
  | 69 => ⟨S8x32x8x128x256, .bf16⟩
  | 70 => ⟨S8x32x64x2048, .bf16⟩
  | 71 => ⟨S8x8x8192, .f32⟩
  | 72 => ⟨S8x8192x128, .bf16⟩
  | 73 => ⟨S8x16x144x512, .bf16⟩
  | 74 => ⟨S8x8192x64, .bf16⟩
  | 75 => ⟨S8x8192x512, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_14 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_17 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_18 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_19 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_20 : Ref sig .tc := ⟨.hbm, 131, rfl⟩
abbrev main_v96 : Ref sig .tc := ⟨.hbm, 132, rfl⟩
abbrev main_v97 : Ref sig .tc := ⟨.hbm, 133, rfl⟩
abbrev main_cst_21 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_22 : Ref sig .tc := ⟨.hbm, 140, rfl⟩
abbrev main_v103 : Ref sig .tc := ⟨.hbm, 141, rfl⟩
abbrev main_v104 : Ref sig .tc := ⟨.hbm, 142, rfl⟩
abbrev main_cst_23 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_24 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_25 : Ref sig .tc := ⟨.hbm, 161, rfl⟩
abbrev main_v121 : Ref sig .tc := ⟨.hbm, 162, rfl⟩
abbrev main_call0_v0 : Ref sig .tc := ⟨.hbm, 163, rfl⟩
abbrev main_call0_c : Ref sig .tc := ⟨.hbm, 164, rfl⟩
abbrev main_call0_v1 : Ref sig .tc := ⟨.hbm, 165, rfl⟩
abbrev main_call0_v2 : Ref sig .tc := ⟨.hbm, 166, rfl⟩
abbrev main_call0_v3 : Ref sig .tc := ⟨.hbm, 167, rfl⟩
abbrev main_call0_v4 : Ref sig .tc := ⟨.hbm, 168, rfl⟩
abbrev main_call0_cst : Ref sig .tc := ⟨.hbm, 169, rfl⟩
abbrev main_call0_v5 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_cst_26 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_cst_27 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩

abbrev nD : Nat := 1
abbrev τ : Topo := Topo.v7x

variable {F : FTy → Type} [FloatOps F]
-- ==== Proof.Row.lean ====
/-
  One token's row of the layer's second half, as plain functions over the extended reals: the residual with the mixers'
  output projection, the rms norm, the four heads of attention to the memory, the gated feed-forward part. Nothing here
  names a program.
-/
module

public import Idealize.ShloMosaic.PureOps.Ideal
public import Mathlib.Data.EReal.Operations
public import Mathlib.Data.EReal.Inv

@[expose] public section

noncomputable section

namespace Cert.Row

open Idealize.ShloMosaic

/-- The float word of −∞ reads as the bottom of the extended reals. -/
theorem ofBits_neg_inf : Ideal.ofBits .f32 0xFF800000#32 = (⊥ : EReal) := by
  simp [Ideal.ofBits, Ideal.ieee]

/-- The rms norm of a row, entry `n`, with gain `g`. -/
def rms (x g : Fin 1024 → EReal) (n : Fin 1024) : EReal :=
  x n * Ideal.rsqrt (Ideal.div (∑ k, x k * x k) (Ideal.ofBits .f32 0x44800000#32) + Ideal.ofBits .f32 0x358637BD#32) * g n

/-- The residual row after the mixers' output projection: the two mixers' outputs side by side, times `w`. -/
def mix (x : Fin 1024 → EReal) (oc od : Fin 512 → EReal) (w : Fin 1024 → Fin 1024 → EReal) (n : Fin 1024) : EReal :=
  x n + ((∑ k : Fin 512, oc k * w ⟨k.val, by omega⟩ n) + ∑ k : Fin 512, od k * w ⟨512 + k.val, by omega⟩ n)

/-- A row times a matrix. -/
def lin {a b : Nat} (x : Fin a → EReal) (w : Fin a → Fin b → EReal) (n : Fin b) : EReal := ∑ k, x k * w k n

/-- Column `d` of head `h` among 1024 columns. -/
def col (h : Fin 4) (d : Fin 256) : Fin 1024 := ⟨h.val * 256 + d.val, by omega⟩

/-- The score of head `h` against memory slot `m`. -/
def score (q : Fin 1024 → EReal) (k : Fin 256 → Fin 1024 → EReal) (h : Fin 4) (m : Fin 256) : EReal :=
  (∑ d, q (col h d) * k m (col h d)) * Ideal.ofBits .f32 0x3D800000#32

/-- The greatest of a head's scores, from −∞. -/
def top (sc : Fin 256 → EReal) : EReal := Finset.univ.fold max (Ideal.ofBits .f32 0xFF800000#32) sc

/-- The unnormalised weight of slot `m`. -/
def wgt (sc : Fin 256 → EReal) (m : Fin 256) : EReal := Ideal.exp (sc m - top sc)

/-- One head's output: the weighted sum, divided once at the end. -/
def attend (sc v : Fin 256 → EReal) : EReal := Ideal.div (∑ m, wgt sc m * v m) (∑ m, wgt sc m)

/-- One head's output with the weights divided first, as a softmax is written; its maximum is taken once more with −∞. -/
def attend' (sc v : Fin 256 → EReal) : EReal :=
  ∑ m, v m * Ideal.div (Ideal.exp (sc m - max (Ideal.ofBits .f32 0xFF800000#32) (top sc)))
    (∑ m', Ideal.exp (sc m' - max (Ideal.ofBits .f32 0xFF800000#32) (top sc)))

/-- The feed-forward part's hidden entry `j`: the gate through x·logistic(x), times the other half. -/
def hid (gu : Fin 5632 → EReal) (j : Fin 2816) : EReal :=
  gu ⟨j.val, by omega⟩ * Ideal.logistic (gu ⟨j.val, by omega⟩) * gu ⟨2816 + j.val, by omega⟩

/-- The whole second half of the layer on one row. -/
def heads (q : Fin 1024 → EReal) (k v : Fin 256 → Fin 1024 → EReal) (n : Fin 1024) : EReal :=
  attend (score q k ⟨n.val / 256, by omega⟩) (fun m => v m n)

/-- Cross-attention with its residual. -/
def xattn (x ga : Fin 1024 → EReal) (wq wo : Fin 1024 → Fin 1024 → EReal) (k v : Fin 256 → Fin 1024 → EReal)
    (n : Fin 1024) : EReal :=
  x n + lin (heads (lin (rms x ga) wq) k v) wo n

/-- The feed-forward part with its residual. -/
def ffn (x gf : Fin 1024 → EReal) (w13 : Fin 1024 → Fin 5632 → EReal) (w2 : Fin 2816 → Fin 1024 → EReal)
    (n : Fin 1024) : EReal :=
  x n + lin (hid (lin (rms x gf) w13)) w2 n

/-! ## Finite rows -/

/-- An extended real that is a real number. -/
def Fin' (x : EReal) : Prop := ∃ r : ℝ, x = (r : EReal)

/-- A sum of two reals is a real. -/
theorem Fin'.add {x y : EReal} (hx : Fin' x) (hy : Fin' y) : Fin' (x + y) := by
  obtain ⟨a, rfl⟩ := hx; obtain ⟨b, rfl⟩ := hy; exact ⟨a + b, (EReal.coe_add a b).symm⟩

/-- A product of two reals is a real. -/
theorem Fin'.mul {x y : EReal} (hx : Fin' x) (hy : Fin' y) : Fin' (x * y) := by
  obtain ⟨a, rfl⟩ := hx; obtain ⟨b, rfl⟩ := hy; exact ⟨a * b, (EReal.coe_mul a b).symm⟩

/-- A finite sum of reals is a real. -/
theorem Fin'.sum {ι : Type} (s : Finset ι) {f : ι → EReal} (h : ∀ i, Fin' (f i)) : Fin' (∑ i ∈ s, f i) := by
  classical
  induction s using Finset.induction_on with
  | empty => exact ⟨0, by simp⟩
  | insert a s ha ih => rw [Finset.sum_insert ha]; exact (h a).add ih

/-- The sum of reals, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A matrix product of finite entries is finite. -/
theorem Fin'.lin {a b : Nat} {x : Fin a → EReal} {w : Fin a → Fin b → EReal} (hx : ∀ k, Fin' (x k))
    (hw : ∀ k n, Fin' (w k n)) (n : Fin b) : Fin' (lin x w n) := Fin'.sum _ fun k => (hx k).mul (hw k n)

/-- The mixed row is real when its parts are. -/
theorem Fin'.mix {x : Fin 1024 → EReal} {oc od : Fin 512 → EReal} {w : Fin 1024 → Fin 1024 → EReal}
    (hx : ∀ k, Fin' (x k)) (hc : ∀ k, Fin' (oc k)) (hd : ∀ k, Fin' (od k)) (hw : ∀ k n, Fin' (w k n)) (n : Fin 1024) :
    Fin' (mix x oc od w n) :=
  (hx n).add ((Fin'.sum _ fun k => (hc k).mul (hw _ n)).add (Fin'.sum _ fun k => (hd k).mul (hw _ n)))

/-- The reciprocal square root of a positive real is a real. -/
theorem Fin'.rsqrt {r : ℝ} (h : 0 < r) : Fin' (Ideal.rsqrt (r : EReal)) := by
  refine ⟨(Real.sqrt r)⁻¹, ?_⟩
  show (if r < 0 then ⊥ else if r = 0 then ⊤ else (((Real.sqrt r)⁻¹ : ℝ) : EReal)) = _
  rw [if_neg (not_lt.mpr h.le), if_neg h.ne']

/-- The word of 1024. -/
theorem ofBits_1024 : Ideal.ofBits .f32 0x44800000#32 = ((1024 : ℝ) : EReal) := by
  simp [Ideal.ofBits, Ideal.ieee]; rw [← EReal.coe_mul]; norm_num

/-- The word of the norms' 1e-6, a positive real. -/
theorem ofBits_eps : ∃ e : ℝ, 0 < e ∧ Ideal.ofBits .f32 0x358637BD#32 = (e : EReal) := by
  refine ⟨_, ?_, by simp [Ideal.ofBits, Ideal.ieee]; rfl⟩
  positivity

/-- The word of 1/16, a real. -/
theorem ofBits_sixteenth : Fin' (Ideal.ofBits .f32 0x3D800000#32) := by
  exact ⟨_, by simp [Ideal.ofBits, Ideal.ieee]; rfl⟩

/-- The rms norm of a finite row with a finite gain is finite: the mean square is at least 0 and the 1e-6 added keeps the root
    away from 0. -/
theorem Fin'.rms {x g : Fin 1024 → EReal} (hx : ∀ k, Fin' (x k)) (hg : ∀ k, Fin' (g k)) (n : Fin 1024) :
    Fin' (rms x g n) := by
  refine ((hx n).mul ?_).mul (hg n)
  choose r hr using hx
  obtain ⟨e, he, hee⟩ := ofBits_eps
  have hs : (∑ k, x k * x k) = ((∑ k, r k * r k : ℝ) : EReal) := by
    rw [coe_sum]; exact Finset.sum_congr rfl fun k _ => by rw [hr, EReal.coe_mul]
  have hn : 0 ≤ ∑ k, r k * r k := Finset.sum_nonneg fun k _ => mul_self_nonneg _
  have hd : Ideal.div (∑ k, x k * x k) (Ideal.ofBits .f32 0x44800000#32) + Ideal.ofBits .f32 0x358637BD#32
      = (((∑ k, r k * r k) * (1024 : ℝ)⁻¹ + e : ℝ) : EReal) := by
    rw [hs, ofBits_1024, hee, Ideal.div, if_neg (by norm_num), ← EReal.coe_inv, ← EReal.coe_mul, ← EReal.coe_add]
  rw [hd]
  exact Fin'.rsqrt (by positivity)

/-! ## The softmax, divided before or after the sum -/

/-- The greatest of finitely many reals, from −∞, is one of them. -/
theorem top_mem {sc : Fin 256 → EReal} (h : ∀ m, Fin' (sc m)) : (∀ m, sc m ≤ top sc) ∧ ∃ m, top sc = sc m := by
  have hle : ∀ m, sc m ≤ top sc := fun m => (Finset.le_fold_max _).mpr (.inr ⟨m, Finset.mem_univ _, le_rfl⟩)
  refine ⟨hle, ?_⟩
  have := (Finset.le_fold_max (s := Finset.univ) (f := sc) (b := Ideal.ofBits .f32 0xFF800000#32) (top sc)).mp le_rfl
  rcases this with h0 | ⟨m, -, hm⟩
  · obtain ⟨r, hr⟩ := h 0
    have := (hle 0).trans h0
    rw [ofBits_neg_inf, hr] at this
    exact absurd (le_bot_iff.mp this) (EReal.coe_ne_bot r)
  · exact ⟨m, le_antisymm hm (hle m)⟩

/-- On finite scores each weight is a real, none is negative, and their sum is a positive real. -/
theorem wgt_sum {sc : Fin 256 → EReal} (h : ∀ m, Fin' (sc m)) : ∃ l : ℝ, 0 < l ∧ (∑ m, wgt sc m) = (l : EReal) := by
  obtain ⟨-, i, hi⟩ := top_mem h
  choose r hr using h
  have hw : ∀ m, wgt sc m = ((Real.exp (r m - r i) : ℝ) : EReal) := fun m => by
    unfold wgt; rw [hi, hr m, hr i, ← EReal.coe_sub]; rfl
  refine ⟨∑ m, Real.exp (r m - r i), Finset.sum_pos (fun m _ => Real.exp_pos _) ⟨0, Finset.mem_univ _⟩, ?_⟩
  rw [coe_sum]; exact Finset.sum_congr rfl fun m _ => hw m

/-- A nonnegative real factor moves into a sum of extended reals. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- On finite scores the head with its weights divided first is the head divided once at the end. -/
theorem attend'_eq {sc v : Fin 256 → EReal} (h : ∀ m, Fin' (sc m)) : attend' sc v = attend sc v := by
  obtain ⟨l, hl, hs⟩ := wgt_sum h
  unfold attend' attend
  rw [ofBits_neg_inf, max_eq_right bot_le]
  show (∑ m, v m * Ideal.div (wgt sc m) (∑ m', wgt sc m')) = _
  have hl0 : (l : EReal) ≠ 0 := by exact_mod_cast hl.ne'
  rw [hs, Ideal.div, if_neg hl0, ← EReal.coe_inv, sum_mul_coe _ _ (inv_nonneg.mpr hl.le)]
  refine Finset.sum_congr rfl fun m _ => ?_
  rw [Ideal.div, if_neg hl0, ← EReal.coe_inv, ← mul_assoc, mul_comm (v m)]

/-! ## The hidden sum in two halves -/

/-- A sum over 2816 as the sums over its two halves. -/
theorem sum_halves (f : Fin 2816 → EReal) :
    ∑ j, f j = (∑ j : Fin 1408, f ⟨j.val, by omega⟩) + ∑ j : Fin 1408, f ⟨1408 + j.val, by omega⟩ :=
  Fin.sum_univ_add (a := 1408) (b := 1408) f

/-- The feed-forward part with its hidden sum in two halves, each written out. -/
theorem ffn_halves (x gf : Fin 1024 → EReal) (w13 : Fin 1024 → Fin 5632 → EReal) (w2 : Fin 2816 → Fin 1024 → EReal) :
    ffn x gf w13 w2 = fun n => x n
      + ((∑ j : Fin 1408, (lin (rms x gf) w13 ⟨j.val, by omega⟩ * Ideal.logistic (lin (rms x gf) w13 ⟨j.val, by omega⟩)
            * lin (rms x gf) w13 ⟨2816 + j.val, by omega⟩) * w2 ⟨j.val, by omega⟩ n)
        + ∑ j : Fin 1408, (lin (rms x gf) w13 ⟨1408 + j.val, by omega⟩
            * Ideal.logistic (lin (rms x gf) w13 ⟨1408 + j.val, by omega⟩)
            * lin (rms x gf) w13 ⟨4224 + j.val, by omega⟩) * w2 ⟨1408 + j.val, by omega⟩ n) := by
  funext n
  have h4 : ∀ j : Fin 1408, (⟨2816 + (1408 + j.val), by omega⟩ : Fin 5632) = ⟨4224 + j.val, by omega⟩ := fun j =>
    Fin.ext (by show 2816 + (1408 + j.val) = 4224 + j.val; omega)
  show x n + ∑ j, hid (lin (rms x gf) w13) j * w2 j n = _
  rw [sum_halves]
  unfold hid
  simp only [h4]

end Cert.Row

end
-- ==== Proof.PreRead.lean ====
/-
  The precondition read back: the arrays that the attention scores are computed from hold real numbers.
-/
module

public import proofs.«01_k».proof.Pre_scores_finite
public import proofs.«01_k».proof.Proof.Row
public import Idealize.ShloMosaic.Lib.ReduceAll
public import Idealize.ShloMosaic.Lib.Decide
public import Idealize.ShloMosaic.Lib.Pointwise

@[expose] public section

set_option maxRecDepth 16384

noncomputable section

namespace Cert.PreRead

open Idealize.ShloMosaic Cert.Pre_scores_finite Cert.Row

/-- The side conditions of the predicate's operations hold. -/
instance facts : Cert.Pre_scores_finite.Facts where
  bcast_S_S8x8192x1024 := by decide
  reducesTo_S8x8192x1024_S_d0_1_2 := by decide
  h_S_ := by decide
  bitsLt_bf16_f32 := by decide
  bcast_S_S8x8192x512 := by decide
  reducesTo_S8x8192x512_S_d0_1_2 := by decide
  bcast_S_S1024x1024 := by decide
  reducesTo_S1024x1024_S_d0_1 := by decide
  bcast_S_S8x256x1024 := by decide
  reducesTo_S8x256x1024_S_d0_1_2 := by decide
  bcast_S_S1024 := by decide
  reducesTo_S1024_S_d0 := by decide

/-- There is one index of a scalar's shape. -/
instance : Subsingleton S_.Idx := ⟨fun _ _ => funext fun a => a.elim0⟩

/-- The float word of +∞ reads as the top of the extended reals. -/
theorem ofBits_inf : Ideal.ofBits .f32 0x7F800000#32 = (⊤ : EReal) := by
  simp [Ideal.ofBits, Ideal.ieee]

/-- What is below +∞ in absolute value is a real number. -/
theorem abs_lt {x : EReal} (h : Ideal.cmp .olt (max x (-x)) (Ideal.ofBits .f32 0x7F800000#32) = 1#1) : Fin' x := by
  rw [ofBits_inf] at h
  have h' : max x (-x) < ⊤ := by
    by_contra hc
    simp [Ideal.cmp, hc] at h
  induction x with
  | bot => simp at h'
  | top => simp at h'
  | coe r => exact ⟨r, rfl⟩

/-- One array's share of the predicate: all its entries are real numbers. -/
theorem part {s : Shape} {axes : List (Fin s.rank)} (v : FVec Ideal s .f32) (hb : S_.BroadcastsInDim s ![])
    (hr : s.ReducesTo axes S_) (hu : 0 < S_.numel) (j : S_.Idx)
    (e : Host.reduce IntOp.andi (cmpf .olt (Host.absf v) (broadcastInDim s ![] hb (constant S_ .f32 0x7F800000#32)))
      (constantI S_ 1 1#1) hr hu j = 1#1) (i : s.Idx) : Fin' (v i : EReal) :=
  abs_lt (Host.reduce_andi_all _ _ hr hu j e i)

/-- A conjunction of two one-bit words that is one has both of them one. -/
theorem split {a b : IVec S_ 1} {j : S_.Idx} (h : andi a b j = 1#1) : a j = 1#1 ∧ b j = 1#1 := IntOp.andi_eq_one.1 h

variable (a0 a1 : FVec Ideal S8x8192x512 .bf16) (a2 : FVec Ideal S1024x1024 .f32) (a3 : FVec Ideal S8x8192x1024 .f32)
  (a4 a5 : FVec Ideal S8x256x1024 .bf16) (a6 : FVec Ideal S1024 .f32) (a7 a8 : FVec Ideal S1024x1024 .f32)
  (a9 : FVec Ideal S1024 .f32) (a10 : FVec Ideal S1024x5632 .f32) (a11 : FVec Ideal S2816x1024 .f32)
  (a12 : FVec Ideal S1024 .f32)

/-- The predicate says of seven arrays that all their entries are real numbers. -/
theorem read (j : S_.Idx) (h : Cert.Pre_scores_finite.fn (F := Ideal) a0 a1 a2 a3 a4 a5 a6 a7 a8 a9 a10 a11 a12 j = 1#1) :
    (∀ i, Fin' (a0 i : EReal)) ∧ (∀ i, Fin' (a1 i : EReal)) ∧ (∀ i, Fin' (a2 i : EReal)) ∧ (∀ i, Fin' (a3 i : EReal))
      ∧ (∀ i, Fin' (a4 i : EReal)) ∧ (∀ i, Fin' (a6 i : EReal)) ∧ (∀ i, Fin' (a7 i : EReal)) := by
  unfold Cert.Pre_scores_finite.fn Cert.Pre_scores_finite.fn_part1 Cert.Pre_scores_finite.fn_part2 at h
  dsimp only at h
  obtain ⟨h, h7⟩ := split h
  obtain ⟨h, h6⟩ := split h
  obtain ⟨h, h4⟩ := split h
  obtain ⟨h, h2⟩ := split h
  obtain ⟨h, h1⟩ := split h
  obtain ⟨h3, h0⟩ := split h
  exact ⟨fun i => part _ _ _ _ j h0 i, fun i => part _ _ _ _ j h1 i, fun i => part _ _ _ _ j h2 i,
    fun i => part _ _ _ _ j h3 i, fun i => part _ _ _ _ j h4 i, fun i => part _ _ _ _ j h6 i,
    fun i => part _ _ _ _ j h7 i⟩

end Cert.PreRead

end
-- ==== Proof.RVal.lean ====
/-
  The reference program's result, read row by row.
-/
module

public import proofs.«01_k».proof.Proof.Gen.ReferenceIdeal.Run
public import proofs.«01_k».proof.Proof.Row
public import Idealize.ShloMosaic.Lib.Pointwise

@[expose] public section

set_option maxRecDepth 16384

noncomputable section

namespace Cert.RVal

open Cert.ReferenceIdeal Cert.ReferenceIdeal.Gen Cert.ReferenceIdeal.Value Idealize.ShloMosaic
  Idealize.ShloMosaic.TcCoe Idealize.SL.Sem Idealize.ShloMosaic.StableHlo Cert.Row

variable (V0 : Valuation τ sig (Elt Ideal)) (b : Fin 8) (s : Fin 8192)

/-- Argument rows and matrices of the reference, as functions of plain indices. -/
def gOc (k : Fin 512) : EReal := (V0 (Proc.devRef .tc main_arg0) : FVec Ideal S8x8192x512 .bf16) (ix3 b s k)
@[inherit_doc gOc] def gOd (k : Fin 512) : EReal := (V0 (Proc.devRef .tc main_arg1) : FVec Ideal S8x8192x512 .bf16) (ix3 b s k)
@[inherit_doc gOc] def gWout (k n : Fin 1024) : EReal := (V0 (Proc.devRef .tc main_arg2) : FVec Ideal S1024x1024 .f32) (ix2 k n)
@[inherit_doc gOc] def gX (n : Fin 1024) : EReal := (V0 (Proc.devRef .tc main_arg3) : FVec Ideal S8x8192x1024 .f32) (ix3 b s n)
@[inherit_doc gOc] def gK (m : Fin 256) (n : Fin 1024) : EReal := (V0 (Proc.devRef .tc main_arg4) : FVec Ideal S8x256x1024 .bf16) (ix3 b m n)
@[inherit_doc gOc] def gV (m : Fin 256) (n : Fin 1024) : EReal := (V0 (Proc.devRef .tc main_arg5) : FVec Ideal S8x256x1024 .bf16) (ix3 b m n)
@[inherit_doc gOc] def gGa (n : Fin 1024) : EReal := (V0 (Proc.devRef .tc main_arg6) : FVec Ideal S1024 .f32) (ix1 n)
@[inherit_doc gOc] def gWq (k n : Fin 1024) : EReal := (V0 (Proc.devRef .tc main_arg7) : FVec Ideal S1024x1024 .f32) (ix2 k n)
@[inherit_doc gOc] def gWo (k n : Fin 1024) : EReal := (V0 (Proc.devRef .tc main_arg8) : FVec Ideal S1024x1024 .f32) (ix2 k n)
@[inherit_doc gOc] def gGf (n : Fin 1024) : EReal := (V0 (Proc.devRef .tc main_arg9) : FVec Ideal S1024 .f32) (ix1 n)
@[inherit_doc gOc] def gW13 (k : Fin 1024) (n : Fin 5632) : EReal := (V0 (Proc.devRef .tc main_arg10) : FVec Ideal S1024x5632 .f32) (ix2 k n)
@[inherit_doc gOc] def gW2 (k : Fin 2816) (n : Fin 1024) : EReal := (V0 (Proc.devRef .tc main_arg11) : FVec Ideal S2816x1024 .f32) (ix2 k n)
@[inherit_doc gOc] def gGfin (n : Fin 1024) : EReal := (V0 (Proc.devRef .tc main_arg12) : FVec Ideal S1024 .f32) (ix1 n)

/-- The reference's residual after the mixers, one row. -/
def x4 (n : Fin 1024) : EReal := (res_main_v4 V0 : FVec Ideal S8x8192x1024 .f32) (ix3 b s n)

/-- The reference's residual after cross-attention, one row. -/
def x42 (n : Fin 1024) : EReal := (res_main_v42 V0 : FVec Ideal S8x8192x1024 .f32) (ix3 b s n)

/-- The residual row after the mixers' output projection. -/
def y1 (n : Fin 1024) : EReal := mix (gX V0 b s) (gOc V0 b s) (gOd V0 b s) (gWout V0) n

/-- The queries of the row. -/
def qrow (n : Fin 1024) : EReal := lin (rms (y1 V0 b s) (gGa V0)) (gWq V0) n

/-- The residual after the mixers. -/
theorem r4 (l : Fin 1024) : ((res_main_v4 V0 : FVec Ideal S8x8192x1024 .f32) (ix3 b s l) : EReal) = y1 V0 b s l := by
  have h : ((res_main_v4 V0 : FVec Ideal S8x8192x1024 .f32) (ix3 b s l) : EReal)
      = mix (gX V0 b s) (gOc V0 b s) (gOd V0 b s) (gWout V0) l := by
    unfold mix gX gOc gOd gWout
    pointwise [res_main_v4]
  exact h

/-- The scaled scores. -/
theorem r26 (h : Fin 4) (l : Fin 256) :
    ((res_main_v26 V0 : FVec Ideal S8x4x8192x256 .f32) (ix4 b h s l) : EReal) = score (qrow V0 b s) (gK V0 b) h l := by
  have e : ((res_main_v26 V0 : FVec Ideal S8x4x8192x256 .f32) (ix4 b h s l) : EReal)
      = score (lin (rms (fun n => ((res_main_v4 V0 : FVec Ideal S8x8192x1024 .f32) (ix3 b s n) : EReal)) (gGa V0)) (gWq V0)) (gK V0 b) h l := by
    unfold score lin rms gGa gWq gK col
    pointwise [res_main_v26]
  rw [e]
  simp only [r4]
  rfl

/-- The maximum over a head's scores. -/
theorem hmax {F0 : Shape.ReducesTo S8x4x8192x256 [3] S8x4x8192} (v : FVec Ideal S8x4x8192x256 .f32) (c0 : FVec Ideal S_ .f32) (h : Fin 4) :
    Host.reduce (FloatOps.maximumf (F := Ideal) (φ := .f32)) v c0 F0 h_S_ (ix3 b h s)
      = (Finset.univ.fold max (c0 (Shape.Idx.first h_S_)) (fun x : Fin 256 => (v (ix4 b h s x) : EReal)) : EReal) := by
  refine (Host.reduce_eq_fold (α := EReal) max v c0 F0 h_S_ (ix3 b h s)).trans ?_
  exact (Shape.ReducesTo.fold_fiber_r4_a3 (n0 := 8) (n1 := 4) (n2 := 8192) (n3 := 256) F0 (ix3 b h s) (α := EReal) max _ v)

/-- The exponential of scores less their maximum `M`, at an index. -/
theorem v33_gen (v : FVec Ideal S8x4x8192x256 .f32) (M : FVec Ideal S8x4x8192 .f32) (h : Fin 4) (l : Fin 256) :
    ((Host.exp (subf v (broadcastInDim S8x4x8192x256 ![0, 1, 2, 3] bcast_S8x4x8192x1_S8x4x8192x256_0_1_2_3 (broadcastInDim S8x4x8192x1 ![0, 1, 2] bcast_S8x4x8192_S8x4x8192x1_0_1_2 (maximumf (broadcastInDim S8x4x8192 ![] bcast_S_S8x4x8192 (constant S_ .f32 0xFF800000#32)) M)))) : FVec Ideal S8x4x8192x256 .f32) (ix4 b h s l) : EReal)
      = Ideal.exp ((v (ix4 b h s l) : EReal) - max (Ideal.ofBits FTy.f32 0xFF800000#32) (M (ix3 b h s) : EReal)) := by
  pointwise

/-- The exponentials of the scores less their maximum. -/
theorem r33 (h : Fin 4) (l : Fin 256) : ((res_main_v33 V0 : FVec Ideal S8x4x8192x256 .f32) (ix4 b h s l) : EReal)
    = Ideal.exp (score (qrow V0 b s) (gK V0 b) h l - max (Ideal.ofBits .f32 0xFF800000#32) (top (score (qrow V0 b s) (gK V0 b) h))) := by
  unfold res_main_v33
  refine (v33_gen b s _ _ h l).trans ?_
  rw [hmax, r26]
  have e : (fun x : Fin 256 => ((res_main_v26 V0 : FVec Ideal S8x4x8192x256 .f32) (ix4 b h s x) : EReal)) = score (qrow V0 b s) (gK V0 b) h :=
    funext fun x => r26 V0 b s h x
  rw [e]
  rfl

/-- The heads' outputs as the reference writes them. -/
def hrow (n : Fin 1024) : EReal := attend' (score (qrow V0 b s) (gK V0 b) ⟨n.val / 256, by omega⟩) (fun m => gV V0 b m n)

/-- The residual after cross-attention. -/
theorem r42 (l : Fin 1024) : ((res_main_v42 V0 : FVec Ideal S8x8192x1024 .f32) (ix3 b s l) : EReal)
    = y1 V0 b s l + lin (hrow V0 b s) (gWo V0) l := by
  have e : ((res_main_v42 V0 : FVec Ideal S8x8192x1024 .f32) (ix3 b s l) : EReal)
      = x4 V0 b s l + ∑ x : Fin 1024, (∑ m : Fin 256, gV V0 b m x
        * Ideal.div ((res_main_v33 V0 : FVec Ideal S8x4x8192x256 .f32) (ix4 b ⟨x.val / 256, by omega⟩ s m) : EReal)
          (∑ m' : Fin 256, ((res_main_v33 V0 : FVec Ideal S8x4x8192x256 .f32) (ix4 b ⟨x.val / 256, by omega⟩ s m') : EReal))) * gWo V0 x l := by
    unfold gV gWo x4
    pointwise [res_main_v42]
  rw [e]
  unfold x4
  simp only [r4, r33]
  rfl

/-- The residual row after cross-attention, in the reference's form. -/
def y2 (n : Fin 1024) : EReal := y1 V0 b s n + lin (hrow V0 b s) (gWo V0) n

/-- The feed-forward part's first product. -/
theorem r56 (l : Fin 5632) : ((res_main_v56 V0 : FVec Ideal S8x8192x5632 .f32) (ix3 b s l) : EReal)
    = lin (rms (y2 V0 b s) (gGf V0)) (gW13 V0) l := by
  have e : ((res_main_v56 V0 : FVec Ideal S8x8192x5632 .f32) (ix3 b s l) : EReal)
      = lin (rms (fun n => ((res_main_v42 V0 : FVec Ideal S8x8192x1024 .f32) (ix3 b s n) : EReal)) (gGf V0)) (gW13 V0) l := by
    unfold lin rms gGf gW13
    pointwise [res_main_v56]
  rw [e]
  simp only [r42]
  rfl

/-- The residual after the feed-forward part. -/
theorem r62 (l : Fin 1024) : ((res_main_v62 V0 : FVec Ideal S8x8192x1024 .f32) (ix3 b s l) : EReal)
    = ffn (y2 V0 b s) (gGf V0) (gW13 V0) (gW2 V0) l := by
  have e : ((res_main_v62 V0 : FVec Ideal S8x8192x1024 .f32) (ix3 b s l) : EReal)
      = x42 V0 b s l
        + lin (hid (fun n => ((res_main_v56 V0 : FVec Ideal S8x8192x5632 .f32) (ix3 b s n) : EReal))) (gW2 V0) l := by
    unfold lin hid gW2 Ideal.logistic x42
    pointwise [res_main_v62, res_main_v57]
  rw [e]
  unfold x42
  simp only [r42, r56]
  rfl

/-- The closing norm over a vector `v`, at an index. -/
theorem v75_gen (v : FVec Ideal S8x8192x1024 .f32) (g : FVec Ideal S1024 .f32) (l : Fin 1024) :
    ((mulf (mulf v (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf v v) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g)) : FVec Ideal S8x8192x1024 .f32) (ix3 b s l) : EReal)
      = rms (fun n => (v (ix3 b s n) : EReal)) (fun n => (g (ix1 n) : EReal)) l := by
  unfold rms
  pointwise

end Cert.RVal

end
-- ==== Proof.KVal.lean ====
/-
  The kernel's body on one block, read row by row: what it leaves in its output buffer is the layer's second half on the
  row of each input block.
-/
module

public import proofs.«01_k».proof.Proof.Gen.KernelIdeal.Value
public import proofs.«01_k».proof.Proof.Row
public import Idealize.ShloMosaic.Lib.Pointwise

@[expose] public section

set_option maxRecDepth 16384

noncomputable section

namespace Cert.KVal

open Idealize.ShloMosaic Cert.KernelIdeal Cert.KernelIdeal.Gen Cert.Row

variable (x0 x1 : Vec Ideal S1x512x512 .bf16) (x2 : Vec Ideal S1024x1024 .bf16) (x3 : Vec Ideal S1x512x1024 .f32)
  (x4 x5 : Vec Ideal S1x256x1024 .bf16) (x6 : Vec Ideal S1x1024 .f32) (x7 x8 : Vec Ideal S1024x1024 .bf16)
  (x9 : Vec Ideal S1x1024 .f32) (x10 : Vec Ideal S1024x5632 .bf16) (x11 : Vec Ideal S2816x1024 .bf16)
  (x12 : Vec Ideal S1x1024 .f32) (r : Fin 512)

/-- Row `r` of the residual after the mixers' output projection, as the kernel's block holds it. -/
def row1 (n : Fin 1024) : EReal :=
  mix (fun n => x3 (ix3 0 r n)) (fun k => x0 (ix3 0 r k)) (fun k => x1 (ix3 0 r k)) (fun k n => x2 (ix2 k n)) n

/-- Row `r` of the first payload: the residual row with the output projection of the two mixers added. -/
theorem pay13_row (n : Fin 1024) :
    (k0_pay13 x0 x1 x2 x3 x4 x5 x6 x7 x8 x9 x10 x11 x12 (ix2 r n) : EReal) = row1 x0 x1 x2 x3 r n := by
  pointwise [k0_pay13, k0_pay2]
  rfl

/-- Row `r` of the queries: the normed row times the query weights. -/
theorem pay14_row (n : Fin 1024) :
    (k0_pay14 x0 x1 x2 x3 x4 x5 x6 x7 x8 x9 x10 x11 x12 (ix2 r n) : EReal)
      = lin (rms (row1 x0 x1 x2 x3 r) (fun n => x6 (ix2 0 n))) (fun k n => x7 (ix2 k n)) n := by
  have e : ∀ n, (k0_pay2 (F := Ideal) (View.ld x3 r0_0) (View.ld x0 r0_1) (View.ld x1 r0_1) (View.ld x2 r0_2) (ix2 r n) : EReal)
      = row1 x0 x1 x2 x3 r n := pay13_row x0 x1 x2 x3 x4 x5 x6 x7 x8 x9 x10 x11 x12 r
  pointwise [k0_pay14, k0_pay3]
  simp only [e]
  rfl

/-- One head as the body writes it, over the head's own columns. -/
theorem head_eq (q : Fin 1024 → EReal) (k v : Fin 256 → Fin 1024 → EReal) (h : Fin 4) (d : Fin 256)
    (q' : Fin 256 → EReal) (k' : Fin 256 → Fin 256 → EReal) (v' : Fin 256 → EReal)
    (hq : ∀ x, q' x = q (col h x)) (hk : ∀ m x, k' m x = k m (col h x)) (hv : ∀ m, v' m = v m (col h d)) :
    Ideal.div
      (∑ m, Ideal.exp ((∑ x, q' x * k' m x) * Ideal.ofBits .f32 0x3D800000#32
          - Finset.fold max (Ideal.ofBits .f32 0xFF800000#32)
              (fun m => (∑ x, q' x * k' m x) * Ideal.ofBits .f32 0x3D800000#32) Finset.univ) * v' m)
      (∑ m, Ideal.exp ((∑ x, q' x * k' m x) * Ideal.ofBits .f32 0x3D800000#32
          - Finset.fold max (Ideal.ofBits .f32 0xFF800000#32)
              (fun m => (∑ x, q' x * k' m x) * Ideal.ofBits .f32 0x3D800000#32) Finset.univ))
      = heads q k v (col h d) := by
  have hd : (⟨(col h d).val / 256, by omega⟩ : Fin 4) = h := Fin.ext (by simp [col]; omega)
  obtain rfl : q' = fun x => q (col h x) := funext hq
  obtain rfl : k' = fun m x => k m (col h x) := funext fun m => funext (hk m)
  obtain rfl : v' = fun m => v m (col h d) := funext hv
  unfold heads
  rw [hd]
  rfl

/-- Row `r` of the four heads side by side. -/
theorem pay15_row (n : Fin 1024) :
    (k0_pay15 x0 x1 x2 x3 x4 x5 x6 x7 x8 x9 x10 x11 x12 (ix2 r n) : EReal)
      = heads (lin (rms (row1 x0 x1 x2 x3 r) (fun n => x6 (ix2 0 n))) (fun k n => x7 (ix2 k n)))
          (fun m n => x4 (ix3 0 m n)) (fun m n => x5 (ix3 0 m n)) n := by
  have e := pay14_row x0 x1 x2 x3 x4 x5 x6 x7 x8 x9 x10 x11 x12 r
  have e' : ∀ n, (k0_pay3 (F := Ideal) (View.ld x3 r0_0) (View.ld x0 r0_1) (View.ld x1 r0_1) (View.ld x2 r0_2) (View.ld x6 r0_3) (View.ld x7 r0_2) (ix2 r n) : EReal)
      = _ := e
  generalize lin (rms (row1 x0 x1 x2 x3 r) (fun n => x6 (ix2 0 n))) (fun k n => x7 (ix2 k n)) = q at e e' ⊢
  pointwise [k0_pay15, k0_pay8, k0_pay7, k0_pay6, k0_pay5, k0_pay4]
  simp only [e, e']
  obtain ⟨h, d, rfl⟩ : ∃ h d, n = col h d :=
    ⟨⟨n.val / 256, by omega⟩, ⟨n.val % 256, by omega⟩, Fin.ext (by simp [col]; omega)⟩
  have hc : (col h d).val = h.val * 256 + d.val := rfl
  match h with
  | ⟨0, _⟩ =>
    have h0 : (col 0 d).val < 256 := by show 0 * 256 + d.val < 256; omega
    refine (dif_pos h0).trans (head_eq q _ _ 0 d _ _ _ (fun x => ?_) (fun m x => ?_) fun m => ?_)
    · exact congrArg q (Fin.ext (by simp [col]))
    · exact congrArg (fun z => x4 (ix3 0 m z)) (Fin.ext (by simp [col]))
    · exact congrArg (fun z => x5 (ix3 0 m z)) (Fin.ext (by simp [col]))
  | ⟨1, _⟩ =>
    have h0 : ¬ (col 1 d).val < 256 := by show ¬ 1 * 256 + d.val < 256; omega
    have h1 : (col 1 d).val - 256 < 256 := by show 1 * 256 + d.val - 256 < 256; omega
    refine ((dif_neg h0).trans (dif_pos h1)).trans (head_eq q _ _ 1 d _ _ _ (fun x => ?_) (fun m x => ?_) fun m => ?_)
    · exact congrArg q (Fin.ext (by simp [col]))
    · exact congrArg (fun z => x4 (ix3 0 m z)) (Fin.ext (by simp [col]))
    · exact congrArg (fun z => x5 (ix3 0 m z)) (Fin.ext (by simp [col]))
  | ⟨2, _⟩ =>
    have h0 : ¬ (col 2 d).val < 256 := by show ¬ 2 * 256 + d.val < 256; omega
    have h1 : ¬ (col 2 d).val - 256 < 256 := by show ¬ 2 * 256 + d.val - 256 < 256; omega
    have h2 : (col 2 d).val - 256 - 256 < 256 := by show 2 * 256 + d.val - 256 - 256 < 256; omega
    refine (((dif_neg h0).trans (dif_neg h1)).trans (dif_pos h2)).trans
      (head_eq q _ _ 2 d _ _ _ (fun x => ?_) (fun m x => ?_) fun m => ?_)
    · exact congrArg q (Fin.ext (by simp [col]))
    · exact congrArg (fun z => x4 (ix3 0 m z)) (Fin.ext (by simp [col]))
    · exact congrArg (fun z => x5 (ix3 0 m z)) (Fin.ext (by simp [col]; omega))
  | ⟨3, _⟩ =>
    have h0 : ¬ (col 3 d).val < 256 := by show ¬ 3 * 256 + d.val < 256; omega
    have h1 : ¬ (col 3 d).val - 256 < 256 := by show ¬ 3 * 256 + d.val - 256 < 256; omega
    have h2 : ¬ (col 3 d).val - 256 - 256 < 256 := by show ¬ 3 * 256 + d.val - 256 - 256 < 256; omega
    refine (((dif_neg h0).trans (dif_neg h1)).trans (dif_neg h2)).trans
      (head_eq q _ _ 3 d _ _ _ (fun x => ?_) (fun m x => ?_) fun m => ?_)
    · exact congrArg q (Fin.ext (by simp [col]))
    · exact congrArg (fun z => x4 (ix3 0 m z)) (Fin.ext (by simp [col]))
    · exact congrArg (fun z => x5 (ix3 0 m z)) (Fin.ext (by simp [col]; omega))

/-- Row `r` after the cross-attention and its residual. -/
def row2 : Fin 1024 → EReal :=
  xattn (row1 x0 x1 x2 x3 r) (fun n => x6 (ix2 0 n)) (fun k n => x7 (ix2 k n)) (fun k n => x8 (ix2 k n))
    (fun m n => x4 (ix3 0 m n)) (fun m n => x5 (ix3 0 m n))

/-- The body's row after cross-attention: the four heads side by side, times the output weights, added to the row. -/
theorem row2_eq (n : Fin 1024) :
    (k0_pay9 (F := Ideal) (k0_pay13 x0 x1 x2 x3 x4 x5 x6 x7 x8 x9 x10 x11 x12)
      (k0_pay15 x0 x1 x2 x3 x4 x5 x6 x7 x8 x9 x10 x11 x12) (View.ld x8 r0_2) (ix2 r n) : EReal)
      = row2 x0 x1 x2 x3 x4 x5 x6 x7 x8 r n := by
  pointwise [k0_pay9]
  simp only [pay13_row, pay15_row]
  rfl

/-- What the body leaves at row `r`, column `l` of the output buffer: the layer's second half on row `r`. -/
theorem out_row (l : Fin 1024) :
    (out0_13 x0 x1 x2 x3 x4 x5 x6 x7 x8 x9 x10 x11 x12 (ix3 0 r l) : EReal)
      = rms (ffn (row2 x0 x1 x2 x3 x4 x5 x6 x7 x8 r) (fun n => x9 (ix2 0 n)) (fun k n => x10 (ix2 k n))
          (fun k n => x11 (ix2 k n))) (fun n => x12 (ix2 0 n)) l := by
  have hz3 : (![0, 0, 0] : Fin 3 → Nat) = fun _ => 0 := funext fun a => by fin_cases a <;> rfl
  have e := row2_eq x0 x1 x2 x3 x4 x5 x6 x7 x8 x9 x10 x11 x12 r
  unfold out0_13
  rw [View.canon_unit_zero hz3]
  generalize k0_pay13 x0 x1 x2 x3 x4 x5 x6 x7 x8 x9 x10 x11 x12 = a at e ⊢
  generalize k0_pay15 x0 x1 x2 x3 x4 x5 x6 x7 x8 x9 x10 x11 x12 = b at e ⊢
  generalize row2 x0 x1 x2 x3 x4 x5 x6 x7 x8 r = y at e ⊢
  have e10 : ∀ n, (k0_pay10 (F := Ideal) a b (View.ld x8 r0_2) (View.ld x9 r0_3) (ix2 r n) : EReal) = rms y (fun n => x9 (ix2 0 n)) n := by
    intro n
    pointwise [k0_pay10]
    simp only [e]
    rfl
  pointwise [k0_pay1, k0_pay11, k0_pay12]
  simp only [e, e10]
  rw [ffn_halves]
  rfl

end Cert.KVal

end
-- ==== Proof.KBlk.lean ====
/-
  The kernel's grid: which rows each grid point reads and writes, so that the result array is the row function of the
  argument arrays.
-/
module

public import proofs.«01_k».proof.Proof.KVal
public import Idealize.ShloMosaic.Lib.Pipeline.ValueKit.Geometry

@[expose] public section

set_option maxRecDepth 16384

noncomputable section

namespace Cert.KBlk

open Cert.KernelIdeal Cert.KernelIdeal.Gen Idealize.ShloMosaic Idealize.ShloMosaic.TcCoe Idealize.SL.Sem
  Idealize.ShloMosaic.StableHlo Cert.Row

/-- The batch row of grid point `t`. -/
def pb (t : Fin cfg0.N) : Fin 8 := ⟨(grid0.coords t 0).val, (grid0.coords t 0).isLt⟩

/-- Row `r` of the block of grid point `t`, as a token of its batch row. -/
def ps (t : Fin cfg0.N) (r : Fin 512) : Fin 8192 :=
  ⟨(grid0.coords t 1).val * 512 + r.val, by have h : (grid0.coords t 1).val < 16 := (grid0.coords t 1).isLt; omega⟩

variable (m : (ℓ : Loc nD τ sig) → Buf (Elt Ideal) ℓ) (c : Dev nD)

/-- Which block window 0 holds at a grid point. -/
theorem e0 : ∀ t : Fin cfg0.N, win0_0.index t = ![(grid0.coords t 0).val, (grid0.coords t 1).val, 0] :=
  (by decide +kernel : ∀ t : Fin grid0.N, _)

/-- Which block window 1 holds at a grid point. -/
theorem e1 : ∀ t : Fin cfg0.N, win0_1.index t = ![(grid0.coords t 0).val, (grid0.coords t 1).val, 0] :=
  (by decide +kernel : ∀ t : Fin grid0.N, _)

/-- Which block window 2 holds at a grid point. -/
theorem e2 : ∀ t : Fin cfg0.N, win0_2.index t = ![0, 0] :=
  (by decide +kernel : ∀ t : Fin grid0.N, _)

/-- Which block window 3 holds at a grid point. -/
theorem e3 : ∀ t : Fin cfg0.N, win0_3.index t = ![(grid0.coords t 0).val, (grid0.coords t 1).val, 0] :=
  (by decide +kernel : ∀ t : Fin grid0.N, _)

/-- Which block window 4 holds at a grid point. -/
theorem e4 : ∀ t : Fin cfg0.N, win0_4.index t = ![(grid0.coords t 0).val, 0, 0] :=
  (by decide +kernel : ∀ t : Fin grid0.N, _)

/-- Which block window 5 holds at a grid point. -/
theorem e5 : ∀ t : Fin cfg0.N, win0_5.index t = ![(grid0.coords t 0).val, 0, 0] :=
  (by decide +kernel : ∀ t : Fin grid0.N, _)

/-- Which block window 6 holds at a grid point. -/
theorem e6 : ∀ t : Fin cfg0.N, win0_6.index t = ![0, 0] :=
  (by decide +kernel : ∀ t : Fin grid0.N, _)

/-- Which block window 7 holds at a grid point. -/
theorem e7 : ∀ t : Fin cfg0.N, win0_7.index t = ![0, 0] :=
  (by decide +kernel : ∀ t : Fin grid0.N, _)

/-- Which block window 8 holds at a grid point. -/
theorem e8 : ∀ t : Fin cfg0.N, win0_8.index t = ![0, 0] :=
  (by decide +kernel : ∀ t : Fin grid0.N, _)

/-- Which block window 9 holds at a grid point. -/
theorem e9 : ∀ t : Fin cfg0.N, win0_9.index t = ![0, 0] :=
  (by decide +kernel : ∀ t : Fin grid0.N, _)

/-- Which block window 10 holds at a grid point. -/
theorem e10 : ∀ t : Fin cfg0.N, win0_10.index t = ![0, 0] :=
  (by decide +kernel : ∀ t : Fin grid0.N, _)

/-- Which block window 11 holds at a grid point. -/
theorem e11 : ∀ t : Fin cfg0.N, win0_11.index t = ![0, 0] :=
  (by decide +kernel : ∀ t : Fin grid0.N, _)

/-- Which block window 12 holds at a grid point. -/
theorem e12 : ∀ t : Fin cfg0.N, win0_12.index t = ![0, 0] :=
  (by decide +kernel : ∀ t : Fin grid0.N, _)

/-- Which block window 13 holds at a grid point. -/
theorem e13 : ∀ t : Fin cfg0.N, win0_13.index t = ![(grid0.coords t 0).val, (grid0.coords t 1).val, 0] :=
  (by decide +kernel : ∀ t : Fin grid0.N, _)

/-- Before the grid runs, the host has only changed the precision of argument 2. -/
theorem Vv0 : (V m c main_v0 : FVec Ideal S1024x1024 .bf16) = (m ((c : Thread nD τ).loc main_arg2) : FVec Ideal S1024x1024 .f32) := by
  show StableHlo.after hostOps0 (fun b => m (c, b)) (Proc.devRef .tc main_v0) = _
  simp only [hostOps0]
  after_results_simp
  rfl

/-- Before the grid runs, the host has only changed the precision of argument 7. -/
theorem Vv2 : (V m c main_v2 : FVec Ideal S1024x1024 .bf16) = (m ((c : Thread nD τ).loc main_arg7) : FVec Ideal S1024x1024 .f32) := by
  show StableHlo.after hostOps0 (fun b => m (c, b)) (Proc.devRef .tc main_v2) = _
  simp only [hostOps0]
  after_results_simp
  rfl

/-- Before the grid runs, the host has only changed the precision of argument 8. -/
theorem Vv3 : (V m c main_v3 : FVec Ideal S1024x1024 .bf16) = (m ((c : Thread nD τ).loc main_arg8) : FVec Ideal S1024x1024 .f32) := by
  show StableHlo.after hostOps0 (fun b => m (c, b)) (Proc.devRef .tc main_v3) = _
  simp only [hostOps0]
  after_results_simp
  rfl

/-- Before the grid runs, the host has only changed the precision of argument 10. -/
theorem Vv5 : (V m c main_v5 : FVec Ideal S1024x5632 .bf16) = (m ((c : Thread nD τ).loc main_arg10) : FVec Ideal S1024x5632 .f32) := by
  show StableHlo.after hostOps0 (fun b => m (c, b)) (Proc.devRef .tc main_v5) = _
  simp only [hostOps0]
  after_results_simp
  rfl

/-- Before the grid runs, the host has only changed the precision of argument 11. -/
theorem Vv6 : (V m c main_v6 : FVec Ideal S2816x1024 .bf16) = (m ((c : Thread nD τ).loc main_arg11) : FVec Ideal S2816x1024 .f32) := by
  show StableHlo.after hostOps0 (fun b => m (c, b)) (Proc.devRef .tc main_v6) = _
  simp only [hostOps0]
  after_results_simp
  rfl

/-- Before the grid runs, the host has only given argument 6 a leading axis of one. -/
theorem Vv1 (n : Fin 1024) : ((V m c main_v1 : FVec Ideal S1x1024 .f32) (ix2 0 n) : EReal) = (m ((c : Thread nD τ).loc main_arg6) : FVec Ideal S1024 .f32) (ix1 n) := by
  have h : (V m c main_v1 : FVec Ideal S1x1024 .f32) = shapeCast S1x1024 (m ((c : Thread nD τ).loc main_arg6) : FVec Ideal S1024 .f32) shapeCasts_S1024_S1x1024 := by
    show StableHlo.after hostOps0 (fun b => m (c, b)) (Proc.devRef .tc main_v1) = _
    simp only [hostOps0]
    after_results_simp
    rfl
  rw [h]
  pointwise

/-- Before the grid runs, the host has only given argument 9 a leading axis of one. -/
theorem Vv4 (n : Fin 1024) : ((V m c main_v4 : FVec Ideal S1x1024 .f32) (ix2 0 n) : EReal) = (m ((c : Thread nD τ).loc main_arg9) : FVec Ideal S1024 .f32) (ix1 n) := by
  have h : (V m c main_v4 : FVec Ideal S1x1024 .f32) = shapeCast S1x1024 (m ((c : Thread nD τ).loc main_arg9) : FVec Ideal S1024 .f32) shapeCasts_S1024_S1x1024 := by
    show StableHlo.after hostOps0 (fun b => m (c, b)) (Proc.devRef .tc main_v4) = _
    simp only [hostOps0]
    after_results_simp
    rfl
  rw [h]
  pointwise

/-- Before the grid runs, the host has only given argument 12 a leading axis of one. -/
theorem Vv7 (n : Fin 1024) : ((V m c main_v7 : FVec Ideal S1x1024 .f32) (ix2 0 n) : EReal) = (m ((c : Thread nD τ).loc main_arg12) : FVec Ideal S1024 .f32) (ix1 n) := by
  have h : (V m c main_v7 : FVec Ideal S1x1024 .f32) = shapeCast S1x1024 (m ((c : Thread nD τ).loc main_arg12) : FVec Ideal S1024 .f32) shapeCasts_S1024_S1x1024 := by
    show StableHlo.after hostOps0 (fun b => m (c, b)) (Proc.devRef .tc main_v7) = _
    simp only [hostOps0]
    after_results_simp
    rfl
  rw [h]
  pointwise

/-- Window 0's block at a grid point, at an index. -/
theorem i0 (t : Fin cfg0.N) (r : Fin 512) (k : Fin 512) :
    (iblk m c 0 t (ix3 0 r k) : EReal) = (m ((c : Thread nD τ).loc main_arg0) : FVec Ideal S8x8192x512 .f32) (ix3 (pb t) (ps t r) k) := by
  blk_simp [iblk]
  refine (congrFun (V_main_arg0 m c) _).trans ?_
  refine congrArg (m ((c : Thread nD τ).loc main_arg0)) ?_
  blk_ext [e0] <;> rfl

/-- Window 1's block at a grid point, at an index. -/
theorem i1 (t : Fin cfg0.N) (r : Fin 512) (k : Fin 512) :
    (iblk m c 1 t (ix3 0 r k) : EReal) = (m ((c : Thread nD τ).loc main_arg1) : FVec Ideal S8x8192x512 .f32) (ix3 (pb t) (ps t r) k) := by
  blk_simp [iblk]
  refine (congrFun (V_main_arg1 m c) _).trans ?_
  refine congrArg (m ((c : Thread nD τ).loc main_arg1)) ?_
  blk_ext [e1] <;> rfl

/-- Window 3's block at a grid point, at an index. -/
theorem i3 (t : Fin cfg0.N) (r : Fin 512) (k : Fin 1024) :
    (iblk m c 3 t (ix3 0 r k) : EReal) = (m ((c : Thread nD τ).loc main_arg3) : FVec Ideal S8x8192x1024 .f32) (ix3 (pb t) (ps t r) k) := by
  blk_simp [iblk]
  refine (congrFun (V_main_arg3 m c) _).trans ?_
  refine congrArg (m ((c : Thread nD τ).loc main_arg3)) ?_
  blk_ext [e3] <;> rfl

/-- Window 4's block at a grid point, at an index. -/
theorem i4 (t : Fin cfg0.N) (r : Fin 256) (k : Fin 1024) :
    (iblk m c 4 t (ix3 0 r k) : EReal) = (m ((c : Thread nD τ).loc main_arg4) : FVec Ideal S8x256x1024 .f32) (ix3 (pb t) r k) := by
  blk_simp [iblk]
  refine (congrFun (V_main_arg4 m c) _).trans ?_
  refine congrArg (m ((c : Thread nD τ).loc main_arg4)) ?_
  blk_ext [e4] <;> rfl

/-- Window 5's block at a grid point, at an index. -/
theorem i5 (t : Fin cfg0.N) (r : Fin 256) (k : Fin 1024) :
    (iblk m c 5 t (ix3 0 r k) : EReal) = (m ((c : Thread nD τ).loc main_arg5) : FVec Ideal S8x256x1024 .f32) (ix3 (pb t) r k) := by
  blk_simp [iblk]
  refine (congrFun (V_main_arg5 m c) _).trans ?_
  refine congrArg (m ((c : Thread nD τ).loc main_arg5)) ?_
  blk_ext [e5] <;> rfl

/-- Window 2 holds a whole matrix at every grid point. -/
theorem i2 (t : Fin cfg0.N) (r : Fin 1024) (k : Fin 1024) :
    (iblk m c 2 t (ix2 r k) : EReal) = (m ((c : Thread nD τ).loc main_arg2) : FVec Ideal S1024x1024 .f32) (ix2 r k) := by
  blk_simp [iblk]
  refine (congrFun (Vv0 m c) _).trans ?_
  refine congrArg (m ((c : Thread nD τ).loc main_arg2)) ?_
  blk_ext [e2]

/-- Window 7 holds a whole matrix at every grid point. -/
theorem i7 (t : Fin cfg0.N) (r : Fin 1024) (k : Fin 1024) :
    (iblk m c 7 t (ix2 r k) : EReal) = (m ((c : Thread nD τ).loc main_arg7) : FVec Ideal S1024x1024 .f32) (ix2 r k) := by
  blk_simp [iblk]
  refine (congrFun (Vv2 m c) _).trans ?_
  refine congrArg (m ((c : Thread nD τ).loc main_arg7)) ?_
  blk_ext [e7]

/-- Window 8 holds a whole matrix at every grid point. -/
theorem i8 (t : Fin cfg0.N) (r : Fin 1024) (k : Fin 1024) :
    (iblk m c 8 t (ix2 r k) : EReal) = (m ((c : Thread nD τ).loc main_arg8) : FVec Ideal S1024x1024 .f32) (ix2 r k) := by
  blk_simp [iblk]
  refine (congrFun (Vv3 m c) _).trans ?_
  refine congrArg (m ((c : Thread nD τ).loc main_arg8)) ?_
  blk_ext [e8]

/-- Window 10 holds a whole matrix at every grid point. -/
theorem i10 (t : Fin cfg0.N) (r : Fin 1024) (k : Fin 5632) :
    (iblk m c 10 t (ix2 r k) : EReal) = (m ((c : Thread nD τ).loc main_arg10) : FVec Ideal S1024x5632 .f32) (ix2 r k) := by
  blk_simp [iblk]
  refine (congrFun (Vv5 m c) _).trans ?_
  refine congrArg (m ((c : Thread nD τ).loc main_arg10)) ?_
  blk_ext [e10]

/-- Window 11 holds a whole matrix at every grid point. -/
theorem i11 (t : Fin cfg0.N) (r : Fin 2816) (k : Fin 1024) :
    (iblk m c 11 t (ix2 r k) : EReal) = (m ((c : Thread nD τ).loc main_arg11) : FVec Ideal S2816x1024 .f32) (ix2 r k) := by
  blk_simp [iblk]
  refine (congrFun (Vv6 m c) _).trans ?_
  refine congrArg (m ((c : Thread nD τ).loc main_arg11)) ?_
  blk_ext [e11]

/-- Window 6 holds a whole gain vector at every grid point. -/
theorem i6 (t : Fin cfg0.N) (k : Fin 1024) :
    (iblk m c 6 t (ix2 0 k) : EReal) = (m ((c : Thread nD τ).loc main_arg6) : FVec Ideal S1024 .f32) (ix1 k) := by
  refine Eq.trans ?_ (Vv1 m c k)
  blk_simp [iblk]
  refine congrArg (V m c main_v1) ?_
  blk_ext [e6]

/-- Window 9 holds a whole gain vector at every grid point. -/
theorem i9 (t : Fin cfg0.N) (k : Fin 1024) :
    (iblk m c 9 t (ix2 0 k) : EReal) = (m ((c : Thread nD τ).loc main_arg9) : FVec Ideal S1024 .f32) (ix1 k) := by
  refine Eq.trans ?_ (Vv4 m c k)
  blk_simp [iblk]
  refine congrArg (V m c main_v4) ?_
  blk_ext [e9]

/-- Window 12 holds a whole gain vector at every grid point. -/
theorem i12 (t : Fin cfg0.N) (k : Fin 1024) :
    (iblk m c 12 t (ix2 0 k) : EReal) = (m ((c : Thread nD τ).loc main_arg12) : FVec Ideal S1024 .f32) (ix1 k) := by
  refine Eq.trans ?_ (Vv7 m c k)
  blk_simp [iblk]
  refine congrArg (V m c main_v7) ?_
  blk_ext [e12]

/-- The blocks the grid writes cover the result array. -/
theorem cov : (cfg0.win 13).Covers := by decide +kernel

/-- One entry of the layer's second half, of rows and matrices. -/
def out (x : Fin 1024 → EReal) (oc od : Fin 512 → EReal) (w : Fin 1024 → Fin 1024 → EReal) (ga : Fin 1024 → EReal)
    (wq wo : Fin 1024 → Fin 1024 → EReal) (k v : Fin 256 → Fin 1024 → EReal) (gf : Fin 1024 → EReal)
    (w13 : Fin 1024 → Fin 5632 → EReal) (w2 : Fin 2816 → Fin 1024 → EReal) (gn : Fin 1024 → EReal) (l : Fin 1024) : EReal :=
  rms (ffn (xattn (mix x oc od w) ga wq wo k v) gf w13 w2) gn l

/-- The result array as one function of the argument arrays. -/
def G : FVec Ideal S8x8192x1024 .f32 := fun i =>
  out (fun n => (m ((c : Thread nD τ).loc main_arg3) : FVec Ideal S8x8192x1024 .f32) (ix3 (i 0) (i 1) n))
    (fun n => (m ((c : Thread nD τ).loc main_arg0) : FVec Ideal S8x8192x512 .f32) (ix3 (i 0) (i 1) n))
    (fun n => (m ((c : Thread nD τ).loc main_arg1) : FVec Ideal S8x8192x512 .f32) (ix3 (i 0) (i 1) n))
    (fun k n => (m ((c : Thread nD τ).loc main_arg2) : FVec Ideal S1024x1024 .f32) (ix2 k n))
    (fun n => (m ((c : Thread nD τ).loc main_arg6) : FVec Ideal S1024 .f32) (ix1 n))
    (fun k n => (m ((c : Thread nD τ).loc main_arg7) : FVec Ideal S1024x1024 .f32) (ix2 k n))
    (fun k n => (m ((c : Thread nD τ).loc main_arg8) : FVec Ideal S1024x1024 .f32) (ix2 k n))
    (fun k n => (m ((c : Thread nD τ).loc main_arg4) : FVec Ideal S8x256x1024 .f32) (ix3 (i 0) k n))
    (fun k n => (m ((c : Thread nD τ).loc main_arg5) : FVec Ideal S8x256x1024 .f32) (ix3 (i 0) k n))
    (fun n => (m ((c : Thread nD τ).loc main_arg9) : FVec Ideal S1024 .f32) (ix1 n))
    (fun k n => (m ((c : Thread nD τ).loc main_arg10) : FVec Ideal S1024x5632 .f32) (ix2 k n))
    (fun k n => (m ((c : Thread nD τ).loc main_arg11) : FVec Ideal S2816x1024 .f32) (ix2 k n))
    (fun n => (m ((c : Thread nD τ).loc main_arg12) : FVec Ideal S1024 .f32) (ix1 n)) (i 2)

/-- What a grid point leaves in its output block, at an index. -/
theorem blk_out (t : Fin cfg0.N) (r : Fin 512) (l : Fin 1024) :
    (out0_13 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (ix3 0 r l) : EReal)
      = G m c (ix3 (pb t) (ps t r) l) := by
  refine (Cert.KVal.out_row _ _ _ _ _ _ _ _ _ _ _ _ _ r l).trans ?_
  unfold Cert.KVal.row2 Cert.KVal.row1
  simp only [i0, i1, i2, i3, i4, i5, i6, i7, i8, i9, i10, i11, i12]
  rfl

/-- The result array after the grid has run. -/
theorem final : (dats m 0 c).arrAt 13 cfg0.N = G m c := by
  refine (dats m 0 c).arrAt_eq_of_covers 13 _ cov fun t hf y => ?_
  blk_simp
  rw [after0_13]
  have hy : y = ix3 0 (y 1) (y 2) := by
    funext a
    match a with
    | ⟨0, _⟩ => exact Subsingleton.elim (α := Fin 1) _ _
    | ⟨1, _⟩ => rfl
    | ⟨2, _⟩ => rfl
  refine (congrArg _ hy).trans ((blk_out m c t (y 1) (y 2)).trans (congrArg (G m c) ?_))
  blk_ext [e13] <;> rfl

end Cert.KBlk

end
-- ==== Proof.Join.lean ====
/-
  The reference's result array is the same function of the argument arrays as the kernel's, when the scores are finite.
-/
module

public import proofs.«01_k».proof.Proof.RVal
public import proofs.«01_k».proof.Proof.KBlk

@[expose] public section

set_option maxRecDepth 16384

noncomputable section

namespace Cert.Join

open Cert.ReferenceIdeal Cert.ReferenceIdeal.Gen Cert.ReferenceIdeal.Value Idealize.ShloMosaic
  Idealize.ShloMosaic.TcCoe Idealize.SL.Sem Idealize.ShloMosaic.StableHlo Cert.Row Cert.RVal

variable (V0 : Valuation τ sig (Elt Ideal))

/-- The result array as one function of the arguments. -/
def GR : FVec Ideal S8x8192x1024 .f32 := fun i =>
  Cert.KBlk.out (gX V0 (i 0) (i 1)) (gOc V0 (i 0) (i 1)) (gOd V0 (i 0) (i 1)) (gWout V0) (gGa V0) (gWq V0) (gWo V0)
    (gK V0 (i 0)) (gV V0 (i 0)) (gGf V0) (gW13 V0) (gW2 V0) (gGfin V0) (i 2)

/-- Every entry of the seven arrays that the scores are computed from is a real number. -/
structure Tame : Prop where
  x : ∀ b s n, Fin' (gX V0 b s n)
  oc : ∀ b s n, Fin' (gOc V0 b s n)
  od : ∀ b s n, Fin' (gOd V0 b s n)
  w : ∀ k n, Fin' (gWout V0 k n)
  k : ∀ b j n, Fin' (gK V0 b j n)
  ga : ∀ n, Fin' (gGa V0 n)
  wq : ∀ k n, Fin' (gWq V0 k n)

/-- Then every score is a real number. -/
theorem Tame.score {V0 : Valuation τ sig (Elt Ideal)} (h : Tame V0) (b : Fin 8) (s : Fin 8192) (hd : Fin 4) (j : Fin 256) :
    Fin' (score (qrow V0 b s) (gK V0 b) hd j) :=
  (Fin'.sum _ fun d => (Fin'.lin (Fin'.rms (fun n => Fin'.mix (h.x b s) (h.oc b s) (h.od b s) h.w n) h.ga) h.wq _).mul
    (h.k b j _)).mul ofBits_sixteenth

/-- The reference's row after cross-attention is the kernel's. -/
theorem y2_eq (h : Tame V0) (b : Fin 8) (s : Fin 8192) :
    y2 V0 b s = xattn (mix (gX V0 b s) (gOc V0 b s) (gOd V0 b s) (gWout V0)) (gGa V0) (gWq V0) (gWo V0) (gK V0 b) (gV V0 b) := by
  have e : hrow V0 b s = heads (qrow V0 b s) (gK V0 b) (gV V0 b) :=
    funext fun n => attend'_eq (h.score b s _)
  funext n
  show y1 V0 b s n + lin (hrow V0 b s) (gWo V0) n = _
  rw [e]
  rfl

/-- The closing norm of the reference's row, an entry of the common function. -/
theorem closing (h : Tame V0) (b : Fin 8) (s : Fin 8192) (l : Fin 1024) :
    rms (fun n => ((res_main_v62 V0 : FVec Ideal S8x8192x1024 .f32) (ix3 b s n) : EReal))
      (fun n => ((V0 (Proc.devRef .tc main_arg12) : FVec Ideal S1024 .f32) (ix1 n) : EReal)) l = GR V0 (ix3 b s l) := by
  rw [show (fun n => ((res_main_v62 V0 : FVec Ideal S8x8192x1024 .f32) (ix3 b s n) : EReal))
    = ffn (y2 V0 b s) (gGf V0) (gW13 V0) (gW2 V0) from funext fun n => r62 V0 b s n, y2_eq V0 h]
  rfl

/-- The reference's result array. -/
theorem ref_eq (h : Tame V0) :
    (mulf (mulf (res_main_v62 V0) (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf (res_main_v62 V0) (res_main_v62 V0)) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 (V0 (Proc.devRef .tc main_arg12)))) : FVec Ideal S8x8192x1024 .f32)
      = GR V0 := by
  funext i
  rw [show i = ix3 (i 0) (i 1) (i 2) from funext fun a => by
    match a with
    | ⟨0, _⟩ => rfl
    | ⟨1, _⟩ => rfl
    | ⟨2, _⟩ => rfl]
  exact (v75_gen _ _ _ _ _).trans (closing V0 h _ _ _)

end Cert.Join

end
-- ==== Proof.XPre.lean ====
/-
  The first layer's precondition read back: the arrays that its attention scores are computed from hold real numbers.
-/
module

public import proofs.«01_k».proof.Pre_plain_scores_finite
public import proofs.«01_k».proof.Proof.PreRead

@[expose] public section

set_option maxRecDepth 16384

noncomputable section

namespace Cert.XPre

open Idealize.ShloMosaic Cert.Pre_plain_scores_finite Cert.Row

/-- The side conditions of the predicate's operations hold. -/
instance facts : Cert.Pre_plain_scores_finite.Facts where
  bcast_S_S8x8192x1024 := by decide
  reducesTo_S8x8192x1024_S_d0_1_2 := by decide
  h_S_ := by decide
  bitsLt_bf16_f32 := by decide
  bcast_S_S8x256x1024 := by decide
  reducesTo_S8x256x1024_S_d0_1_2 := by decide
  bcast_S_S1024 := by decide
  reducesTo_S1024_S_d0 := by decide
  bcast_S_S1024x1024 := by decide
  reducesTo_S1024x1024_S_d0_1 := by decide

/-- There is one index of a scalar's shape. -/
instance : Subsingleton S_.Idx := ⟨fun _ _ => funext fun a => a.elim0⟩

/-- One array's share of the predicate: all its entries are real numbers. -/
theorem part {s : Shape} {axes : List (Fin s.rank)} (v : FVec Ideal s .f32) (hb : S_.BroadcastsInDim s ![])
    (hr : s.ReducesTo axes S_) (hu : 0 < S_.numel) (j : S_.Idx)
    (e : Host.reduce IntOp.andi (cmpf .olt (Host.absf v) (broadcastInDim s ![] hb (constant S_ .f32 0x7F800000#32)))
      (constantI S_ 1 1#1) hr hu j = 1#1) (i : s.Idx) : Fin' (v i : EReal) :=
  Cert.PreRead.abs_lt (Host.reduce_andi_all _ _ hr hu j e i)

/-- A conjunction of two one-bit words that is one has both of them one. -/
theorem split {a b : IVec S_ 1} {j : S_.Idx} (h : andi a b j = 1#1) : a j = 1#1 ∧ b j = 1#1 := IntOp.andi_eq_one.1 h

variable (a0 : FVec Ideal S8x8192x1024 .f32) (a1 a2 : FVec Ideal S8x256x1024 .bf16) (a3 : FVec Ideal S1024 .f32)
  (a4 a5 : FVec Ideal S1024x1024 .f32) (a6 : FVec Ideal S1024 .f32) (a7 : FVec Ideal S1024x5632 .f32)
  (a8 : FVec Ideal S2816x1024 .f32) (a9 : FVec Ideal S1024 .f32)

/-- The predicate says of four arrays that all their entries are real numbers. -/
theorem read (j : S_.Idx) (h : Cert.Pre_plain_scores_finite.fn (F := Ideal) a0 a1 a2 a3 a4 a5 a6 a7 a8 a9 j = 1#1) :
    (∀ i, Fin' (a0 i : EReal)) ∧ (∀ i, Fin' (a1 i : EReal)) ∧ (∀ i, Fin' (a3 i : EReal)) ∧ (∀ i, Fin' (a4 i : EReal)) := by
  unfold Cert.Pre_plain_scores_finite.fn Cert.Pre_plain_scores_finite.fn_part1 at h
  dsimp only at h
  obtain ⟨h, h4⟩ := split h
  obtain ⟨h, h3⟩ := split h
  obtain ⟨h0, h1⟩ := split h
  exact ⟨fun i => part _ _ _ _ j h0 i, fun i => part _ _ _ _ j h1 i, fun i => part _ _ _ _ j h3 i,
    fun i => part _ _ _ _ j h4 i⟩

end Cert.XPre

end
-- ==== Proof.XRef.lean ====
/-
  The first layer's reference result, read row by row.
-/
module

public import proofs.«01_k».proof.Proof.Gen.ReferenceXIdeal.Run
public import proofs.«01_k».proof.Proof.Row
public import Idealize.ShloMosaic.Lib.Pointwise

@[expose] public section

set_option maxRecDepth 16384

noncomputable section

namespace Cert.XRef

open Cert.ReferenceXIdeal Cert.ReferenceXIdeal.Gen Cert.ReferenceXIdeal.Value Idealize.ShloMosaic
  Idealize.ShloMosaic.TcCoe Idealize.SL.Sem Idealize.ShloMosaic.StableHlo Cert.Row

/-- The scaled scores, of the residual, the norm's gain, the query matrix and the keys. -/
def sc (x : FVec Ideal S8x8192x1024 .f32) (g : FVec Ideal S1024 .f32) (w : FVec Ideal S1024x1024 .f32)
    (k : FVec Ideal S8x256x1024 .bf16) : FVec Ideal S8x4x8192x256 .f32 :=
  mulf (Host.dotGeneral dot_S8x8192x4x256_S8x256x4x256_S8x4x8192x256_3_3_1_1_02_02 none (shapeCast _ (Host.dotGeneral dot_S8x8192x1024_S1024x1024_S8x8192x1024_2_0_01_1_n_n none (mulf (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))) w) shapeCasts_S8x8192x1024_S8x8192x4x256) (shapeCast _ (extf .f32 k bitsLt_bf16_f32) shapeCasts_S8x256x1024_S8x256x4x256)) (broadcastInDim S8x4x8192x256 ![] bcast_S_S8x4x8192x256 (constant S_ .f32 0x3D800000#32))

/-- The exponentials of scores less their maxima. -/
def ex (v : FVec Ideal S8x4x8192x256 .f32) : FVec Ideal S8x4x8192x256 .f32 :=
  Host.exp (subf v (broadcastInDim S8x4x8192x256 ![0, 1, 2, 3] bcast_S8x4x8192x1_S8x4x8192x256_0_1_2_3 (broadcastInDim S8x4x8192x1 ![0, 1, 2] bcast_S8x4x8192_S8x4x8192x1_0_1_2 (maximumf (broadcastInDim S8x4x8192 ![] bcast_S_S8x4x8192 (constant S_ .f32 0xFF800000#32)) (Host.reduce FloatOps.maximumf v (constant S_ .f32 0xFF800000#32) reducesTo_S8x4x8192x256_S8x4x8192_d3 h_S_)))))

/-- The residual after cross-attention, of the residual before it, the exponentials, the values and the output matrix. -/
def xa (x : FVec Ideal S8x8192x1024 .f32) (e : FVec Ideal S8x4x8192x256 .f32) (v : FVec Ideal S8x256x1024 .bf16)
    (w : FVec Ideal S1024x1024 .f32) : FVec Ideal S8x8192x1024 .f32 :=
  addf x (Host.dotGeneral dot_S8x8192x1024_S1024x1024_S8x8192x1024_2_0_01_1_n_n none (shapeCast _ (transpose S8x8192x4x256 [0, 3, 1, 2] (Host.dotGeneral dot_S8x256x4x256_S8x4x8192x256_S8x4x256x8192_1_3_3_2_02_01 none (shapeCast _ (extf .f32 v bitsLt_bf16_f32) shapeCasts_S8x256x1024_S8x256x4x256) (Host.divf e (broadcastInDim S8x4x8192x256 ![0, 1, 2, 3] bcast_S8x4x8192x1_S8x4x8192x256_0_1_2_3 (broadcastInDim S8x4x8192x1 ![0, 1, 2] bcast_S8x4x8192_S8x4x8192x1_0_1_2 (Host.reduceAdd e (constant S_ .f32 0x00000000#32) reducesTo_S8x4x8192x256_S8x4x8192_d3 h_S_))))) transposes_S8x4x256x8192_S8x8192x4x256_0_3_1_2) shapeCasts_S8x8192x4x256_S8x8192x1024) w)

/-- The feed-forward part's first product. -/
def up (y : FVec Ideal S8x8192x1024 .f32) (g : FVec Ideal S1024 .f32) (w : FVec Ideal S1024x5632 .f32) : FVec Ideal S8x8192x5632 .f32 :=
  Host.dotGeneral dot_S8x8192x1024_S1024x5632_S8x8192x5632_2_0_01_1_n_n none (mulf (mulf y (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf y y) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))) w

/-- The residual after the feed-forward part. -/
def dn (y : FVec Ideal S8x8192x1024 .f32) (u : FVec Ideal S8x8192x5632 .f32) (w : FVec Ideal S2816x1024 .f32) : FVec Ideal S8x8192x1024 .f32 :=
  addf y (Host.dotGeneral dot_S8x8192x2816_S2816x1024_S8x8192x1024_2_0_01_1_n_n none (mulf (mulf (extractStridedSlice S8x8192x2816 ![0, 0, 0] u slices_S8x8192x5632_S8x8192x2816_0_0_0) (Host.divf (broadcastInDim S8x8192x2816 ![] bcast_S_S8x8192x2816 (constant S_ .f32 0x3F800000#32)) (addf (broadcastInDim S8x8192x2816 ![] bcast_S_S8x8192x2816 (constant S_ .f32 0x3F800000#32)) (Host.exp (Host.negf (extractStridedSlice S8x8192x2816 ![0, 0, 0] u slices_S8x8192x5632_S8x8192x2816_0_0_0)))))) (extractStridedSlice S8x8192x2816 ![0, 0, 2816] u slices_S8x8192x5632_S8x8192x2816_0_0_2816)) w)

/-- A row of an array of tokens. -/
def row (x : FVec Ideal S8x8192x1024 .f32) (b : Fin 8) (s : Fin 8192) (n : Fin 1024) : EReal := x (ix3 b s n)

variable (b : Fin 8) (s : Fin 8192)

/-- The scaled scores, at an index. -/
theorem sc_at (x : FVec Ideal S8x8192x1024 .f32) (g : FVec Ideal S1024 .f32) (w : FVec Ideal S1024x1024 .f32)
    (k : FVec Ideal S8x256x1024 .bf16) (h : Fin 4) (l : Fin 256) :
    (sc x g w k (ix4 b h s l) : EReal)
      = score (lin (rms (fun n => (x (ix3 b s n) : EReal)) (fun n => g (ix1 n))) (fun i n => w (ix2 i n))) (fun j n => k (ix3 b j n)) h l := by
  unfold score lin rms col
  pointwise [sc]

/-- The maximum over a head's scores. -/
theorem hmax {F0 : Shape.ReducesTo S8x4x8192x256 [3] S8x4x8192} (v : FVec Ideal S8x4x8192x256 .f32) (c0 : FVec Ideal S_ .f32) (h : Fin 4) :
    Host.reduce (FloatOps.maximumf (F := Ideal) (φ := .f32)) v c0 F0 h_S_ (ix3 b h s)
      = (Finset.univ.fold max (c0 (Shape.Idx.first h_S_)) (fun x : Fin 256 => (v (ix4 b h s x) : EReal)) : EReal) := by
  refine (Host.reduce_eq_fold (α := EReal) max v c0 F0 h_S_ (ix3 b h s)).trans ?_
  exact (Shape.ReducesTo.fold_fiber_r4_a3 (n0 := 8) (n1 := 4) (n2 := 8192) (n3 := 256) F0 (ix3 b h s) (α := EReal) max _ v)

/-- The exponential of scores less their maximum `M`, at an index. -/
theorem ex_gen (v : FVec Ideal S8x4x8192x256 .f32) (M : FVec Ideal S8x4x8192 .f32) (h : Fin 4) (l : Fin 256) :
    ((Host.exp (subf v (broadcastInDim S8x4x8192x256 ![0, 1, 2, 3] bcast_S8x4x8192x1_S8x4x8192x256_0_1_2_3 (broadcastInDim S8x4x8192x1 ![0, 1, 2] bcast_S8x4x8192_S8x4x8192x1_0_1_2 (maximumf (broadcastInDim S8x4x8192 ![] bcast_S_S8x4x8192 (constant S_ .f32 0xFF800000#32)) M)))) : FVec Ideal S8x4x8192x256 .f32) (ix4 b h s l) : EReal)
      = Ideal.exp ((v (ix4 b h s l) : EReal) - max (Ideal.ofBits FTy.f32 0xFF800000#32) (M (ix3 b h s) : EReal)) := by
  pointwise

/-- The exponentials of the scores less their maximum. -/
theorem ex_at (v : FVec Ideal S8x4x8192x256 .f32) (h : Fin 4) (l : Fin 256) : (ex v (ix4 b h s l) : EReal)
    = Ideal.exp ((v (ix4 b h s l) : EReal) - max (Ideal.ofBits .f32 0xFF800000#32) (top (fun x => (v (ix4 b h s x) : EReal)))) := by
  unfold ex
  refine (ex_gen b s _ _ h l).trans ?_
  rw [hmax]
  rfl

/-- The residual after cross-attention, at an index. -/
theorem xa_at (x : FVec Ideal S8x8192x1024 .f32) (e : FVec Ideal S8x4x8192x256 .f32) (v : FVec Ideal S8x256x1024 .bf16)
    (w : FVec Ideal S1024x1024 .f32) (l : Fin 1024) : (xa x e v w (ix3 b s l) : EReal)
      = row x b s l + ∑ n : Fin 1024, (∑ j : Fin 256, (v (ix3 b j n) : EReal)
        * Ideal.div (e (ix4 b ⟨n.val / 256, by omega⟩ s j) : EReal)
          (∑ j' : Fin 256, (e (ix4 b ⟨n.val / 256, by omega⟩ s j') : EReal))) * (w (ix2 n l) : EReal) := by
  unfold row
  pointwise [xa]

/-- The feed-forward part's first product, at an index. -/
theorem up_at (y : FVec Ideal S8x8192x1024 .f32) (g : FVec Ideal S1024 .f32) (w : FVec Ideal S1024x5632 .f32) (l : Fin 5632) :
    (up y g w (ix3 b s l) : EReal) = lin (rms (row y b s) (fun n => g (ix1 n))) (fun k n => w (ix2 k n)) l := by
  unfold lin rms row
  pointwise [up]

/-- The residual after the feed-forward part, at an index. -/
theorem dn_at (y : FVec Ideal S8x8192x1024 .f32) (u : FVec Ideal S8x8192x5632 .f32) (w : FVec Ideal S2816x1024 .f32) (l : Fin 1024) :
    (dn y u w (ix3 b s l) : EReal) = row y b s l + lin (hid (fun n => (u (ix3 b s n) : EReal))) (fun k n => w (ix2 k n)) l := by
  unfold lin hid Ideal.logistic row
  pointwise [dn]

variable (m : (ℓ : Loc nD τ sig) → Buf (Elt Ideal) ℓ) (c : Dev nD)

/-- Argument rows and matrices of the reference, as functions of plain indices. -/
def gX (n : Fin 1024) : EReal := (m ((c.tc : Thread nD τ).loc main_arg0) : FVec Ideal S8x8192x1024 .f32) (ix3 b s n)
@[inherit_doc gX] def gK (j : Fin 256) (n : Fin 1024) : EReal := (m ((c.tc : Thread nD τ).loc main_arg1) : FVec Ideal S8x256x1024 .bf16) (ix3 b j n)
@[inherit_doc gX] def gV (j : Fin 256) (n : Fin 1024) : EReal := (m ((c.tc : Thread nD τ).loc main_arg2) : FVec Ideal S8x256x1024 .bf16) (ix3 b j n)
@[inherit_doc gX] def gGa (n : Fin 1024) : EReal := (m ((c.tc : Thread nD τ).loc main_arg3) : FVec Ideal S1024 .f32) (ix1 n)
@[inherit_doc gX] def gWq (k n : Fin 1024) : EReal := (m ((c.tc : Thread nD τ).loc main_arg4) : FVec Ideal S1024x1024 .f32) (ix2 k n)
@[inherit_doc gX] def gWo (k n : Fin 1024) : EReal := (m ((c.tc : Thread nD τ).loc main_arg5) : FVec Ideal S1024x1024 .f32) (ix2 k n)
@[inherit_doc gX] def gGf (n : Fin 1024) : EReal := (m ((c.tc : Thread nD τ).loc main_arg6) : FVec Ideal S1024 .f32) (ix1 n)
@[inherit_doc gX] def gW13 (k : Fin 1024) (n : Fin 5632) : EReal := (m ((c.tc : Thread nD τ).loc main_arg7) : FVec Ideal S1024x5632 .f32) (ix2 k n)
@[inherit_doc gX] def gW2 (k : Fin 2816) (n : Fin 1024) : EReal := (m ((c.tc : Thread nD τ).loc main_arg8) : FVec Ideal S2816x1024 .f32) (ix2 k n)

/-- The scores of the arguments. -/
def tS : FVec Ideal S8x4x8192x256 .f32 := sc (m ((c.tc : Thread nD τ).loc main_arg0)) (m ((c.tc : Thread nD τ).loc main_arg3))
  (m ((c.tc : Thread nD τ).loc main_arg4)) (m ((c.tc : Thread nD τ).loc main_arg1))

/-- The residual after cross-attention, of the arguments. -/
def tX : FVec Ideal S8x8192x1024 .f32 := xa (m ((c.tc : Thread nD τ).loc main_arg0)) (ex (tS m c))
  (m ((c.tc : Thread nD τ).loc main_arg2)) (m ((c.tc : Thread nD τ).loc main_arg5))

/-- The reference's result, of the arguments, is these steps one after another. -/
theorem res_eq : (res_main_v57 m c : FVec Ideal S8x8192x1024 .f32)
    = dn (tX m c) (up (tX m c) (m ((c.tc : Thread nD τ).loc main_arg6)) (m ((c.tc : Thread nD τ).loc main_arg7)))
      (m ((c.tc : Thread nD τ).loc main_arg8)) := by
  unfold res_main_v57 dn up tX xa ex tS sc
  rfl

/-- The queries of the row. -/
def qrow (n : Fin 1024) : EReal := lin (rms (gX b s m c) (gGa m c)) (gWq m c) n

/-- The scores of the row. -/
theorem tS_at (h : Fin 4) (l : Fin 256) : (tS m c (ix4 b h s l) : EReal) = score (qrow b s m c) (gK b m c) h l :=
  sc_at b s _ _ _ _ h l

/-- The heads' outputs as the reference writes them. -/
def hrow (n : Fin 1024) : EReal := attend' (score (qrow b s m c) (gK b m c) ⟨n.val / 256, by omega⟩) (fun j => gV b m c j n)

/-- The residual row after cross-attention, in the reference's form. -/
def y2 (n : Fin 1024) : EReal := gX b s m c n + lin (hrow b s m c) (gWo m c) n

/-- The residual after cross-attention, at an index. -/
theorem tX_at (l : Fin 1024) : (tX m c (ix3 b s l) : EReal) = y2 b s m c l := by
  unfold tX
  rw [xa_at]
  simp only [ex_at, tS_at]
  rfl

/-- The reference's result, at an index. -/
theorem res_at (l : Fin 1024) : ((res_main_v57 m c : FVec Ideal S8x8192x1024 .f32) (ix3 b s l) : EReal)
    = ffn (y2 b s m c) (gGf m c) (gW13 m c) (gW2 m c) l := by
  rw [res_eq, dn_at]
  have e : row (tX m c) b s = y2 b s m c := funext fun n => tX_at b s m c n
  simp only [up_at, e]
  rfl

end Cert.XRef

end
-- ==== Proof.XVal.lean ====
/-
  The first layer's fused body on one block, read row by row: cross-attention and SwiGLU, each with its residual.
-/
module

public import proofs.«01_k».proof.Proof.Gen.KernelXIdeal.Value
public import proofs.«01_k».proof.Proof.KVal

@[expose] public section

set_option maxRecDepth 16384

noncomputable section

namespace Cert.XVal

open Idealize.ShloMosaic Cert.KernelXIdeal Cert.KernelXIdeal.Gen Cert.Row

variable (x0 : Vec Ideal S1x512x1024 .f32)
  (x1 x2 : Vec Ideal S1x256x1024 .bf16) (x3 : Vec Ideal S1x1024 .f32) (x4 x5 : Vec Ideal S1024x1024 .bf16)
  (x6 : Vec Ideal S1x1024 .f32) (x7 : Vec Ideal S1024x5632 .bf16) (x8 : Vec Ideal S2816x1024 .bf16)
  (x9 : Vec Ideal S1x1024 .f32) (r : Fin 512)

/-- Row `r` of the residual stream, as the kernel's block holds it. -/
def row1 (n : Fin 1024) : EReal := x0 (ix3 0 r n)

/-- The first payload is the block's row. -/
theorem pay14_row (n : Fin 1024) :
    (k0_pay14 x0 x1 x2 x3 x4 x5 x6 x7 x8 x9 (ix2 r n) : EReal) = row1 x0 r n := by
  pointwise [k0_pay14, k0_pay2]
  rfl

/-- Row `r` of the queries: the normed row times the query weights. -/
theorem pay15_row (n : Fin 1024) :
    (k0_pay15 x0 x1 x2 x3 x4 x5 x6 x7 x8 x9 (ix2 r n) : EReal)
      = lin (rms (row1 x0 r) (fun n => x3 (ix2 0 n))) (fun k n => x4 (ix2 k n)) n := by
  pointwise [k0_pay15, k0_pay3, k0_pay2]
  rfl

/-- Row `r` after the cross-attention and its residual. -/
def row2 : Fin 1024 → EReal :=
  xattn (row1 x0 r) (fun n => x3 (ix2 0 n)) (fun k n => x4 (ix2 k n)) (fun k n => x5 (ix2 k n))
    (fun m n => x1 (ix3 0 m n)) (fun m n => x2 (ix3 0 m n))

/-- The body's row after cross-attention: the four heads side by side, times the output weights, added to the row. -/
theorem row2_eq (n : Fin 1024) :
    (k0_pay10 (F := Ideal) (k0_pay14 x0 x1 x2 x3 x4 x5 x6 x7 x8 x9) (k0_pay15 x0 x1 x2 x3 x4 x5 x6 x7 x8 x9)
      (k0_pay16 x0 x1 x2 x3 x4 x5 x6 x7 x8 x9) (k0_pay17 x0 x1 x2 x3 x4 x5 x6 x7 x8 x9)
      (k0_pay18 x0 x1 x2 x3 x4 x5 x6 x7 x8 x9) (k0_pay19 x0 x1 x2 x3 x4 x5 x6 x7 x8 x9)
      (View.ld x2 r0_5) (View.ld x1 r0_6) (View.ld x2 r0_6) (View.ld x5 r0_2) (ix2 r n) : EReal)
      = row2 x0 x1 x2 x3 x4 x5 r n := by
  have e := pay15_row x0 x1 x2 x3 x4 x5 x6 x7 x8 x9 r
  have e' : ∀ n, (k0_pay3 (F := Ideal) (View.ld x0 r0_0) (View.ld x3 r0_1) (View.ld x4 r0_2) (ix2 r n) : EReal) = _ := e
  have e1 := pay14_row x0 x1 x2 x3 x4 x5 x6 x7 x8 x9 r
  unfold row2 xattn
  generalize lin (rms (row1 x0 r) (fun n => x3 (ix2 0 n))) (fun k n => x4 (ix2 k n)) = q at e e' ⊢
  generalize row1 x0 r = x at e1 ⊢
  pointwise [k0_pay10, k0_pay16, k0_pay17, k0_pay18, k0_pay19, k0_pay9, k0_pay8, k0_pay7, k0_pay6, k0_pay5, k0_pay4]
  simp only [e, e', e1]
  refine congrArg (x n + ·) (Finset.sum_congr rfl fun n' _ => congrArg (· * (x5 (ix2 n' n) : EReal)) ?_)
  generalize n' = n
  obtain ⟨h, d, rfl⟩ : ∃ h d, n = col h d :=
    ⟨⟨n.val / 256, by omega⟩, ⟨n.val % 256, by omega⟩, Fin.ext (by simp [col]; omega)⟩
  have hc : (col h d).val = h.val * 256 + d.val := rfl
  match h with
  | ⟨0, _⟩ =>
    have h0 : (col 0 d).val < 256 := by show 0 * 256 + d.val < 256; omega
    refine (dif_pos h0).trans (Cert.KVal.head_eq q _ _ 0 d _ _ _ (fun x => ?_) (fun m x => ?_) fun m => ?_)
    · exact congrArg q (Fin.ext (by simp [col]))
    · exact congrArg (fun z => x1 (ix3 0 m z)) (Fin.ext (by simp [col]))
    · exact congrArg (fun z => x2 (ix3 0 m z)) (Fin.ext (by simp [col]))
  | ⟨1, _⟩ =>
    have h0 : ¬ (col 1 d).val < 256 := by show ¬ 1 * 256 + d.val < 256; omega
    have h1 : (col 1 d).val - 256 < 256 := by show 1 * 256 + d.val - 256 < 256; omega
    refine ((dif_neg h0).trans (dif_pos h1)).trans (Cert.KVal.head_eq q _ _ 1 d _ _ _ (fun x => ?_) (fun m x => ?_) fun m => ?_)
    · exact congrArg q (Fin.ext (by simp [col]))
    · exact congrArg (fun z => x1 (ix3 0 m z)) (Fin.ext (by simp [col]))
    · exact congrArg (fun z => x2 (ix3 0 m z)) (Fin.ext (by simp [col]))
  | ⟨2, _⟩ =>
    have h0 : ¬ (col 2 d).val < 256 := by show ¬ 2 * 256 + d.val < 256; omega
    have h1 : ¬ (col 2 d).val - 256 < 256 := by show ¬ 2 * 256 + d.val - 256 < 256; omega
    have h2 : (col 2 d).val - 256 - 256 < 256 := by show 2 * 256 + d.val - 256 - 256 < 256; omega
    refine (((dif_neg h0).trans (dif_neg h1)).trans (dif_pos h2)).trans
      (Cert.KVal.head_eq q _ _ 2 d _ _ _ (fun x => ?_) (fun m x => ?_) fun m => ?_)
    · exact congrArg q (Fin.ext (by simp [col]))
    · exact congrArg (fun z => x1 (ix3 0 m z)) (Fin.ext (by simp [col]))
    · exact congrArg (fun z => x2 (ix3 0 m z)) (Fin.ext (by simp [col]; omega))
  | ⟨3, _⟩ =>
    have h0 : ¬ (col 3 d).val < 256 := by show ¬ 3 * 256 + d.val < 256; omega
    have h1 : ¬ (col 3 d).val - 256 < 256 := by show ¬ 3 * 256 + d.val - 256 < 256; omega
    have h2 : ¬ (col 3 d).val - 256 - 256 < 256 := by show ¬ 3 * 256 + d.val - 256 - 256 < 256; omega
    refine (((dif_neg h0).trans (dif_neg h1)).trans (dif_neg h2)).trans
      (Cert.KVal.head_eq q _ _ 3 d _ _ _ (fun x => ?_) (fun m x => ?_) fun m => ?_)
    · exact congrArg q (Fin.ext (by simp [col]))
    · exact congrArg (fun z => x1 (ix3 0 m z)) (Fin.ext (by simp [col]))
    · exact congrArg (fun z => x2 (ix3 0 m z)) (Fin.ext (by simp [col]; omega))

/-- What the body leaves at row `r`, column `l` of the output buffer. -/
theorem out_row (l : Fin 1024) :
    (out0_10 x0 x1 x2 x3 x4 x5 x6 x7 x8 x9 (ix3 0 r l) : EReal)
      = ffn (row2 x0 x1 x2 x3 x4 x5 r) (fun n => x6 (ix2 0 n)) (fun k n => x7 (ix2 k n)) (fun k n => x8 (ix2 k n)) l := by
  have hz3 : (![0, 0, 0] : Fin 3 → Nat) = fun _ => 0 := funext fun a => by fin_cases a <;> rfl
  have e := row2_eq x0 x1 x2 x3 x4 x5 x6 x7 x8 x9 r
  unfold out0_10
  rw [View.canon_unit_zero hz3]
  generalize k0_pay14 x0 x1 x2 x3 x4 x5 x6 x7 x8 x9 = a at e ⊢
  generalize k0_pay15 x0 x1 x2 x3 x4 x5 x6 x7 x8 x9 = b at e ⊢
  generalize k0_pay16 x0 x1 x2 x3 x4 x5 x6 x7 x8 x9 = c at e ⊢
  generalize k0_pay17 x0 x1 x2 x3 x4 x5 x6 x7 x8 x9 = d at e ⊢
  generalize k0_pay18 x0 x1 x2 x3 x4 x5 x6 x7 x8 x9 = f at e ⊢
  generalize k0_pay19 x0 x1 x2 x3 x4 x5 x6 x7 x8 x9 = g at e ⊢
  generalize row2 x0 x1 x2 x3 x4 x5 r = y at e ⊢
  pointwise [k0_pay1, k0_pay11, k0_pay12, k0_pay13]
  simp only [e]
  rw [ffn_halves]
  rfl

end Cert.XVal

end
-- ==== Proof.XBlk.lean ====
/-
  The first layer's second half: which rows each grid point reads and writes, so that the result array is the row
  function of the argument arrays.
-/
module

public import proofs.«01_k».proof.Proof.XVal
public import Idealize.ShloMosaic.Lib.Pipeline.ValueKit.Geometry

@[expose] public section

set_option maxRecDepth 16384

noncomputable section

namespace Cert.XBlk

open Cert.KernelXIdeal Cert.KernelXIdeal.Gen Idealize.ShloMosaic Idealize.ShloMosaic.TcCoe Idealize.SL.Sem
  Idealize.ShloMosaic.StableHlo Cert.Row

/-- The batch row of grid point `t`. -/
def pb (t : Fin cfg0.N) : Fin 8 := ⟨(grid0.coords t 0).val, (grid0.coords t 0).isLt⟩

/-- Row `r` of the block of grid point `t`, as a token of its batch row. -/
def ps (t : Fin cfg0.N) (r : Fin 512) : Fin 8192 :=
  ⟨(grid0.coords t 1).val * 512 + r.val, by have h : (grid0.coords t 1).val < 16 := (grid0.coords t 1).isLt; omega⟩

variable (m : (ℓ : Loc nD τ sig) → Buf (Elt Ideal) ℓ) (c : Dev nD)

/-- Which block window 0 holds at a grid point. -/
theorem e0 : ∀ t : Fin cfg0.N, win0_0.index t = ![(grid0.coords t 0).val, (grid0.coords t 1).val, 0] :=
  (by decide +kernel : ∀ t : Fin grid0.N, _)

/-- Which block window 1 holds at a grid point. -/
theorem e1 : ∀ t : Fin cfg0.N, win0_1.index t = ![(grid0.coords t 0).val, 0, 0] :=
  (by decide +kernel : ∀ t : Fin grid0.N, _)

/-- Which block window 2 holds at a grid point. -/
theorem e2 : ∀ t : Fin cfg0.N, win0_2.index t = ![(grid0.coords t 0).val, 0, 0] :=
  (by decide +kernel : ∀ t : Fin grid0.N, _)

/-- Which block window 3 holds at a grid point. -/
theorem e3 : ∀ t : Fin cfg0.N, win0_3.index t = ![0, 0] :=
  (by decide +kernel : ∀ t : Fin grid0.N, _)

/-- Which block window 4 holds at a grid point. -/
theorem e4 : ∀ t : Fin cfg0.N, win0_4.index t = ![0, 0] :=
  (by decide +kernel : ∀ t : Fin grid0.N, _)

/-- Which block window 5 holds at a grid point. -/
theorem e5 : ∀ t : Fin cfg0.N, win0_5.index t = ![0, 0] :=
  (by decide +kernel : ∀ t : Fin grid0.N, _)

/-- Which block window 6 holds at a grid point. -/
theorem e6 : ∀ t : Fin cfg0.N, win0_6.index t = ![0, 0] :=
  (by decide +kernel : ∀ t : Fin grid0.N, _)

/-- Which block window 7 holds at a grid point. -/
theorem e7 : ∀ t : Fin cfg0.N, win0_7.index t = ![0, 0] :=
  (by decide +kernel : ∀ t : Fin grid0.N, _)

/-- Which block window 8 holds at a grid point. -/
theorem e8 : ∀ t : Fin cfg0.N, win0_8.index t = ![0, 0] :=
  (by decide +kernel : ∀ t : Fin grid0.N, _)

/-- Which block window 10 holds at a grid point. -/
theorem e10 : ∀ t : Fin cfg0.N, win0_10.index t = ![(grid0.coords t 0).val, (grid0.coords t 1).val, 0] :=
  (by decide +kernel : ∀ t : Fin grid0.N, _)

/-- Before the grid runs, the host has only changed the precision of argument 4. -/
theorem Vv1 : (V m c main_v1 : FVec Ideal S1024x1024 .bf16) = (m ((c : Thread nD τ).loc main_arg4) : FVec Ideal S1024x1024 .f32) := by
  show StableHlo.after hostOps0 (fun b => m (c, b)) (Proc.devRef .tc main_v1) = _
  simp only [hostOps0]
  after_results_simp
  rfl

/-- Before the grid runs, the host has only changed the precision of argument 5. -/
theorem Vv2 : (V m c main_v2 : FVec Ideal S1024x1024 .bf16) = (m ((c : Thread nD τ).loc main_arg5) : FVec Ideal S1024x1024 .f32) := by
  show StableHlo.after hostOps0 (fun b => m (c, b)) (Proc.devRef .tc main_v2) = _
  simp only [hostOps0]
  after_results_simp
  rfl

/-- Before the grid runs, the host has only changed the precision of argument 7. -/
theorem Vv4 : (V m c main_v4 : FVec Ideal S1024x5632 .bf16) = (m ((c : Thread nD τ).loc main_arg7) : FVec Ideal S1024x5632 .f32) := by
  show StableHlo.after hostOps0 (fun b => m (c, b)) (Proc.devRef .tc main_v4) = _
  simp only [hostOps0]
  after_results_simp
  rfl

/-- Before the grid runs, the host has only changed the precision of argument 8. -/
theorem Vv5 : (V m c main_v5 : FVec Ideal S2816x1024 .bf16) = (m ((c : Thread nD τ).loc main_arg8) : FVec Ideal S2816x1024 .f32) := by
  show StableHlo.after hostOps0 (fun b => m (c, b)) (Proc.devRef .tc main_v5) = _
  simp only [hostOps0]
  after_results_simp
  rfl

/-- Before the grid runs, the host has only given argument 3 a leading axis of one. -/
theorem Vv0 (n : Fin 1024) : ((V m c main_v0 : FVec Ideal S1x1024 .f32) (ix2 0 n) : EReal) = (m ((c : Thread nD τ).loc main_arg3) : FVec Ideal S1024 .f32) (ix1 n) := by
  have h : (V m c main_v0 : FVec Ideal S1x1024 .f32) = shapeCast S1x1024 (m ((c : Thread nD τ).loc main_arg3) : FVec Ideal S1024 .f32) shapeCasts_S1024_S1x1024 := by
    show StableHlo.after hostOps0 (fun b => m (c, b)) (Proc.devRef .tc main_v0) = _
    simp only [hostOps0]
    after_results_simp
    rfl
  rw [h]
  pointwise

/-- Before the grid runs, the host has only given argument 6 a leading axis of one. -/
theorem Vv3 (n : Fin 1024) : ((V m c main_v3 : FVec Ideal S1x1024 .f32) (ix2 0 n) : EReal) = (m ((c : Thread nD τ).loc main_arg6) : FVec Ideal S1024 .f32) (ix1 n) := by
  have h : (V m c main_v3 : FVec Ideal S1x1024 .f32) = shapeCast S1x1024 (m ((c : Thread nD τ).loc main_arg6) : FVec Ideal S1024 .f32) shapeCasts_S1024_S1x1024 := by
    show StableHlo.after hostOps0 (fun b => m (c, b)) (Proc.devRef .tc main_v3) = _
    simp only [hostOps0]
    after_results_simp
    rfl
  rw [h]
  pointwise

/-- Window 0's block at a grid point, at an index. -/
theorem i0 (t : Fin cfg0.N) (r : Fin 512) (k : Fin 1024) :
    (iblk m c 0 t (ix3 0 r k) : EReal) = (m ((c : Thread nD τ).loc main_arg0) : FVec Ideal S8x8192x1024 .f32) (ix3 (pb t) (ps t r) k) := by
  blk_simp [iblk]
  refine (congrFun (V_main_arg0 m c) _).trans ?_
  refine congrArg (m ((c : Thread nD τ).loc main_arg0)) ?_
  blk_ext [e0] <;> rfl

/-- Window 1's block at a grid point, at an index. -/
theorem i1 (t : Fin cfg0.N) (r : Fin 256) (k : Fin 1024) :
    (iblk m c 1 t (ix3 0 r k) : EReal) = (m ((c : Thread nD τ).loc main_arg1) : FVec Ideal S8x256x1024 .f32) (ix3 (pb t) r k) := by
  blk_simp [iblk]
  refine (congrFun (V_main_arg1 m c) _).trans ?_
  refine congrArg (m ((c : Thread nD τ).loc main_arg1)) ?_
  blk_ext [e1] <;> rfl

/-- Window 2's block at a grid point, at an index. -/
theorem i2 (t : Fin cfg0.N) (r : Fin 256) (k : Fin 1024) :
    (iblk m c 2 t (ix3 0 r k) : EReal) = (m ((c : Thread nD τ).loc main_arg2) : FVec Ideal S8x256x1024 .f32) (ix3 (pb t) r k) := by
  blk_simp [iblk]
  refine (congrFun (V_main_arg2 m c) _).trans ?_
  refine congrArg (m ((c : Thread nD τ).loc main_arg2)) ?_
  blk_ext [e2] <;> rfl

/-- Window 4 holds a whole matrix at every grid point. -/
theorem i4 (t : Fin cfg0.N) (r : Fin 1024) (k : Fin 1024) :
    (iblk m c 4 t (ix2 r k) : EReal) = (m ((c : Thread nD τ).loc main_arg4) : FVec Ideal S1024x1024 .f32) (ix2 r k) := by
  blk_simp [iblk]
  refine (congrFun (Vv1 m c) _).trans ?_
  refine congrArg (m ((c : Thread nD τ).loc main_arg4)) ?_
  blk_ext [e4]

/-- Window 5 holds a whole matrix at every grid point. -/
theorem i5 (t : Fin cfg0.N) (r : Fin 1024) (k : Fin 1024) :
    (iblk m c 5 t (ix2 r k) : EReal) = (m ((c : Thread nD τ).loc main_arg5) : FVec Ideal S1024x1024 .f32) (ix2 r k) := by
  blk_simp [iblk]
  refine (congrFun (Vv2 m c) _).trans ?_
  refine congrArg (m ((c : Thread nD τ).loc main_arg5)) ?_
  blk_ext [e5]

/-- Window 7 holds a whole matrix at every grid point. -/
theorem i7 (t : Fin cfg0.N) (r : Fin 1024) (k : Fin 5632) :
    (iblk m c 7 t (ix2 r k) : EReal) = (m ((c : Thread nD τ).loc main_arg7) : FVec Ideal S1024x5632 .f32) (ix2 r k) := by
  blk_simp [iblk]
  refine (congrFun (Vv4 m c) _).trans ?_
  refine congrArg (m ((c : Thread nD τ).loc main_arg7)) ?_
  blk_ext [e7]

/-- Window 8 holds a whole matrix at every grid point. -/
theorem i8 (t : Fin cfg0.N) (r : Fin 2816) (k : Fin 1024) :
    (iblk m c 8 t (ix2 r k) : EReal) = (m ((c : Thread nD τ).loc main_arg8) : FVec Ideal S2816x1024 .f32) (ix2 r k) := by
  blk_simp [iblk]
  refine (congrFun (Vv5 m c) _).trans ?_
  refine congrArg (m ((c : Thread nD τ).loc main_arg8)) ?_
  blk_ext [e8]

/-- Window 3 holds a whole gain vector at every grid point. -/
theorem i3 (t : Fin cfg0.N) (k : Fin 1024) :
    (iblk m c 3 t (ix2 0 k) : EReal) = (m ((c : Thread nD τ).loc main_arg3) : FVec Ideal S1024 .f32) (ix1 k) := by
  refine Eq.trans ?_ (Vv0 m c k)
  blk_simp [iblk]
  refine congrArg (V m c main_v0) ?_
  blk_ext [e3]

/-- Window 6 holds a whole gain vector at every grid point. -/
theorem i6 (t : Fin cfg0.N) (k : Fin 1024) :
    (iblk m c 6 t (ix2 0 k) : EReal) = (m ((c : Thread nD τ).loc main_arg6) : FVec Ideal S1024 .f32) (ix1 k) := by
  refine Eq.trans ?_ (Vv3 m c k)
  blk_simp [iblk]
  refine congrArg (V m c main_v3) ?_
  blk_ext [e6]

/-- The blocks the grid writes cover the result array. -/
theorem cov : (cfg0.win 10).Covers := by decide +kernel

/-- One entry of the layer's second half, of rows and matrices. -/
def out (x ga : Fin 1024 → EReal) (wq wo : Fin 1024 → Fin 1024 → EReal) (k v : Fin 256 → Fin 1024 → EReal)
    (gf : Fin 1024 → EReal) (w13 : Fin 1024 → Fin 5632 → EReal) (w2 : Fin 2816 → Fin 1024 → EReal) (l : Fin 1024) : EReal :=
  ffn (xattn x ga wq wo k v) gf w13 w2 l

/-- The result array as one function of the argument arrays. -/
def G : FVec Ideal S8x8192x1024 .f32 := fun i =>
  out (fun n => (m ((c : Thread nD τ).loc main_arg0) : FVec Ideal S8x8192x1024 .f32) (ix3 (i 0) (i 1) n))
    (fun n => (m ((c : Thread nD τ).loc main_arg3) : FVec Ideal S1024 .f32) (ix1 n))
    (fun k n => (m ((c : Thread nD τ).loc main_arg4) : FVec Ideal S1024x1024 .f32) (ix2 k n))
    (fun k n => (m ((c : Thread nD τ).loc main_arg5) : FVec Ideal S1024x1024 .f32) (ix2 k n))
    (fun k n => (m ((c : Thread nD τ).loc main_arg1) : FVec Ideal S8x256x1024 .f32) (ix3 (i 0) k n))
    (fun k n => (m ((c : Thread nD τ).loc main_arg2) : FVec Ideal S8x256x1024 .f32) (ix3 (i 0) k n))
    (fun n => (m ((c : Thread nD τ).loc main_arg6) : FVec Ideal S1024 .f32) (ix1 n))
    (fun k n => (m ((c : Thread nD τ).loc main_arg7) : FVec Ideal S1024x5632 .f32) (ix2 k n))
    (fun k n => (m ((c : Thread nD τ).loc main_arg8) : FVec Ideal S2816x1024 .f32) (ix2 k n)) (i 2)

/-- What a grid point leaves in its output block, at an index. -/
theorem blk_out (t : Fin cfg0.N) (r : Fin 512) (l : Fin 1024) :
    (out0_10 (iblk m c 0 t) (iblk m c 1 t) (iblk m c 2 t) (iblk m c 3 t) (iblk m c 4 t) (iblk m c 5 t) (iblk m c 6 t)
      (iblk m c 7 t) (iblk m c 8 t) (iblk m c 9 t) (ix3 0 r l) : EReal)
      = G m c (ix3 (pb t) (ps t r) l) := by
  refine (Cert.XVal.out_row _ _ _ _ _ _ _ _ _ _ r l).trans ?_
  unfold Cert.XVal.row2 Cert.XVal.row1
  simp only [i0, i1, i2, i3, i4, i5, i6, i7, i8]
  rfl

/-- The result array after the grid has run. -/
theorem final : (dats m 0 c).arrAt 10 cfg0.N = G m c := by
  refine (dats m 0 c).arrAt_eq_of_covers 10 _ cov fun t hf y => ?_
  blk_simp
  rw [after0_10]
  have hy : y = ix3 0 (y 1) (y 2) := by
    funext a
    match a with
    | ⟨0, _⟩ => exact Subsingleton.elim (α := Fin 1) _ _
    | ⟨1, _⟩ => rfl
    | ⟨2, _⟩ => rfl
  refine (congrArg _ hy).trans ((blk_out m c t (y 1) (y 2)).trans (congrArg (G m c) ?_))
  blk_ext [e10] <;> rfl

end Cert.XBlk

end
-- ==== Proof.XJoin.lean ====
/-
  The first layer's second half: on equal arguments, with finite scores, the kernel and the reference leave the same result.
-/
module

public import proofs.«01_k».proof.Proof.XRef
public import proofs.«01_k».proof.Proof.XBlk
public import proofs.«01_k».proof.Proof.XPre
public import proofs.«01_k».proof.Proof.Gen.KernelXIdeal.Value
public import proofs.«01_k».proof.Defs
public import Idealize.ShloMosaic.Adequacy

@[expose] public section

set_option maxRecDepth 16384

noncomputable section

namespace Cert.XJoin

open Cert.ReferenceXIdeal Cert.ReferenceXIdeal.Gen Cert.ReferenceXIdeal.Value Idealize.ShloMosaic
  Idealize.ShloMosaic.TcCoe Idealize.SL.Sem Idealize.ShloMosaic.StableHlo Cert.Row Cert.XRef

variable (m : (ℓ : Loc nD τ sig) → Buf (Elt Ideal) ℓ) (c : Dev nD)

/-- The result array as one function of the arguments. -/
def GR : FVec Ideal S8x8192x1024 .f32 := fun i =>
  Cert.XBlk.out (gX (i 0) (i 1) m c) (gGa m c) (gWq m c) (gWo m c) (gK (i 0) m c) (gV (i 0) m c) (gGf m c) (gW13 m c) (gW2 m c) (i 2)

/-- Every entry of the four arrays that the scores are computed from is a real number. -/
structure Tame : Prop where
  x : ∀ b s n, Fin' (gX b s m c n)
  k : ∀ b j n, Fin' (gK b m c j n)
  ga : ∀ n, Fin' (gGa m c n)
  wq : ∀ k n, Fin' (gWq m c k n)

variable {m c}

/-- Then every score is a real number. -/
theorem Tame.score (h : Tame m c) (b : Fin 8) (s : Fin 8192) (hd : Fin 4) (j : Fin 256) :
    Fin' (score (qrow b s m c) (gK b m c) hd j) :=
  (Fin'.sum _ fun d => (Fin'.lin (Fin'.rms (h.x b s) h.ga) h.wq _).mul (h.k b j _)).mul ofBits_sixteenth

/-- The reference's row after cross-attention is the kernel's. -/
theorem y2_eq (h : Tame m c) (b : Fin 8) (s : Fin 8192) :
    y2 b s m c = xattn (gX b s m c) (gGa m c) (gWq m c) (gWo m c) (gK b m c) (gV b m c) := by
  have e : hrow b s m c = heads (qrow b s m c) (gK b m c) (gV b m c) :=
    funext fun n => attend'_eq (h.score b s _)
  funext n
  show gX b s m c n + lin (hrow b s m c) (gWo m c) n = _
  rw [e]
  rfl

/-- The reference's result, an entry of the common function. -/
theorem ref_at (h : Tame m c) (b : Fin 8) (s : Fin 8192) (l : Fin 1024) :
    (res_main_v57 m c : FVec Ideal S8x8192x1024 .f32) (ix3 b s l) = GR m c (ix3 b s l) := by
  refine (res_at b s m c l).trans ?_
  rw [y2_eq h]
  rfl

/-- The reference's result array. -/
theorem ref_eq (h : Tame m c) : (res_main_v57 m c : FVec Ideal S8x8192x1024 .f32) = GR m c := by
  funext i
  rw [show i = ix3 (i 0) (i 1) (i 2) from funext fun a => by
    match a with
    | ⟨0, _⟩ => rfl
    | ⟨1, _⟩ => rfl
    | ⟨2, _⟩ => rfl]
  exact ref_at h _ _ _

/-- The reference runs and leaves its arguments as they were. -/
theorem frameRef : Cert.quiescent_ReferenceXIdeal := fun m g _ =>
  (θ_run Cert.ReferenceXIdeal.defs _ _).mono (fun r h => ⟨fun c => (h c).2, sem_eq_zero_of_no_sems (by decide) r.2⟩)
    (Cert.ReferenceXIdeal.Value.run (F := Ideal) m g)

/-- On equal arguments the kernel's function of the launch memory is the reference's. -/
theorem G_eq (m' : (ℓ : Loc Cert.KernelXIdeal.nD Cert.KernelXIdeal.τ Cert.KernelXIdeal.sig) → Buf (Elt Ideal) ℓ)
    (d : Dev Cert.KernelXIdeal.nD)
    (h0 : m ((c.tc : Thread nD τ).loc main_arg0) = m' ((d.tc : Thread Cert.KernelXIdeal.nD Cert.KernelXIdeal.τ).loc Cert.KernelXIdeal.main_arg0))
    (h1 : m ((c.tc : Thread nD τ).loc main_arg1) = m' ((d.tc : Thread Cert.KernelXIdeal.nD Cert.KernelXIdeal.τ).loc Cert.KernelXIdeal.main_arg1))
    (h2 : m ((c.tc : Thread nD τ).loc main_arg2) = m' ((d.tc : Thread Cert.KernelXIdeal.nD Cert.KernelXIdeal.τ).loc Cert.KernelXIdeal.main_arg2))
    (h3 : m ((c.tc : Thread nD τ).loc main_arg3) = m' ((d.tc : Thread Cert.KernelXIdeal.nD Cert.KernelXIdeal.τ).loc Cert.KernelXIdeal.main_arg3))
    (h4 : m ((c.tc : Thread nD τ).loc main_arg4) = m' ((d.tc : Thread Cert.KernelXIdeal.nD Cert.KernelXIdeal.τ).loc Cert.KernelXIdeal.main_arg4))
    (h5 : m ((c.tc : Thread nD τ).loc main_arg5) = m' ((d.tc : Thread Cert.KernelXIdeal.nD Cert.KernelXIdeal.τ).loc Cert.KernelXIdeal.main_arg5))
    (h6 : m ((c.tc : Thread nD τ).loc main_arg6) = m' ((d.tc : Thread Cert.KernelXIdeal.nD Cert.KernelXIdeal.τ).loc Cert.KernelXIdeal.main_arg6))
    (h7 : m ((c.tc : Thread nD τ).loc main_arg7) = m' ((d.tc : Thread Cert.KernelXIdeal.nD Cert.KernelXIdeal.τ).loc Cert.KernelXIdeal.main_arg7))
    (h8 : m ((c.tc : Thread nD τ).loc main_arg8) = m' ((d.tc : Thread Cert.KernelXIdeal.nD Cert.KernelXIdeal.τ).loc Cert.KernelXIdeal.main_arg8)) :
    GR m c = Cert.XBlk.G m' d := by
  unfold GR Cert.XBlk.G gX gK gV gGa gWq gWo gGf gW13 gW2
  rw [h0, h1, h2, h3, h4, h5, h6, h7, h8]

/-- The kernel and the reference, at exact arithmetic, leave the same result. -/
theorem algebraic : Cert.algebraic_KernelXIdeal_ReferenceXIdeal_pre_plain_scores_finite := by
  intro m g m' g' hpre hag
  refine ⟨fun c => Cert.XBlk.G m c,
    (θ_run Cert.KernelXIdeal.defs _ _).mono (fun r h c => ⟨(h c).1.trans (Cert.XBlk.final m c), (h c).2⟩)
      (Cert.KernelXIdeal.Value.run_blocks m g),
    (θ_run Cert.ReferenceXIdeal.defs _ _).mono (fun r h c => ⟨(h c).1.trans ?_, (h c).2⟩)
      (Cert.ReferenceXIdeal.Value.run (F := Ideal) m' g')⟩
  obtain ⟨h0, h1, h2, h3, h4, h5, h6, h7, h8, _⟩ := hag c
  obtain ⟨p0, p1, p3, p4⟩ := Cert.XPre.read _ _ _ _ _ _ _ _ _ _ (fun a => a.elim0) (congrFun (hpre c) _)
  refine (ref_eq ?_).trans (G_eq m c h0 h1 h2 h3 h4 h5 h6 h7 h8)
  exact {
    x := fun b s n => by unfold gX; exact (congrArg Fin' (congrFun h0 _)).mpr (p0 _)
    k := fun b j n => by unfold gK; exact (congrArg Fin' (congrFun h1 _)).mpr (p1 _)
    ga := fun n => by unfold gGa; exact (congrArg Fin' (congrFun h3 _)).mpr (p3 _)
    wq := fun k n => by unfold gWq; exact (congrArg Fin' (congrFun h4 _)).mpr (p4 _) }

end Cert.XJoin

end
-- ==== Proof.MRef.lean ====
/-
  The reference's keys and values of the memory, read at an index.
-/
module

public import proofs.«01_k».proof.Proof.Gen.ReferenceMIdeal.Run
public import proofs.«01_k».proof.Proof.Row
public import Idealize.ShloMosaic.Lib.Pointwise

@[expose] public section

set_option maxRecDepth 16384

noncomputable section

namespace Cert.MRef

open Cert.ReferenceMIdeal Cert.ReferenceMIdeal.Gen Cert.ReferenceMIdeal.Value Idealize.ShloMosaic
  Idealize.ShloMosaic.TcCoe Idealize.SL.Sem Idealize.ShloMosaic.StableHlo Cert.Row

variable (x : FVec Ideal S8x256x1024 .f32) (g : FVec Ideal S2x1024 .f32) (w : FVec Ideal S2x1024x2048 .f32)

/-- Both layers' products of the normalised memory. -/
def kv : FVec Ideal S2x8x256x2048 .f32 :=
  concatenate S2x8x256x2048 0 [⟨S1x8x256x2048, (broadcastInDim S1x8x256x2048 ![1, 2, 3] bcast_S8x256x2048_S1x8x256x2048_1_2_3 (Host.dotGeneral dot_S8x256x1024_S1024x2048_S8x256x2048_2_0_01_1_n_n none (mulf (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ (extractStridedSlice S1x1024 ![0, 0] g slices_S2x1024_S1x1024_0_0) shapeCasts_S1x1024_S1024)))) (shapeCast _ (extractStridedSlice S1x1024x2048 ![0, 0, 0] w slices_S2x1024x2048_S1x1024x2048_0_0_0) shapeCasts_S1x1024x2048_S1024x2048)))⟩, ⟨S1x8x256x2048, (broadcastInDim S1x8x256x2048 ![1, 2, 3] bcast_S8x256x2048_S1x8x256x2048_1_2_3 (Host.dotGeneral dot_S8x256x1024_S1024x2048_S8x256x2048_2_0_01_1_n_n none (mulf (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ (extractStridedSlice S1x1024 ![1, 0] g slices_S2x1024_S1x1024_1_0) shapeCasts_S1x1024_S1024)))) (shapeCast _ (extractStridedSlice S1x1024x2048 ![1, 0, 0] w slices_S2x1024x2048_S1x1024x2048_1_0_0) shapeCasts_S1x1024x2048_S1024x2048)))⟩] concatenates_S1x8x256x2048_S1x8x256x2048_S2x8x256x2048_d0

/-- Both layers' keys. -/
def keys : FVec Ideal S2x8x256x1024 .bf16 :=
  truncf .bf16 (extractStridedSlice S2x8x256x1024 ![0, 0, 0, 0] (kv x g w) slices_S2x8x256x2048_S2x8x256x1024_0_0_0_0) bitsLt_bf16_f32

/-- Both layers' values. -/
def vals : FVec Ideal S2x8x256x1024 .bf16 :=
  truncf .bf16 (extractStridedSlice S2x8x256x1024 ![0, 0, 0, 1024] (kv x g w) slices_S2x8x256x2048_S2x8x256x1024_0_0_0_1024) bitsLt_bf16_f32

/-- One entry of the memory's keys and values, of a layer, a batch row, a slot and a column. -/
def ent (a : Fin 2) (b : Fin 8) (r : Fin 256) (l : Fin 2048) : EReal :=
  lin (rms (fun n => (x (ix3 b r n) : EReal)) (fun n => (g (ix2 a n) : EReal))) (fun k n => (w (ix3 a k n) : EReal)) l

/-- The keys at an index. -/
theorem keys_at (a : Fin 2) (b : Fin 8) (r : Fin 256) (l : Fin 1024) :
    (keys x g w (ix4 a b r l) : EReal) = ent x g w a b r ⟨l.val, by omega⟩ := by
  unfold ent lin rms
  match a with
  | ⟨0, _⟩ => pointwise [keys, kv]
  | ⟨1, _⟩ => pointwise [keys, kv]

/-- The values at an index. -/
theorem vals_at (a : Fin 2) (b : Fin 8) (r : Fin 256) (l : Fin 1024) :
    (vals x g w (ix4 a b r l) : EReal) = ent x g w a b r ⟨1024 + l.val, by omega⟩ := by
  unfold ent lin rms
  match a with
  | ⟨0, _⟩ => pointwise [vals, kv]
  | ⟨1, _⟩ => pointwise [vals, kv]

end Cert.MRef

end
-- ==== Proof.MBlk.lean ====
/-
  The memory's keys and values: what the kernel's body computes and which block each grid point reads and writes.
-/
module

public import proofs.«01_k».proof.Proof.Gen.KernelMIdeal.Frame
public import proofs.«01_k».proof.Proof.Row
public import Idealize.ShloMosaic.Lib.Pointwise
public import Idealize.ShloMosaic.Lib.Pipeline.ValueKit.Geometry

@[expose] public section

set_option maxRecDepth 16384

noncomputable section

namespace Cert.MBlk

open Cert.KernelMIdeal Cert.KernelMIdeal.Gen Idealize.ShloMosaic Idealize.ShloMosaic.TcCoe Idealize.SL.Sem
  Idealize.ShloMosaic.StableHlo Cert.Row

/-- The layer of grid point `t`. -/
def pa (t : Fin cfg0.N) : Fin 2 := ⟨(grid0.coords t 0).val, (grid0.coords t 0).isLt⟩

/-- The batch row of grid point `t`. -/
def pb (t : Fin cfg0.N) : Fin 8 := ⟨(grid0.coords t 1).val, (grid0.coords t 1).isLt⟩

/-- What the body leaves in the keys' buffer, at an index. -/
theorem out_k (x0 : Vec Ideal S1x256x1024 .f32) (x1 : Vec Ideal S1x1x1024 .f32) (x2 : Vec Ideal S1x1024x2048 .bf16)
    (r : Fin 256) (l : Fin 1024) : (out0_3 x0 x1 x2 (ix4 0 0 r l) : EReal)
      = lin (rms (fun n => (x0 (ix3 0 r n) : EReal)) (fun n => (x1 (ix3 0 0 n) : EReal))) (fun k n => (x2 (ix3 0 k n) : EReal)) ⟨l.val, by omega⟩ := by
  have hz : (![0, 0, 0, 0] : Fin 4 → Nat) = fun _ => 0 := funext fun a => by fin_cases a <;> rfl
  unfold out0_3
  rw [View.canon_unit_zero hz]
  unfold lin rms
  pointwise [k0_pay1, k0_pay2]

/-- What the body leaves in the values' buffer, at an index. -/
theorem out_v (x0 : Vec Ideal S1x256x1024 .f32) (x1 : Vec Ideal S1x1x1024 .f32) (x2 : Vec Ideal S1x1024x2048 .bf16)
    (r : Fin 256) (l : Fin 1024) : (out0_4 x0 x1 x2 (ix4 0 0 r l) : EReal)
      = lin (rms (fun n => (x0 (ix3 0 r n) : EReal)) (fun n => (x1 (ix3 0 0 n) : EReal))) (fun k n => (x2 (ix3 0 k n) : EReal)) ⟨1024 + l.val, by omega⟩ := by
  have hz : (![0, 0, 0, 0] : Fin 4 → Nat) = fun _ => 0 := funext fun a => by fin_cases a <;> rfl
  unfold out0_4
  rw [View.canon_unit_zero hz]
  unfold lin rms
  pointwise [k0_pay1, k0_pay3]

variable (m : (ℓ : Loc nD τ sig) → Buf (Elt Ideal) ℓ) (c : Dev nD)

/-- Which block window 0 holds at a grid point. -/
theorem e0 : ∀ t : Fin cfg0.N, win0_0.index t = ![(grid0.coords t 1).val, 0, 0] :=
  (by decide +kernel : ∀ t : Fin grid0.N, _)

/-- Which block window 1 holds at a grid point. -/
theorem e1 : ∀ t : Fin cfg0.N, win0_1.index t = ![(grid0.coords t 0).val, 0, 0] :=
  (by decide +kernel : ∀ t : Fin grid0.N, _)

/-- Which block window 2 holds at a grid point. -/
theorem e2 : ∀ t : Fin cfg0.N, win0_2.index t = ![(grid0.coords t 0).val, 0, 0] :=
  (by decide +kernel : ∀ t : Fin grid0.N, _)

/-- Which block window 3 holds at a grid point. -/
theorem e3 : ∀ t : Fin cfg0.N, win0_3.index t = ![(grid0.coords t 0).val, (grid0.coords t 1).val, 0, 0] :=
  (by decide +kernel : ∀ t : Fin grid0.N, _)

/-- Which block window 4 holds at a grid point. -/
theorem e4 : ∀ t : Fin cfg0.N, win0_4.index t = ![(grid0.coords t 0).val, (grid0.coords t 1).val, 0, 0] :=
  (by decide +kernel : ∀ t : Fin grid0.N, _)

/-- Before the grid runs, the host has only changed the precision of argument 2. -/
theorem Vv1 : (V m c main_v1 : FVec Ideal S2x1024x2048 .bf16) = (m ((c : Thread nD τ).loc main_arg2) : FVec Ideal S2x1024x2048 .f32) := by
  show StableHlo.after hostOps0 (fun b => m (c, b)) (Proc.devRef .tc main_v1) = _
  simp only [hostOps0]
  after_results_simp
  rfl

/-- Before the grid runs, the host has only given the gains a middle axis of one. -/
theorem Vv0 (a : Fin 2) (n : Fin 1024) : ((V m c main_v0 : FVec Ideal S2x1x1024 .f32) (ix3 a 0 n) : EReal) = (m ((c : Thread nD τ).loc main_arg1) : FVec Ideal S2x1024 .f32) (ix2 a n) := by
  have h : (V m c main_v0 : FVec Ideal S2x1x1024 .f32) = shapeCast S2x1x1024 (m ((c : Thread nD τ).loc main_arg1) : FVec Ideal S2x1024 .f32) shapeCasts_S2x1024_S2x1x1024 := by
    show StableHlo.after hostOps0 (fun b => m (c, b)) (Proc.devRef .tc main_v0) = _
    simp only [hostOps0]
    after_results_simp
    rfl
  rw [h]
  pointwise

/-- Window 0's block at a grid point, at an index. -/
theorem i0 (t : Fin cfg0.N) (r : Fin 256) (k : Fin 1024) :
    (iblk m c 0 t (ix3 0 r k) : EReal) = (m ((c : Thread nD τ).loc main_arg0) : FVec Ideal S8x256x1024 .f32) (ix3 (pb t) r k) := by
  blk_simp [iblk]
  refine (congrFun (V_main_arg0 m c) _).trans ?_
  refine congrArg (m ((c : Thread nD τ).loc main_arg0)) ?_
  blk_ext [e0] <;> rfl

/-- Window 1 holds a layer's gains. -/
theorem i1 (t : Fin cfg0.N) (k : Fin 1024) :
    (iblk m c 1 t (ix3 0 0 k) : EReal) = (m ((c : Thread nD τ).loc main_arg1) : FVec Ideal S2x1024 .f32) (ix2 (pa t) k) := by
  refine Eq.trans ?_ (Vv0 m c (pa t) k)
  blk_simp [iblk]
  refine congrArg (V m c main_v0) ?_
  blk_ext [e1] <;> rfl

/-- Window 2 holds a layer's matrix. -/
theorem i2 (t : Fin cfg0.N) (r : Fin 1024) (k : Fin 2048) :
    (iblk m c 2 t (ix3 0 r k) : EReal) = (m ((c : Thread nD τ).loc main_arg2) : FVec Ideal S2x1024x2048 .f32) (ix3 (pa t) r k) := by
  blk_simp [iblk]
  refine (congrFun (Vv1 m c) _).trans ?_
  refine congrArg (m ((c : Thread nD τ).loc main_arg2)) ?_
  blk_ext [e2] <;> rfl

/-- One entry of the memory's keys and values, of a layer, a batch row, a slot and a column. -/
def ent (a : Fin 2) (b : Fin 8) (r : Fin 256) (l : Fin 2048) : EReal :=
  lin (rms (fun n => ((m ((c : Thread nD τ).loc main_arg0) : FVec Ideal S8x256x1024 .f32) (ix3 b r n) : EReal))
    (fun n => ((m ((c : Thread nD τ).loc main_arg1) : FVec Ideal S2x1024 .f32) (ix2 a n) : EReal)))
    (fun k n => ((m ((c : Thread nD τ).loc main_arg2) : FVec Ideal S2x1024x2048 .f32) (ix3 a k n) : EReal)) l

/-- The blocks the grid writes cover the keys' array. -/
theorem cov_k : (cfg0.win 3).Covers := by decide +kernel

/-- The keys' array as one function of the argument arrays. -/
def Gk : FVec Ideal S2x8x256x1024 .bf16 := fun i => ent m c (i 0) (i 1) (i 2) ⟨(i 3).val, by have h : (i 3).val < 1024 := (i 3).isLt; omega⟩

/-- What a grid point leaves in the keys' block, at an index. -/
theorem blk_k (t : Fin cfg0.N) (r : Fin 256) (l : Fin 1024) :
    (out0_3 (iblk m c 0 t) (iblk m c 1 t) (iblk m c 2 t) (ix4 0 0 r l) : EReal) = Gk m c (ix4 (pa t) (pb t) r l) := by
  refine (out_k _ _ _ r l).trans ?_
  simp only [i0, i1, i2]
  rfl

/-- The keys' array after the grid has run. -/
theorem final_k : (dats m 0 c).arrAt 3 cfg0.N = Gk m c := by
  refine (dats m 0 c).arrAt_eq_of_covers 3 _ cov_k fun t hf y => ?_
  blk_simp
  rw [after0_3]
  have hy : y = ix4 0 0 (y 2) (y 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  refine (congrArg _ hy).trans ((blk_k m c t (y 2) (y 3)).trans (congrArg (Gk m c) ?_))
  blk_ext [e3] <;> rfl

/-- The blocks the grid writes cover the values' array. -/
theorem cov_v : (cfg0.win 4).Covers := by decide +kernel

/-- The values' array as one function of the argument arrays. -/
def Gv : FVec Ideal S2x8x256x1024 .bf16 := fun i => ent m c (i 0) (i 1) (i 2) ⟨1024 + (i 3).val, by have h : (i 3).val < 1024 := (i 3).isLt; omega⟩

/-- What a grid point leaves in the values' block, at an index. -/
theorem blk_v (t : Fin cfg0.N) (r : Fin 256) (l : Fin 1024) :
    (out0_4 (iblk m c 0 t) (iblk m c 1 t) (iblk m c 2 t) (ix4 0 0 r l) : EReal) = Gv m c (ix4 (pa t) (pb t) r l) := by
  refine (out_v _ _ _ r l).trans ?_
  simp only [i0, i1, i2]
  rfl

/-- The values' array after the grid has run. -/
theorem final_v : (dats m 0 c).arrAt 4 cfg0.N = Gv m c := by
  refine (dats m 0 c).arrAt_eq_of_covers 4 _ cov_v fun t hf y => ?_
  blk_simp
  rw [after0_4]
  have hy : y = ix4 0 0 (y 2) (y 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  refine (congrArg _ hy).trans ((blk_v m c t (y 2) (y 3)).trans (congrArg (Gv m c) ?_))
  blk_ext [e4] <;> rfl

end Cert.MBlk

end
-- ==== Proof.MJoin.lean ====
/-
  The memory's keys and values: on equal arguments the kernel and the reference leave the same results.
-/
module

public import proofs.«01_k».proof.Proof.MRef
public import proofs.«01_k».proof.Proof.MBlk
public import proofs.«01_k».proof.Proof.Gen.KernelMIdeal.Value
public import proofs.«01_k».proof.Defs
public import Idealize.ShloMosaic.Adequacy

@[expose] public section

set_option maxRecDepth 16384

noncomputable section

namespace Cert.MJoin

open Cert.ReferenceMIdeal Cert.ReferenceMIdeal.Gen Cert.ReferenceMIdeal.Value Idealize.ShloMosaic
  Idealize.ShloMosaic.TcCoe Idealize.SL.Sem Idealize.ShloMosaic.StableHlo Cert.Row Cert.MRef

/-- The reference runs and leaves its arguments as they were. -/
theorem frameRef : Cert.quiescent_ReferenceMIdeal := fun m g _ =>
  (θ_run Cert.ReferenceMIdeal.defs _ _).mono (fun r h => ⟨fun c => (h c).2.2, sem_eq_zero_of_no_sems (by decide) r.2⟩)
    (Cert.ReferenceMIdeal.Value.run (F := Ideal) m g)

variable (m : (ℓ : Loc Cert.KernelMIdeal.nD Cert.KernelMIdeal.τ Cert.KernelMIdeal.sig) → Buf (Elt Ideal) ℓ)
  (d : Dev Cert.KernelMIdeal.nD)
  (x : FVec Ideal S8x256x1024 .f32) (g : FVec Ideal S2x1024 .f32) (w : FVec Ideal S2x1024x2048 .f32)

/-- The reference's keys are the kernel's. -/
theorem keys_eq (h0 : x = m ((d.tc : Thread Cert.KernelMIdeal.nD Cert.KernelMIdeal.τ).loc Cert.KernelMIdeal.main_arg0))
    (h1 : g = m ((d.tc : Thread Cert.KernelMIdeal.nD Cert.KernelMIdeal.τ).loc Cert.KernelMIdeal.main_arg1))
    (h2 : w = m ((d.tc : Thread Cert.KernelMIdeal.nD Cert.KernelMIdeal.τ).loc Cert.KernelMIdeal.main_arg2)) :
    keys x g w = Cert.MBlk.Gk m d := by
  funext i
  rw [show i = ix4 (i 0) (i 1) (i 2) (i 3) from funext fun a => by
    match a with
    | ⟨0, _⟩ => rfl
    | ⟨1, _⟩ => rfl
    | ⟨2, _⟩ => rfl
    | ⟨3, _⟩ => rfl]
  refine (keys_at x g w _ _ _ _).trans ?_
  rw [h0, h1, h2]
  rfl

/-- The reference's values are the kernel's. -/
theorem vals_eq (h0 : x = m ((d.tc : Thread Cert.KernelMIdeal.nD Cert.KernelMIdeal.τ).loc Cert.KernelMIdeal.main_arg0))
    (h1 : g = m ((d.tc : Thread Cert.KernelMIdeal.nD Cert.KernelMIdeal.τ).loc Cert.KernelMIdeal.main_arg1))
    (h2 : w = m ((d.tc : Thread Cert.KernelMIdeal.nD Cert.KernelMIdeal.τ).loc Cert.KernelMIdeal.main_arg2)) :
    vals x g w = Cert.MBlk.Gv m d := by
  funext i
  rw [show i = ix4 (i 0) (i 1) (i 2) (i 3) from funext fun a => by
    match a with
    | ⟨0, _⟩ => rfl
    | ⟨1, _⟩ => rfl
    | ⟨2, _⟩ => rfl
    | ⟨3, _⟩ => rfl]
  refine (vals_at x g w _ _ _ _).trans ?_
  rw [h0, h1, h2]
  rfl

/-- The kernel and the reference, at exact arithmetic, leave the same keys and values. -/
theorem algebraic : Cert.algebraic_KernelMIdeal_ReferenceMIdeal := by
  intro m g m' g' _ hag
  refine ⟨fun c => Cert.MBlk.Gk m c, fun c => Cert.MBlk.Gv m c,
    (θ_run Cert.KernelMIdeal.defs _ _).mono (fun r h c => ⟨(h c).1.trans (Cert.MBlk.final_k m c),
      (h c).2.1.trans (Cert.MBlk.final_v m c), (h c).2.2⟩) (Cert.KernelMIdeal.Value.run_blocks m g),
    (θ_run Cert.ReferenceMIdeal.defs _ _).mono (fun r h c => ⟨(h c).1.trans ?_, (h c).2.1.trans ?_, (h c).2.2⟩)
      (Cert.ReferenceMIdeal.Value.run (F := Ideal) m' g')⟩
  · obtain ⟨h0, h1, h2⟩ := hag c
    exact keys_eq m c _ _ _ h0 h1 h2
  · obtain ⟨h0, h1, h2⟩ := hag c
    exact vals_eq m c _ _ _ h0 h1 h2

end Cert.MJoin

end
-- ==== Proof.ORow.lean ====
/-
  The second layer's input projection on one token, as plain functions over the extended reals. Nothing here names a
  program.
-/
module

public import proofs.«01_k».proof.Proof.Row
public import Idealize.ShloMosaic.PureOps.Ideal.Laws

@[expose] public section

noncomputable section

namespace Cert.ORow

open Idealize.ShloMosaic Cert.Row

/-- The rms norm of a row of any width; `c` is the width's word. -/
def nrm (c : BitVec 32) {n : Nat} (x g : Fin n → EReal) (i : Fin n) : EReal :=
  x i * Ideal.rsqrt (Ideal.div (∑ k, x k * x k) (Ideal.ofBits .f32 c) + Ideal.ofBits .f32 0x358637BD#32) * g i

/-- The mean of a row; `c` is the width's word. -/
def mean (c : BitVec 32) {n : Nat} (x : Fin n → EReal) : EReal := Ideal.div (∑ k, x k) (Ideal.ofBits .f32 c)

/-- The layer norm of a row, with gain and offset. -/
def lnm (c : BitVec 32) {n : Nat} (x g b : Fin n → EReal) (i : Fin n) : EReal :=
  (x i - mean c x) * Ideal.rsqrt (Ideal.div (∑ k, (x k - mean c x) * (x k - mean c x)) (Ideal.ofBits .f32 c)
    + Ideal.ofBits .f32 0x3727C5AC#32) * g i + b i

/-- The exact gelu, by the error function. -/
def gel (x : EReal) : EReal :=
  Ideal.ofBits .f32 0x3F000000#32 * x * (Ideal.ofBits .f32 0x3F800000#32 + Ideal.erf (x * Ideal.ofBits .f32 0x3F3504F3#32))

/-- Column `d` of head `h` among 512 columns. -/
def hcol (h : Fin 8) (d : Fin 64) : Fin 512 := ⟨h.val * 64 + d.val, by omega⟩

/-- Entry `c` of head `h`'s latent query, scaled for a power of two. -/
def lat (cq : Fin 256 → EReal) (wuq : Fin 256 → Fin 512 → EReal) (wuk : Fin 64 → Fin 128 → EReal) (h : Fin 8) (c : Fin 128) :
    EReal :=
  (∑ d, wuk d c * lin cq wuq (hcol h d)) * Ideal.ofBits .f32 0x3E38AA3B#32

/-- Entry `d` of head `h`'s index query. -/
def idx (cq : Fin 256 → EReal) (wq : Fin 256 → Fin 512 → EReal) (h : Fin 8) (d : Fin 64) : EReal :=
  lin cq wq (hcol h d) * Ideal.ofBits .f32 0x3E000000#32

/-- The causal mixing of one column of a chunk, at position `t`. -/
def mixc (w : Fin 128 → EReal) (v : Fin 128 → EReal) (b : EReal) (t : Fin 128) : EReal :=
  (∑ s : Fin 128, (if s.val ≤ t.val then w s else 0) * v s) + b

/-- A product with a column, its factors the other way round. -/
theorem lin_swap {a b : Nat} (x : Fin a → EReal) (w : Fin a → Fin b → EReal) (n : Fin b) (c : EReal) :
    (∑ k, w k n * x k) * c = lin x w n * c := by
  unfold lin
  simp only [mul_comm]

/-- The word of one. -/
theorem ofBits_one : Ideal.ofBits .f32 0x3F800000#32 = (1 : EReal) := by
  simp [Ideal.ofBits, Ideal.ieee]
  rw [← EReal.coe_mul, ← EReal.coe_one]
  norm_num

/-- The word of zero. -/
theorem ofBits_zero : Ideal.ofBits .f32 0x00000000#32 = (0 : EReal) := by
  simp [Ideal.ofBits, Ideal.ieee]

/-- The 16-bit word of one. -/
theorem ofBits_one16 : Ideal.ofBits .bf16 0x3F80#16 = (1 : EReal) := by
  simp [Ideal.ofBits, Ideal.ieee]
  rw [← EReal.coe_mul, ← EReal.coe_one]
  norm_num

/-- An eighth times the word of log2 e is the word the kernel multiplies by. -/
theorem ofBits_eighth_log : Ideal.ofBits .f32 0x3E000000#32 * Ideal.ofBits .f32 0x3FB8AA3B#32 = Ideal.ofBits .f32 0x3E38AA3B#32 := by
  simp [Ideal.ofBits, Ideal.ieee]
  simp only [← EReal.coe_mul]
  congr 1
  norm_num

/-- Gelu by the complementary error function is gelu by the error function. -/
theorem gel_erfc (x : EReal) :
    Ideal.ofBits .f32 0x3F000000#32 * x * Ideal.erfc (-x * Ideal.ofBits .f32 0x3F3504F3#32) = gel x := by
  unfold gel
  rw [ofBits_one, neg_mul, Ideal.erfc_neg]

/-- The comparison of two positions of a chunk, as a bit. -/
theorem sge_bit : ∀ t s : Fin 128, IntOp.cmpi .sge (BitVec.ofNat 32 t.val) (BitVec.ofNat 32 s.val)
    = if s.val ≤ t.val then 1#1 else 0#1 := by
  decide +kernel

/-- Choosing by that comparison. -/
theorem sge_select (t s : Fin 128) (a b : EReal) :
    Scalar.select (IntOp.cmpi .sge (BitVec.ofNat 32 t.val) (BitVec.ofNat 32 s.val)) a b = if s.val ≤ t.val then a else b := by
  rw [sge_bit]
  by_cases h : s.val ≤ t.val
  · rw [if_pos h, if_pos h]; rfl
  · rw [if_neg h, if_neg h]; rfl

/-- The same with nothing added to the first position. -/
theorem sge_select_add (t s : Fin 128) (a b : EReal) :
    Scalar.select (IntOp.cmpi .sge (IntOp.addi (BitVec.ofNat 32 t.val) 0#32) (BitVec.ofNat 32 s.val)) a b
      = if s.val ≤ t.val then a else b := by
  rw [show IntOp.addi (BitVec.ofNat 32 t.val) 0#32 = BitVec.ofNat 32 t.val from BitVec.add_zero _, sge_select]

end Cert.ORow

end
-- ==== Proof.ORef.lean ====
/-
  The reference of the second layer's input projection, cut into steps, each a function of plain arrays.
-/
module

public import proofs.«01_k».proof.Proof.Gen.ReferenceOIdeal.Run
public import proofs.«01_k».proof.Proof.ORow
public import Idealize.ShloMosaic.Lib.Pointwise

@[expose] public section

set_option maxRecDepth 16384

noncomputable section

namespace Cert.ORef

open Cert.ReferenceOIdeal Cert.ReferenceOIdeal.Gen Cert.ReferenceOIdeal.Value Idealize.ShloMosaic
  Idealize.ShloMosaic.TcCoe Idealize.SL.Sem Idealize.ShloMosaic.StableHlo Cert.Row Cert.ORow

/-- The input projection of the normalised rows. -/
def s13 (a0 : FVec Ideal S8x8192x1024 .f32) (a1 : FVec Ideal S1024 .f32) (a2 : FVec Ideal S1024x1480 .f32) : FVec Ideal S8x8192x1480 .f32 :=
  Host.dotGeneral dot_S8x8192x1024_S1024x1480_S8x8192x1480_2_0_01_1_n_n none (mulf (mulf a0 (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf a0 a0) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 a1))) a2

/-- The columns of the latent queries. -/
def s14 (r13 : FVec Ideal S8x8192x1480 .f32) : FVec Ideal S8x8192x256 .f32 :=
  extractStridedSlice S8x8192x256 ![0, 0, 0] r13 slices_S8x8192x1480_S8x8192x256_0_0_0

/-- The normalised latent queries. -/
def s27 (r14 : FVec Ideal S8x8192x256 .f32) (a3 : FVec Ideal S256 .f32) : FVec Ideal S8x8192x256 .f32 :=
  mulf (mulf r14 (broadcastInDim S8x8192x256 ![0, 1, 2] bcast_S8x8192x1_S8x8192x256_0_1_2 (Host.rsqrt (addf (Host.divf (broadcastInDim S8x8192x1 ![0, 1] bcast_S8x8192_S8x8192x1_0_1 (Host.reduceAdd (mulf r14 r14) (constant S_ .f32 0x00000000#32) reducesTo_S8x8192x256_S8x8192_d2 h_S_)) (broadcastInDim S8x8192x1 ![] bcast_S_S8x8192x1 (constant S_ .f32 0x43800000#32))) (broadcastInDim S8x8192x1 ![] bcast_S_S8x8192x1 (constant S_ .f32 0x358637BD#32)))))) (broadcastInDim S8x8192x256 ![0, 1, 2] bcast_S1x1x256_S8x8192x256_0_1_2 (broadcastInDim S1x1x256 ![2] bcast_S256_S1x1x256_2 a3))

/-- The columns of the latent keys. -/
def s28 (r13 : FVec Ideal S8x8192x1480 .f32) : FVec Ideal S8x8192x128 .f32 :=
  extractStridedSlice S8x8192x128 ![0, 0, 256] r13 slices_S8x8192x1480_S8x8192x128_0_0_256

/-- The normalised latent keys. -/
def s41 (r28 : FVec Ideal S8x8192x128 .f32) (a4 : FVec Ideal S128 .f32) : FVec Ideal S8x8192x128 .f32 :=
  mulf (mulf r28 (broadcastInDim S8x8192x128 ![0, 1, 2] bcast_S8x8192x1_S8x8192x128_0_1_2 (Host.rsqrt (addf (Host.divf (broadcastInDim S8x8192x1 ![0, 1] bcast_S8x8192_S8x8192x1_0_1 (Host.reduceAdd (mulf r28 r28) (constant S_ .f32 0x00000000#32) reducesTo_S8x8192x128_S8x8192_d2 h_S_)) (broadcastInDim S8x8192x1 ![] bcast_S_S8x8192x1 (constant S_ .f32 0x43000000#32))) (broadcastInDim S8x8192x1 ![] bcast_S_S8x8192x1 (constant S_ .f32 0x358637BD#32)))))) (broadcastInDim S8x8192x128 ![0, 1, 2] bcast_S1x1x128_S8x8192x128_0_1_2 (broadcastInDim S1x1x128 ![2] bcast_S128_S1x1x128_2 a4))

/-- The columns of the index keys. -/
def s42 (r13 : FVec Ideal S8x8192x1480 .f32) : FVec Ideal S8x8192x64 .f32 :=
  extractStridedSlice S8x8192x64 ![0, 0, 384] r13 slices_S8x8192x1480_S8x8192x64_0_0_384

/-- The mean of the index keys. -/
def s46 (r42 : FVec Ideal S8x8192x64 .f32) : FVec Ideal S8x8192x1 .f32 :=
  Host.divf (broadcastInDim S8x8192x1 ![0, 1] bcast_S8x8192_S8x8192x1_0_1 (Host.reduceAdd r42 (constant S_ .f32 0x00000000#32) reducesTo_S8x8192x64_S8x8192_d2 h_S_)) (broadcastInDim S8x8192x1 ![] bcast_S_S8x8192x1 (constant S_ .f32 0x42800000#32))

/-- The index keys less their mean. -/
def s48 (r42 : FVec Ideal S8x8192x64 .f32) (r46 : FVec Ideal S8x8192x1 .f32) : FVec Ideal S8x8192x64 .f32 :=
  subf r42 (broadcastInDim S8x8192x64 ![0, 1, 2] bcast_S8x8192x1_S8x8192x64_0_1_2 r46)

/-- The columns of the gate. -/
def s80 (r13 : FVec Ideal S8x8192x1480 .f32) : FVec Ideal S8x8192x512 .f32 :=
  extractStridedSlice S8x8192x512 ![0, 0, 456] r13 slices_S8x8192x1480_S8x8192x512_0_0_456

/-- The columns of the gated values. -/
def s88 (r13 : FVec Ideal S8x8192x1480 .f32) : FVec Ideal S8x8192x512 .f32 :=
  extractStridedSlice S8x8192x512 ![0, 0, 968] r13 slices_S8x8192x1480_S8x8192x512_0_0_968

/-- The gated values after gelu. -/
def s95 (r88 : FVec Ideal S8x8192x512 .f32) : FVec Ideal S8x8192x512 .f32 :=
  mulf (mulf (broadcastInDim S8x8192x512 ![] bcast_S_S8x8192x512 (constant S_ .f32 0x3F000000#32)) r88) (Host.erfc (mulf (Host.negf r88) (broadcastInDim S8x8192x512 ![] bcast_S_S8x8192x512 (constant S_ .f32 0x3F3504F3#32))))

/-- Their mean. -/
def s99 (r95 : FVec Ideal S8x8192x512 .f32) : FVec Ideal S8x8192x1 .f32 :=
  Host.divf (broadcastInDim S8x8192x1 ![0, 1] bcast_S8x8192_S8x8192x1_0_1 (Host.reduceAdd r95 (constant S_ .f32 0x00000000#32) reducesTo_S8x8192x512_S8x8192_d2 h_S_)) (broadcastInDim S8x8192x1 ![] bcast_S_S8x8192x1 (constant S_ .f32 0x44000000#32))

/-- Those less their mean. -/
def s101 (r95 : FVec Ideal S8x8192x512 .f32) (r99 : FVec Ideal S8x8192x1 .f32) : FVec Ideal S8x8192x512 .f32 :=
  subf r95 (broadcastInDim S8x8192x512 ![0, 1, 2] bcast_S8x8192x1_S8x8192x512_0_1_2 r99)

/-- The latent queries of the heads, laid out for the attention. -/
def s146 (r27 : FVec Ideal S8x8192x256 .f32) (a5 : FVec Ideal S256x512 .f32) (a6 : FVec Ideal S8x64x128 .f32) : FVec Ideal S8x32x8x128x256 .bf16 :=
  truncf .bf16 (transpose S8x32x8x128x256 [0, 1, 3, 4, 2] (shapeCast _ (mulf (mulf (transpose S8x8192x8x128 [2, 3, 0, 1] (Host.dotGeneral dot_S8x64x128_S8x8192x8x64_S8x128x8x8192_1_3_2_01_0_2 none a6 (shapeCast _ (Host.dotGeneral dot_S8x8192x256_S256x512_S8x8192x512_2_0_01_1_n_n none r27 a5) shapeCasts_S8x8192x512_S8x8192x8x64)) transposes_S8x128x8x8192_S8x8192x8x128_2_3_0_1) (broadcastInDim S8x8192x8x128 ![] bcast_S_S8x8192x8x128 (constant S_ .f32 0x3E000000#32))) (broadcastInDim S8x8192x8x128 ![] bcast_S_S8x8192x8x128 (constant S_ .f32 0x3FB8AA3B#32))) shapeCasts_S8x8192x8x128_S8x32x256x8x128) transposes_S8x32x256x8x128_S8x32x8x128x256_0_1_3_4_2) bitsLt_bf16_f32

/-- The index queries of the heads, laid out for the attention. -/
def s147 (r27 : FVec Ideal S8x8192x256 .f32) (a7 : FVec Ideal S256x512 .f32) : FVec Ideal S8x32x64x2048 .bf16 :=
  truncf .bf16 (shapeCast _ (transpose S8x32x64x8x256 [0, 1, 4, 3, 2] (shapeCast _ (mulf (shapeCast _ (Host.dotGeneral dot_S8x8192x256_S256x512_S8x8192x512_2_0_01_1_n_n none r27 a7) shapeCasts_S8x8192x512_S8x8192x8x64) (broadcastInDim S8x8192x8x64 ![] bcast_S_S8x8192x8x64 (constant S_ .f32 0x3E000000#32))) shapeCasts_S8x8192x8x64_S8x32x256x8x64) transposes_S8x32x256x8x64_S8x32x64x8x256_0_1_4_3_2) shapeCasts_S8x32x64x8x256_S8x32x64x2048) bitsLt_bf16_f32

/-- The index weights, tokens last. -/
def s148 (r13 : FVec Ideal S8x8192x1480 .f32) : FVec Ideal S8x8x8192 .f32 :=
  transpose S8x8x8192 [0, 2, 1] (mulf (extractStridedSlice S8x8192x8 ![0, 0, 448] r13 slices_S8x8192x1480_S8x8192x8_0_0_448) (broadcastInDim S8x8192x8 ![] bcast_S_S8x8192x8 (constant S_ .f32 0x3EB504F3#32))) transposes_S8x8192x8_S8x8x8192_0_2_1

/-- The latent keys. -/
def s149 (r41 : FVec Ideal S8x8192x128 .f32) : FVec Ideal S8x8192x128 .bf16 :=
  truncf .bf16 r41 bitsLt_bf16_f32

/-- The latent keys transposed, above rows of ones. -/
def s150 (r41 : FVec Ideal S8x8192x128 .f32) : FVec Ideal S8x16x144x512 .bf16 :=
  truncf .bf16 (concatenate S8x16x144x512 2 [⟨S8x16x128x512, (transpose S8x16x128x512 [0, 1, 3, 2] (shapeCast _ r41 shapeCasts_S8x8192x128_S8x16x512x128) transposes_S8x16x512x128_S8x16x128x512_0_1_3_2)⟩, ⟨S8x16x16x512, (broadcastInDim S8x16x16x512 ![] bcast_S_S8x16x16x512 (constant S_ .f32 0x3F800000#32))⟩] concatenates_S8x16x128x512_S8x16x16x512_S8x16x144x512_d2) bitsLt_bf16_f32

/-- The index keys. -/
def s151 (r42 : FVec Ideal S8x8192x64 .f32) (r46 : FVec Ideal S8x8192x1 .f32) (r48 : FVec Ideal S8x8192x64 .f32) (a8 : FVec Ideal S64 .f32) (a9 : FVec Ideal S64 .f32) : FVec Ideal S8x8192x64 .bf16 :=
  truncf .bf16 (addf (mulf (mulf (subf r42 (broadcastInDim S8x8192x64 ![0, 1, 2] bcast_S8x8192x1_S8x8192x64_0_1_2 r46)) (broadcastInDim S8x8192x64 ![0, 1, 2] bcast_S8x8192x1_S8x8192x64_0_1_2 (Host.rsqrt (addf (Host.divf (broadcastInDim S8x8192x1 ![0, 1] bcast_S8x8192_S8x8192x1_0_1 (Host.reduceAdd (mulf r48 r48) (constant S_ .f32 0x00000000#32) reducesTo_S8x8192x64_S8x8192_d2 h_S_)) (broadcastInDim S8x8192x1 ![] bcast_S_S8x8192x1 (constant S_ .f32 0x42800000#32))) (broadcastInDim S8x8192x1 ![] bcast_S_S8x8192x1 (constant S_ .f32 0x3727C5AC#32)))))) (broadcastInDim S8x8192x64 ![0, 1, 2] bcast_S1x1x64_S8x8192x64_0_1_2 (broadcastInDim S1x1x64 ![2] bcast_S64_S1x1x64_2 a8))) (broadcastInDim S8x8192x64 ![0, 1, 2] bcast_S1x1x64_S8x8192x64_0_1_2 (broadcastInDim S1x1x64 ![2] bcast_S64_S1x1x64_2 a9))) bitsLt_bf16_f32

/-- The gate after gelu. -/
def gate (r80 : FVec Ideal S8x8192x512 .f32) : FVec Ideal S8x8192x512 .f32 :=
  (mulf (mulf (broadcastInDim S8x8192x512 ![] bcast_S_S8x8192x512 (constant S_ .f32 0x3F000000#32)) r80) (Host.erfc (mulf (Host.negf r80) (broadcastInDim S8x8192x512 ![] bcast_S_S8x8192x512 (constant S_ .f32 0x3F3504F3#32)))))

/-- The gated values after gelu and layer norm. -/
def lnv (r95 : FVec Ideal S8x8192x512 .f32) (r99 : FVec Ideal S8x8192x1 .f32) (r101 : FVec Ideal S8x8192x512 .f32) (a10 : FVec Ideal S512 .f32) (a11 : FVec Ideal S512 .f32) : FVec Ideal S8x8192x512 .f32 :=
  (addf (mulf (mulf (subf r95 (broadcastInDim S8x8192x512 ![0, 1, 2] bcast_S8x8192x1_S8x8192x512_0_1_2 r99)) (broadcastInDim S8x8192x512 ![0, 1, 2] bcast_S8x8192x1_S8x8192x512_0_1_2 (Host.rsqrt (addf (Host.divf (broadcastInDim S8x8192x1 ![0, 1] bcast_S8x8192_S8x8192x1_0_1 (Host.reduceAdd (mulf r101 r101) (constant S_ .f32 0x00000000#32) reducesTo_S8x8192x512_S8x8192_d2 h_S_)) (broadcastInDim S8x8192x1 ![] bcast_S_S8x8192x1 (constant S_ .f32 0x44000000#32))) (broadcastInDim S8x8192x1 ![] bcast_S_S8x8192x1 (constant S_ .f32 0x3727C5AC#32)))))) (broadcastInDim S8x8192x512 ![0, 1, 2] bcast_S1x1x512_S8x8192x512_0_1_2 (broadcastInDim S1x1x512 ![2] bcast_S512_S1x1x512_2 a10))) (broadcastInDim S8x8192x512 ![0, 1, 2] bcast_S1x1x512_S8x8192x512_0_1_2 (broadcastInDim S1x1x512 ![2] bcast_S512_S1x1x512_2 a11)))

/-- The mixing weights, with zeros above the diagonal. -/
def wtri (a12 : FVec Ideal S4x128x128 .f32) : FVec Ideal S4x128x128 .f32 :=
  (mulf a12 (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))))))

/-- The gated values, mixed within chunks and gated. -/
def s152 (gt nv : FVec Ideal S8x8192x512 .f32) (wt : FVec Ideal S4x128x128 .f32) (a13 : FVec Ideal S4x128 .f32) : FVec Ideal S8x8192x512 .bf16 :=
  truncf .bf16 (mulf gt (shapeCast _ (addf (transpose S8x64x128x4x128 [1, 2, 4, 0, 3] (Host.dotGeneral dot_S8x64x128x4x128_S4x128x128_S4x8x64x128x128_2_2_014_1_3_0 none (shapeCast _ nv shapeCasts_S8x8192x512_S8x64x128x4x128) wt) transposes_S4x8x64x128x128_S8x64x128x4x128_1_2_4_0_3) (broadcastInDim S8x64x128x4x128 ![0, 1, 2, 3, 4] bcast_S1x1x128x4x1_S8x64x128x4x128_0_1_2_3_4 (broadcastInDim S1x1x128x4x1 ![2, 3, 4] bcast_S128x4x1_S1x1x128x4x1_2_3_4 (broadcastInDim S128x4x1 ![0, 1] bcast_S128x4_S128x4x1_0_1 (transpose S128x4 [1, 0] a13 transposes_S4x128_S128x4_1_0))))) shapeCasts_S8x64x128x4x128_S8x8192x512)) bitsLt_bf16_f32

/-- The input projection at an index. -/
theorem s13_at (x : FVec Ideal S8x8192x1024 .f32) (g : FVec Ideal S1024 .f32) (w : FVec Ideal S1024x1480 .f32)
    (b : Fin 8) (s : Fin 8192) (n : Fin 1480) :
    (s13 x g w (ix3 b s n) : EReal) = lin (rms (fun k => (x (ix3 b s k) : EReal)) (fun k => (g (ix1 k) : EReal)))
      (fun k l => (w (ix2 k l) : EReal)) n := by
  unfold lin rms
  pointwise [s13]

/-- The latent queries' columns at an index. -/
theorem s14_at (p : FVec Ideal S8x8192x1480 .f32) (b : Fin 8) (s : Fin 8192) (n : Fin 256) :
    s14 p (ix3 b s n) = p (ix3 b s ⟨n.val, by omega⟩) := by
  pointwise [s14]

/-- The latent keys' columns at an index. -/
theorem s28_at (p : FVec Ideal S8x8192x1480 .f32) (b : Fin 8) (s : Fin 8192) (n : Fin 128) :
    s28 p (ix3 b s n) = p (ix3 b s ⟨256 + n.val, by omega⟩) := by
  pointwise [s28]

/-- The index keys' columns at an index. -/
theorem s42_at (p : FVec Ideal S8x8192x1480 .f32) (b : Fin 8) (s : Fin 8192) (n : Fin 64) :
    s42 p (ix3 b s n) = p (ix3 b s ⟨384 + n.val, by omega⟩) := by
  pointwise [s42]

/-- The gate's columns at an index. -/
theorem s80_at (p : FVec Ideal S8x8192x1480 .f32) (b : Fin 8) (s : Fin 8192) (n : Fin 512) :
    s80 p (ix3 b s n) = p (ix3 b s ⟨456 + n.val, by omega⟩) := by
  pointwise [s80]

/-- The gated values' columns at an index. -/
theorem s88_at (p : FVec Ideal S8x8192x1480 .f32) (b : Fin 8) (s : Fin 8192) (n : Fin 512) :
    s88 p (ix3 b s n) = p (ix3 b s ⟨968 + n.val, by omega⟩) := by
  pointwise [s88]

/-- The normalised latent queries at an index. -/
theorem s27_at (r : FVec Ideal S8x8192x256 .f32) (g : FVec Ideal S256 .f32) (b : Fin 8) (s : Fin 8192) (n : Fin 256) :
    (s27 r g (ix3 b s n) : EReal) = nrm 0x43800000#32 (fun k => (r (ix3 b s k) : EReal)) (fun k => (g (ix1 k) : EReal)) n := by
  unfold nrm
  pointwise [s27]

/-- The normalised latent keys at an index. -/
theorem s41_at (r : FVec Ideal S8x8192x128 .f32) (g : FVec Ideal S128 .f32) (b : Fin 8) (s : Fin 8192) (n : Fin 128) :
    (s41 r g (ix3 b s n) : EReal) = nrm 0x43000000#32 (fun k => (r (ix3 b s k) : EReal)) (fun k => (g (ix1 k) : EReal)) n := by
  unfold nrm
  pointwise [s41]

/-- The gated values after gelu at an index. -/
theorem s95_at (r : FVec Ideal S8x8192x512 .f32) (b : Fin 8) (s : Fin 8192) (n : Fin 512) :
    (s95 r (ix3 b s n) : EReal) = gel (r (ix3 b s n)) := by
  rw [← gel_erfc]
  pointwise [s95]

/-- The gate after gelu at an index. -/
theorem gate_at (r : FVec Ideal S8x8192x512 .f32) (b : Fin 8) (s : Fin 8192) (n : Fin 512) :
    (gate r (ix3 b s n) : EReal) = gel (r (ix3 b s n)) := by
  rw [← gel_erfc]
  pointwise [gate]

/-- The index keys at an index. -/
theorem s151_at (r : FVec Ideal S8x8192x64 .f32) (g h : FVec Ideal S64 .f32) (b : Fin 8) (s : Fin 8192) (n : Fin 64) :
    (s151 r (s46 r) (s48 r (s46 r)) g h (ix3 b s n) : EReal) = lnm 0x42800000#32 (fun k => (r (ix3 b s k) : EReal))
      (fun k => (g (ix1 k) : EReal)) (fun k => (h (ix1 k) : EReal)) n := by
  unfold lnm mean
  pointwise [s151, s48, s46]

/-- The normalised gated values at an index. -/
theorem lnv_at (r : FVec Ideal S8x8192x512 .f32) (g h : FVec Ideal S512 .f32) (b : Fin 8) (s : Fin 8192) (n : Fin 512) :
    (lnv r (s99 r) (s101 r (s99 r)) g h (ix3 b s n) : EReal) = lnm 0x44000000#32 (fun k => (r (ix3 b s k) : EReal))
      (fun k => (g (ix1 k) : EReal)) (fun k => (h (ix1 k) : EReal)) n := by
  unfold lnm mean
  pointwise [lnv, s101, s99]

/-- The latent queries of a head at an index. -/
theorem s146_at (r : FVec Ideal S8x8192x256 .f32) (wq : FVec Ideal S256x512 .f32) (wk : FVec Ideal S8x64x128 .f32)
    (b : Fin 8) (j : Fin 32) (h : Fin 8) (l : Fin 128) (q : Fin 256) :
    (s146 r wq wk (ix5 b j h l q) : EReal) = lat (fun k => (r (ix3 b (⟨j.val * 256 + q.val, by omega⟩ : Fin 8192) k) : EReal))
      (fun k n => (wq (ix2 k n) : EReal)) (fun d n => (wk (ix3 h d n) : EReal)) h l := by
  unfold lat lin hcol
  rw [← ofBits_eighth_log, ← mul_assoc]
  pointwise [s146]

/-- The index queries of a head at an index. -/
theorem s147_at (r : FVec Ideal S8x8192x256 .f32) (wq : FVec Ideal S256x512 .f32)
    (b : Fin 8) (j : Fin 32) (d : Fin 64) (h : Fin 8) (q : Fin 256) :
    (s147 r wq (ix4 b j d (⟨h.val * 256 + q.val, by omega⟩ : Fin 2048)) : EReal)
      = idx (fun k => (r (ix3 b (⟨j.val * 256 + q.val, by omega⟩ : Fin 8192) k) : EReal))
      (fun k n => (wq (ix2 k n) : EReal)) h d := by
  unfold idx lin hcol
  pointwise [s147]

/-- The index weights at an index. -/
theorem s148_at (p : FVec Ideal S8x8192x1480 .f32) (b : Fin 8) (h : Fin 8) (s : Fin 8192) :
    (s148 p (ix3 b h s) : EReal) = (p (ix3 b s ⟨448 + h.val, by omega⟩) : EReal) * Ideal.ofBits .f32 0x3EB504F3#32 := by
  pointwise [s148]

/-- The latent keys at an index. -/
theorem s149_at (r : FVec Ideal S8x8192x128 .f32) (b : Fin 8) (s : Fin 8192) (n : Fin 128) :
    (s149 r (ix3 b s n) : EReal) = r (ix3 b s n) := by
  pointwise [s149]

/-- The transposed latent keys at an index of their own rows. -/
theorem s150_lo (r : FVec Ideal S8x8192x128 .f32) (b : Fin 8) (j : Fin 16) (n : Fin 128) (q : Fin 512) :
    (s150 r (ix4 b j (⟨n.val, by omega⟩ : Fin 144) q) : EReal) = r (ix3 b (⟨j.val * 512 + q.val, by omega⟩ : Fin 8192) n) := by
  pointwise [s150]

/-- The rows of ones below them. -/
theorem s150_hi (r : FVec Ideal S8x8192x128 .f32) (b : Fin 8) (j : Fin 16) (n : Fin 16) (q : Fin 512) :
    (s150 r (ix4 b j (⟨128 + n.val, by omega⟩ : Fin 144) q) : EReal) = Ideal.ofBits .f32 0x3F800000#32 := by
  pointwise [s150]

/-- The mixing weights with zeros above the diagonal, at an index. -/
theorem wtri_at (w : FVec Ideal S4x128x128 .f32) (a : Fin 4) (t s : Fin 128) :
    (wtri w (ix3 a t s) : EReal) = if s.val ≤ t.val then (w (ix3 a t s) : EReal) else 0 := by
  pointwise [wtri]
  exact sge_select_add t s _ _

/-- The mixed and gated values at an index. -/
theorem s152_at (gt nv : FVec Ideal S8x8192x512 .f32) (w : FVec Ideal S4x128x128 .f32) (bs : FVec Ideal S4x128 .f32)
    (b : Fin 8) (k : Fin 64) (t : Fin 128) (a : Fin 4) (n : Fin 128) :
    (s152 gt nv w bs (ix3 b (⟨k.val * 128 + t.val, by omega⟩ : Fin 8192) (⟨a.val * 128 + n.val, by omega⟩ : Fin 512)) : EReal)
      = (gt (ix3 b (⟨k.val * 128 + t.val, by omega⟩ : Fin 8192) (⟨a.val * 128 + n.val, by omega⟩ : Fin 512)) : EReal)
        * ((∑ s : Fin 128, (nv (ix3 b (⟨k.val * 128 + s.val, by omega⟩ : Fin 8192) (⟨a.val * 128 + n.val, by omega⟩ : Fin 512)) : EReal)
          * w (ix3 a t s)) + bs (ix2 a t)) := by
  pointwise [s152]

end Cert.ORef

end
-- ==== Proof.OVal.lean ====
/-
  The second layer's input projection: what each of the kernel body's stored values is, at an index.
-/
module

public import proofs.«01_k».proof.Proof.Gen.KernelOIdeal.Frame
public import proofs.«01_k».proof.Proof.ORow
public import Idealize.ShloMosaic.Lib.Pointwise

@[expose] public section

set_option maxRecDepth 16384

noncomputable section

namespace Cert.OVal

open Cert.KernelOIdeal Cert.KernelOIdeal.Gen Idealize.ShloMosaic Idealize.ShloMosaic.TcCoe Idealize.SL.Sem Cert.Row Cert.ORow

/-- The normalised row. -/
theorem p2 (a : Vec Ideal S1x512x1024 .f32) (g : Vec Ideal S1x1024 .f32) (r : Fin 512) (k : Fin 1024) :
    (k0_pay2 (F := Ideal) a g (ix2 r k) : EReal) = rms (fun k => (a (ix3 0 r k) : EReal)) (fun k => (g (ix2 0 k) : EReal)) k := by
  unfold rms
  pointwise [k0_pay2]

/-- The normalised latent queries, from the row's columns. -/
theorem p3 (a : Vec Ideal S1x512x1024 .f32) (g : Vec Ideal S1x1024 .f32) (w : Vec Ideal S1024x256 .bf16) (h : Vec Ideal S1x256 .f32)
    (r : Fin 512) (n : Fin 256) :
    (k0_pay3 (F := Ideal) a g w h (ix2 r n) : EReal) = nrm 0x43800000#32
      (lin (fun k => (k0_pay2 (F := Ideal) a g (ix2 r k) : EReal)) (fun k l => (w (ix2 k l) : EReal))) (fun k => (h (ix2 0 k) : EReal)) n := by
  unfold nrm lin
  pointwise [k0_pay3]

/-- The latent keys' columns. -/
theorem p4 (a : Vec Ideal S1x512x1024 .f32) (g : Vec Ideal S1x1024 .f32) (w : Vec Ideal S1024x128 .bf16) (r : Fin 512) (n : Fin 128) :
    (k0_pay4 (F := Ideal) a g w (ix2 r n) : EReal)
      = lin (fun k => (k0_pay2 (F := Ideal) a g (ix2 r k) : EReal)) (fun k l => (w (ix2 k l) : EReal)) n := by
  unfold lin
  pointwise [k0_pay4]

/-- The normalised latent keys. -/
theorem p6 (v : FVec Ideal S512x128 .f32) (h : Vec Ideal S1x128 .f32) (r : Fin 512) (n : Fin 128) :
    (k0_pay6 (F := Ideal) v h (ix3 0 r n) : EReal) = nrm 0x43000000#32 (fun k => (v (ix2 r k) : EReal)) (fun k => (h (ix2 0 k) : EReal)) n := by
  unfold nrm
  pointwise [k0_pay6, k0_pay5]

/-- The normalised latent keys, transposed. -/
theorem p7 (v : FVec Ideal S512x128 .f32) (h : Vec Ideal S1x128 .f32) (r : Fin 512) (n : Fin 128) :
    (k0_pay7 (F := Ideal) v h (ix4 0 0 n r) : EReal) = nrm 0x43000000#32 (fun k => (v (ix2 r k) : EReal)) (fun k => (h (ix2 0 k) : EReal)) n := by
  unfold nrm
  pointwise [k0_pay7, k0_pay5]

/-- The rows of ones. -/
theorem p8 (r : Fin 512) (n : Fin 16) : (k0_pay8 (F := Ideal) (ix4 0 0 n r) : EReal) = Ideal.ofBits .f32 0x3F800000#32 := by
  rw [ofBits_one, ← ofBits_one16]
  pointwise [k0_pay8]

/-- The gate's columns. -/
theorem p9 (x : FVec Ideal S512x1024 .bf16) (w : Vec Ideal S1024x512 .bf16) (r : Fin 512) (n : Fin 512) :
    (k0_pay9 (F := Ideal) x w (ix2 r n) : EReal) = lin (fun k => (x (ix2 r k) : EReal)) (fun k l => (w (ix2 k l) : EReal)) n := by
  unfold lin
  pointwise [k0_pay9]

/-- The gated values' columns. -/
theorem p10 (x : FVec Ideal S512x1024 .bf16) (w : Vec Ideal S1024x512 .bf16) (r : Fin 512) (n : Fin 512) :
    (k0_pay10 (F := Ideal) x w (ix2 r n) : EReal) = lin (fun k => (x (ix2 r k) : EReal)) (fun k l => (w (ix2 k l) : EReal)) n := by
  unfold lin
  pointwise [k0_pay10]

/-- The index keys. -/
theorem p11 (x : FVec Ideal S512x1024 .bf16) (w : Vec Ideal S1024x128 .bf16) (g h : Vec Ideal S1x64 .f32) (r : Fin 512) (n : Fin 64) :
    (k0_pay11 (F := Ideal) x w g h (ix3 0 r n) : EReal) = lnm 0x42800000#32
      (fun j => lin (fun k => (x (ix2 r k) : EReal)) (fun k l => (w (ix2 k l) : EReal)) ⟨j.val, by omega⟩)
      (fun k => (g (ix2 0 k) : EReal)) (fun k => (h (ix2 0 k) : EReal)) n := by
  unfold lnm mean lin
  pointwise [k0_pay11]

/-- The index weights. -/
theorem p13 (x : FVec Ideal S512x1024 .bf16) (w : Vec Ideal S16x1024 .bf16) (h : Fin 8) (r : Fin 512) :
    (k0_pay13 (F := Ideal) (k0_pay12 x w) (ix3 0 h r) : EReal)
      = lin (fun k => (x (ix2 r k) : EReal)) (fun k l => (w (ix2 l k) : EReal)) (⟨h.val, by omega⟩ : Fin 16) * Ideal.ofBits .f32 0x3EB504F3#32 := by
  have e : (k0_pay13 (F := Ideal) (k0_pay12 x w) (ix3 0 h r) : EReal)
      = (∑ k, (w (ix2 (⟨h.val, by omega⟩ : Fin 16) k) : EReal) * x (ix2 r k)) * Ideal.ofBits .f32 0x3EB504F3#32 := by
    pointwise [k0_pay13, k0_pay12]
  exact e.trans (lin_swap (fun k => (x (ix2 r k) : EReal)) (fun k l => (w (ix2 l k) : EReal)) _ _)

/-- The queries' columns. -/
theorem p14 (x : FVec Ideal S512x256 .bf16) (w : Vec Ideal S256x512 .bf16) (r : Fin 512) (n : Fin 512) :
    (k0_pay14 (F := Ideal) x w (ix2 r n) : EReal) = lin (fun k => (x (ix2 r k) : EReal)) (fun k l => (w (ix2 k l) : EReal)) n := by
  unfold lin
  pointwise [k0_pay14]

/-- The gate after gelu. -/
theorem p70 (v : FVec Ideal S512x512 .f32) (r : Fin 512) (n : Fin 512) :
    (k0_pay70 (F := Ideal) v (ix2 r n) : EReal) = gel (v (ix2 r n)) := by
  unfold gel
  pointwise [k0_pay70]
  rfl

/-- The gated values after gelu. -/
theorem p71 (v : FVec Ideal S512x512 .f32) (r : Fin 512) (n : Fin 512) :
    (k0_pay71 (F := Ideal) v (ix2 r n) : EReal) = gel (v (ix2 r n)) := by
  unfold gel
  pointwise [k0_pay71]
  rfl

/-- The gated values after gelu and layer norm. -/
theorem p76 (v : FVec Ideal S512x512 .f32) (g h : Vec Ideal S1x512 .f32) (r : Fin 512) (n : Fin 512) :
    (k0_pay76 (F := Ideal) (k0_pay71 v) (k0_pay72 g) (k0_pay73 h) (k0_pay74 v) k0_pay75 (ix2 r n) : EReal)
      = lnm 0x44000000#32 (fun j => gel (v (ix2 r j))) (fun k => (g (ix2 0 k) : EReal)) (fun k => (h (ix2 0 k) : EReal)) n := by
  simp only [← p71]
  unfold lnm mean
  pointwise [k0_pay76, k0_pay72, k0_pay73, k0_pay74, k0_pay75]

/-- The first group's mixing weights, zero above the diagonal. -/
theorem p78 (w : Vec Ideal S1x128x128 .f32) (t s : Fin 128) :
    (k0_pay78 (F := Ideal) w (ix2 t s) : EReal) = if s.val ≤ t.val then (w (ix3 0 t s) : EReal) else 0 := by
  rw [← ofBits_zero, ← sge_select]
  pointwise [k0_pay78, k0_pay77]

/-- Another group's mixing weights, zero above the diagonal. -/
theorem p85 (w : Vec Ideal S1x128x128 .f32) (t s : Fin 128) :
    (k0_pay85 (F := Ideal) k0_pay77 w (ix2 t s) : EReal) = if s.val ≤ t.val then (w (ix3 0 t s) : EReal) else 0 := by
  rw [← ofBits_zero, ← sge_select]
  pointwise [k0_pay85, k0_pay77]

/-- Another group's mixing weights, zero above the diagonal. -/
theorem p92 (w : Vec Ideal S1x128x128 .f32) (t s : Fin 128) :
    (k0_pay92 (F := Ideal) k0_pay77 w (ix2 t s) : EReal) = if s.val ≤ t.val then (w (ix3 0 t s) : EReal) else 0 := by
  rw [← ofBits_zero, ← sge_select]
  pointwise [k0_pay92, k0_pay77]

/-- Another group's mixing weights, zero above the diagonal. -/
theorem p97 (w : Vec Ideal S1x128x128 .f32) (t s : Fin 128) :
    (k0_pay97 (F := Ideal) k0_pay77 w (ix2 t s) : EReal) = if s.val ≤ t.val then (w (ix3 0 t s) : EReal) else 0 := by
  rw [← ofBits_zero, ← sge_select]
  pointwise [k0_pay97, k0_pay77]

/-- Head 0's latent queries, half 0 of the block's tokens. -/
theorem lat0_0 (x : FVec Ideal S512x256 .bf16) (w : Vec Ideal S256x512 .bf16) (u : Vec Ideal S1x128x64 .bf16) (n : Fin 128) (l : Fin 256) :
    (k0_pay17 (F := Ideal) x w u (ix5 0 0 0 n l) : EReal)
      = lat (fun k => (x (ix2 (⟨l.val, by omega⟩ : Fin 512) k) : EReal)) (fun k n => (w (ix2 k n) : EReal)) (fun d n => (u (ix3 0 n d) : EReal)) 0 n := by
  unfold lat hcol
  simp only [← p14]
  pointwise [k0_pay17, k0_pay15]

/-- Head 0's latent queries, half 1 of the block's tokens. -/
theorem lat0_1 (x : FVec Ideal S512x256 .bf16) (w : Vec Ideal S256x512 .bf16) (u : Vec Ideal S1x128x64 .bf16) (n : Fin 128) (l : Fin 256) :
    (k0_pay20 (F := Ideal) (k0_pay19 x w u) (ix5 0 0 0 n l) : EReal)
      = lat (fun k => (x (ix2 (⟨256 + l.val, by omega⟩ : Fin 512) k) : EReal)) (fun k n => (w (ix2 k n) : EReal)) (fun d n => (u (ix3 0 n d) : EReal)) 0 n := by
  unfold lat hcol
  simp only [← p14]
  pointwise [k0_pay20, k0_pay19, k0_pay15]

/-- Head 1's latent queries, half 0 of the block's tokens. -/
theorem lat1_0 (x : FVec Ideal S512x256 .bf16) (w : Vec Ideal S256x512 .bf16) (u : Vec Ideal S1x128x64 .bf16) (n : Fin 128) (l : Fin 256) :
    (k0_pay24 (F := Ideal) (k0_pay14 x w) u (ix5 0 0 0 n l) : EReal)
      = lat (fun k => (x (ix2 (⟨l.val, by omega⟩ : Fin 512) k) : EReal)) (fun k n => (w (ix2 k n) : EReal)) (fun d n => (u (ix3 0 n d) : EReal)) 1 n := by
  unfold lat hcol
  simp only [← p14]
  pointwise [k0_pay24, k0_pay22]

/-- Head 1's latent queries, half 1 of the block's tokens. -/
theorem lat1_1 (x : FVec Ideal S512x256 .bf16) (w : Vec Ideal S256x512 .bf16) (u : Vec Ideal S1x128x64 .bf16) (n : Fin 128) (l : Fin 256) :
    (k0_pay27 (F := Ideal) (k0_pay26 (k0_pay14 x w) u) (ix5 0 0 0 n l) : EReal)
      = lat (fun k => (x (ix2 (⟨256 + l.val, by omega⟩ : Fin 512) k) : EReal)) (fun k n => (w (ix2 k n) : EReal)) (fun d n => (u (ix3 0 n d) : EReal)) 1 n := by
  unfold lat hcol
  simp only [← p14]
  pointwise [k0_pay27, k0_pay26, k0_pay22]

/-- Head 2's latent queries, half 0 of the block's tokens. -/
theorem lat2_0 (x : FVec Ideal S512x256 .bf16) (w : Vec Ideal S256x512 .bf16) (u : Vec Ideal S1x128x64 .bf16) (n : Fin 128) (l : Fin 256) :
    (k0_pay31 (F := Ideal) (k0_pay14 x w) u (ix5 0 0 0 n l) : EReal)
      = lat (fun k => (x (ix2 (⟨l.val, by omega⟩ : Fin 512) k) : EReal)) (fun k n => (w (ix2 k n) : EReal)) (fun d n => (u (ix3 0 n d) : EReal)) 2 n := by
  unfold lat hcol
  simp only [← p14]
  pointwise [k0_pay31, k0_pay29]

/-- Head 2's latent queries, half 1 of the block's tokens. -/
theorem lat2_1 (x : FVec Ideal S512x256 .bf16) (w : Vec Ideal S256x512 .bf16) (u : Vec Ideal S1x128x64 .bf16) (n : Fin 128) (l : Fin 256) :
    (k0_pay34 (F := Ideal) (k0_pay33 (k0_pay14 x w) u) (ix5 0 0 0 n l) : EReal)
      = lat (fun k => (x (ix2 (⟨256 + l.val, by omega⟩ : Fin 512) k) : EReal)) (fun k n => (w (ix2 k n) : EReal)) (fun d n => (u (ix3 0 n d) : EReal)) 2 n := by
  unfold lat hcol
  simp only [← p14]
  pointwise [k0_pay34, k0_pay33, k0_pay29]

/-- Head 3's latent queries, half 0 of the block's tokens. -/
theorem lat3_0 (x : FVec Ideal S512x256 .bf16) (w : Vec Ideal S256x512 .bf16) (u : Vec Ideal S1x128x64 .bf16) (n : Fin 128) (l : Fin 256) :
    (k0_pay38 (F := Ideal) (k0_pay14 x w) u (ix5 0 0 0 n l) : EReal)
      = lat (fun k => (x (ix2 (⟨l.val, by omega⟩ : Fin 512) k) : EReal)) (fun k n => (w (ix2 k n) : EReal)) (fun d n => (u (ix3 0 n d) : EReal)) 3 n := by
  unfold lat hcol
  simp only [← p14]
  pointwise [k0_pay38, k0_pay36]

/-- Head 3's latent queries, half 1 of the block's tokens. -/
theorem lat3_1 (x : FVec Ideal S512x256 .bf16) (w : Vec Ideal S256x512 .bf16) (u : Vec Ideal S1x128x64 .bf16) (n : Fin 128) (l : Fin 256) :
    (k0_pay41 (F := Ideal) (k0_pay40 (k0_pay14 x w) u) (ix5 0 0 0 n l) : EReal)
      = lat (fun k => (x (ix2 (⟨256 + l.val, by omega⟩ : Fin 512) k) : EReal)) (fun k n => (w (ix2 k n) : EReal)) (fun d n => (u (ix3 0 n d) : EReal)) 3 n := by
  unfold lat hcol
  simp only [← p14]
  pointwise [k0_pay41, k0_pay40, k0_pay36]

/-- Head 4's latent queries, half 0 of the block's tokens. -/
theorem lat4_0 (x : FVec Ideal S512x256 .bf16) (w : Vec Ideal S256x512 .bf16) (u : Vec Ideal S1x128x64 .bf16) (n : Fin 128) (l : Fin 256) :
    (k0_pay45 (F := Ideal) (k0_pay14 x w) u (ix5 0 0 0 n l) : EReal)
      = lat (fun k => (x (ix2 (⟨l.val, by omega⟩ : Fin 512) k) : EReal)) (fun k n => (w (ix2 k n) : EReal)) (fun d n => (u (ix3 0 n d) : EReal)) 4 n := by
  unfold lat hcol
  simp only [← p14]
  pointwise [k0_pay45, k0_pay43]

/-- Head 4's latent queries, half 1 of the block's tokens. -/
theorem lat4_1 (x : FVec Ideal S512x256 .bf16) (w : Vec Ideal S256x512 .bf16) (u : Vec Ideal S1x128x64 .bf16) (n : Fin 128) (l : Fin 256) :
    (k0_pay47 (F := Ideal) (k0_pay43 (k0_pay14 x w) u) (ix5 0 0 0 n l) : EReal)
      = lat (fun k => (x (ix2 (⟨256 + l.val, by omega⟩ : Fin 512) k) : EReal)) (fun k n => (w (ix2 k n) : EReal)) (fun d n => (u (ix3 0 n d) : EReal)) 4 n := by
  unfold lat hcol
  simp only [← p14]
  pointwise [k0_pay47, k0_pay43]

/-- Head 5's latent queries, half 0 of the block's tokens. -/
theorem lat5_0 (x : FVec Ideal S512x256 .bf16) (w : Vec Ideal S256x512 .bf16) (u : Vec Ideal S1x128x64 .bf16) (n : Fin 128) (l : Fin 256) :
    (k0_pay51 (F := Ideal) (k0_pay14 x w) u (ix5 0 0 0 n l) : EReal)
      = lat (fun k => (x (ix2 (⟨l.val, by omega⟩ : Fin 512) k) : EReal)) (fun k n => (w (ix2 k n) : EReal)) (fun d n => (u (ix3 0 n d) : EReal)) 5 n := by
  unfold lat hcol
  simp only [← p14]
  pointwise [k0_pay51, k0_pay49]

/-- Head 5's latent queries, half 1 of the block's tokens. -/
theorem lat5_1 (x : FVec Ideal S512x256 .bf16) (w : Vec Ideal S256x512 .bf16) (u : Vec Ideal S1x128x64 .bf16) (n : Fin 128) (l : Fin 256) :
    (k0_pay54 (F := Ideal) (k0_pay49 (k0_pay14 x w) u) (ix5 0 0 0 n l) : EReal)
      = lat (fun k => (x (ix2 (⟨256 + l.val, by omega⟩ : Fin 512) k) : EReal)) (fun k n => (w (ix2 k n) : EReal)) (fun d n => (u (ix3 0 n d) : EReal)) 5 n := by
  unfold lat hcol
  simp only [← p14]
  pointwise [k0_pay54, k0_pay49]

/-- Head 6's latent queries, half 0 of the block's tokens. -/
theorem lat6_0 (x : FVec Ideal S512x256 .bf16) (w : Vec Ideal S256x512 .bf16) (u : Vec Ideal S1x128x64 .bf16) (n : Fin 128) (l : Fin 256) :
    (k0_pay58 (F := Ideal) (k0_pay14 x w) u (ix5 0 0 0 n l) : EReal)
      = lat (fun k => (x (ix2 (⟨l.val, by omega⟩ : Fin 512) k) : EReal)) (fun k n => (w (ix2 k n) : EReal)) (fun d n => (u (ix3 0 n d) : EReal)) 6 n := by
  unfold lat hcol
  simp only [← p14]
  pointwise [k0_pay58, k0_pay56]

/-- Head 6's latent queries, half 1 of the block's tokens. -/
theorem lat6_1 (x : FVec Ideal S512x256 .bf16) (w : Vec Ideal S256x512 .bf16) (u : Vec Ideal S1x128x64 .bf16) (n : Fin 128) (l : Fin 256) :
    (k0_pay61 (F := Ideal) (k0_pay56 (k0_pay14 x w) u) (ix5 0 0 0 n l) : EReal)
      = lat (fun k => (x (ix2 (⟨256 + l.val, by omega⟩ : Fin 512) k) : EReal)) (fun k n => (w (ix2 k n) : EReal)) (fun d n => (u (ix3 0 n d) : EReal)) 6 n := by
  unfold lat hcol
  simp only [← p14]
  pointwise [k0_pay61, k0_pay56]

/-- Head 7's latent queries, half 0 of the block's tokens. -/
theorem lat7_0 (x : FVec Ideal S512x256 .bf16) (w : Vec Ideal S256x512 .bf16) (u : Vec Ideal S1x128x64 .bf16) (n : Fin 128) (l : Fin 256) :
    (k0_pay65 (F := Ideal) (k0_pay14 x w) u (ix5 0 0 0 n l) : EReal)
      = lat (fun k => (x (ix2 (⟨l.val, by omega⟩ : Fin 512) k) : EReal)) (fun k n => (w (ix2 k n) : EReal)) (fun d n => (u (ix3 0 n d) : EReal)) 7 n := by
  unfold lat hcol
  simp only [← p14]
  pointwise [k0_pay65, k0_pay63]

/-- Head 7's latent queries, half 1 of the block's tokens. -/
theorem lat7_1 (x : FVec Ideal S512x256 .bf16) (w : Vec Ideal S256x512 .bf16) (u : Vec Ideal S1x128x64 .bf16) (n : Fin 128) (l : Fin 256) :
    (k0_pay68 (F := Ideal) (k0_pay63 (k0_pay14 x w) u) (ix5 0 0 0 n l) : EReal)
      = lat (fun k => (x (ix2 (⟨256 + l.val, by omega⟩ : Fin 512) k) : EReal)) (fun k n => (w (ix2 k n) : EReal)) (fun d n => (u (ix3 0 n d) : EReal)) 7 n := by
  unfold lat hcol
  simp only [← p14]
  pointwise [k0_pay68, k0_pay63]

/-- Head 0's index queries, half 0 of the block's tokens. -/
theorem idx0_0 (x : FVec Ideal S512x256 .bf16) (u : Vec Ideal S1x64x256 .bf16) (n : Fin 64) (l : Fin 256) :
    (k0_pay18 (F := Ideal) x u (ix4 0 0 n l) : EReal)
      = lin (fun k => (x (ix2 (⟨l.val, by omega⟩ : Fin 512) k) : EReal)) (fun k n => (u (ix3 0 n k) : EReal)) n * Ideal.ofBits .f32 0x3E000000#32 := by
  have e : (k0_pay18 (F := Ideal) x u (ix4 0 0 n l) : EReal)
      = (∑ k, (u (ix3 0 n k) : EReal) * x (ix2 (⟨l.val, by omega⟩ : Fin 512) k)) * Ideal.ofBits .f32 0x3E000000#32 := by
    pointwise [k0_pay18, k0_pay16]
  exact e.trans (lin_swap (fun k => (x (ix2 (⟨l.val, by omega⟩ : Fin 512) k) : EReal)) (fun k n => (u (ix3 0 n k) : EReal)) _ _)

/-- Head 0's index queries, half 1 of the block's tokens. -/
theorem idx0_1 (x : FVec Ideal S512x256 .bf16) (u : Vec Ideal S1x64x256 .bf16) (n : Fin 64) (l : Fin 256) :
    (k0_pay21 (F := Ideal) (k0_pay16 x u) (ix4 0 0 n l) : EReal)
      = lin (fun k => (x (ix2 (⟨256 + l.val, by omega⟩ : Fin 512) k) : EReal)) (fun k n => (u (ix3 0 n k) : EReal)) n * Ideal.ofBits .f32 0x3E000000#32 := by
  have e : (k0_pay21 (F := Ideal) (k0_pay16 x u) (ix4 0 0 n l) : EReal)
      = (∑ k, (u (ix3 0 n k) : EReal) * x (ix2 (⟨256 + l.val, by omega⟩ : Fin 512) k)) * Ideal.ofBits .f32 0x3E000000#32 := by
    pointwise [k0_pay21, k0_pay16]
  exact e.trans (lin_swap (fun k => (x (ix2 (⟨256 + l.val, by omega⟩ : Fin 512) k) : EReal)) (fun k n => (u (ix3 0 n k) : EReal)) _ _)

/-- Head 1's index queries, half 0 of the block's tokens. -/
theorem idx1_0 (x : FVec Ideal S512x256 .bf16) (u : Vec Ideal S1x64x256 .bf16) (n : Fin 64) (l : Fin 256) :
    (k0_pay25 (F := Ideal) x u (ix4 0 0 n l) : EReal)
      = lin (fun k => (x (ix2 (⟨l.val, by omega⟩ : Fin 512) k) : EReal)) (fun k n => (u (ix3 0 n k) : EReal)) n * Ideal.ofBits .f32 0x3E000000#32 := by
  have e : (k0_pay25 (F := Ideal) x u (ix4 0 0 n l) : EReal)
      = (∑ k, (u (ix3 0 n k) : EReal) * x (ix2 (⟨l.val, by omega⟩ : Fin 512) k)) * Ideal.ofBits .f32 0x3E000000#32 := by
    pointwise [k0_pay25, k0_pay23]
  exact e.trans (lin_swap (fun k => (x (ix2 (⟨l.val, by omega⟩ : Fin 512) k) : EReal)) (fun k n => (u (ix3 0 n k) : EReal)) _ _)

/-- Head 1's index queries, half 1 of the block's tokens. -/
theorem idx1_1 (x : FVec Ideal S512x256 .bf16) (u : Vec Ideal S1x64x256 .bf16) (n : Fin 64) (l : Fin 256) :
    (k0_pay28 (F := Ideal) (k0_pay23 x u) (ix4 0 0 n l) : EReal)
      = lin (fun k => (x (ix2 (⟨256 + l.val, by omega⟩ : Fin 512) k) : EReal)) (fun k n => (u (ix3 0 n k) : EReal)) n * Ideal.ofBits .f32 0x3E000000#32 := by
  have e : (k0_pay28 (F := Ideal) (k0_pay23 x u) (ix4 0 0 n l) : EReal)
      = (∑ k, (u (ix3 0 n k) : EReal) * x (ix2 (⟨256 + l.val, by omega⟩ : Fin 512) k)) * Ideal.ofBits .f32 0x3E000000#32 := by
    pointwise [k0_pay28, k0_pay23]
  exact e.trans (lin_swap (fun k => (x (ix2 (⟨256 + l.val, by omega⟩ : Fin 512) k) : EReal)) (fun k n => (u (ix3 0 n k) : EReal)) _ _)

/-- Head 2's index queries, half 0 of the block's tokens. -/
theorem idx2_0 (x : FVec Ideal S512x256 .bf16) (u : Vec Ideal S1x64x256 .bf16) (n : Fin 64) (l : Fin 256) :
    (k0_pay32 (F := Ideal) x u (ix4 0 0 n l) : EReal)
      = lin (fun k => (x (ix2 (⟨l.val, by omega⟩ : Fin 512) k) : EReal)) (fun k n => (u (ix3 0 n k) : EReal)) n * Ideal.ofBits .f32 0x3E000000#32 := by
  have e : (k0_pay32 (F := Ideal) x u (ix4 0 0 n l) : EReal)
      = (∑ k, (u (ix3 0 n k) : EReal) * x (ix2 (⟨l.val, by omega⟩ : Fin 512) k)) * Ideal.ofBits .f32 0x3E000000#32 := by
    pointwise [k0_pay32, k0_pay30]
  exact e.trans (lin_swap (fun k => (x (ix2 (⟨l.val, by omega⟩ : Fin 512) k) : EReal)) (fun k n => (u (ix3 0 n k) : EReal)) _ _)

/-- Head 2's index queries, half 1 of the block's tokens. -/
theorem idx2_1 (x : FVec Ideal S512x256 .bf16) (u : Vec Ideal S1x64x256 .bf16) (n : Fin 64) (l : Fin 256) :
    (k0_pay35 (F := Ideal) (k0_pay30 x u) (ix4 0 0 n l) : EReal)
      = lin (fun k => (x (ix2 (⟨256 + l.val, by omega⟩ : Fin 512) k) : EReal)) (fun k n => (u (ix3 0 n k) : EReal)) n * Ideal.ofBits .f32 0x3E000000#32 := by
  have e : (k0_pay35 (F := Ideal) (k0_pay30 x u) (ix4 0 0 n l) : EReal)
      = (∑ k, (u (ix3 0 n k) : EReal) * x (ix2 (⟨256 + l.val, by omega⟩ : Fin 512) k)) * Ideal.ofBits .f32 0x3E000000#32 := by
    pointwise [k0_pay35, k0_pay30]
  exact e.trans (lin_swap (fun k => (x (ix2 (⟨256 + l.val, by omega⟩ : Fin 512) k) : EReal)) (fun k n => (u (ix3 0 n k) : EReal)) _ _)

/-- Head 3's index queries, half 0 of the block's tokens. -/
theorem idx3_0 (x : FVec Ideal S512x256 .bf16) (u : Vec Ideal S1x64x256 .bf16) (n : Fin 64) (l : Fin 256) :
    (k0_pay39 (F := Ideal) x u (ix4 0 0 n l) : EReal)
      = lin (fun k => (x (ix2 (⟨l.val, by omega⟩ : Fin 512) k) : EReal)) (fun k n => (u (ix3 0 n k) : EReal)) n * Ideal.ofBits .f32 0x3E000000#32 := by
  have e : (k0_pay39 (F := Ideal) x u (ix4 0 0 n l) : EReal)
      = (∑ k, (u (ix3 0 n k) : EReal) * x (ix2 (⟨l.val, by omega⟩ : Fin 512) k)) * Ideal.ofBits .f32 0x3E000000#32 := by
    pointwise [k0_pay39, k0_pay37]
  exact e.trans (lin_swap (fun k => (x (ix2 (⟨l.val, by omega⟩ : Fin 512) k) : EReal)) (fun k n => (u (ix3 0 n k) : EReal)) _ _)

/-- Head 3's index queries, half 1 of the block's tokens. -/
theorem idx3_1 (x : FVec Ideal S512x256 .bf16) (u : Vec Ideal S1x64x256 .bf16) (n : Fin 64) (l : Fin 256) :
    (k0_pay42 (F := Ideal) (k0_pay37 x u) (ix4 0 0 n l) : EReal)
      = lin (fun k => (x (ix2 (⟨256 + l.val, by omega⟩ : Fin 512) k) : EReal)) (fun k n => (u (ix3 0 n k) : EReal)) n * Ideal.ofBits .f32 0x3E000000#32 := by
  have e : (k0_pay42 (F := Ideal) (k0_pay37 x u) (ix4 0 0 n l) : EReal)
      = (∑ k, (u (ix3 0 n k) : EReal) * x (ix2 (⟨256 + l.val, by omega⟩ : Fin 512) k)) * Ideal.ofBits .f32 0x3E000000#32 := by
    pointwise [k0_pay42, k0_pay37]
  exact e.trans (lin_swap (fun k => (x (ix2 (⟨256 + l.val, by omega⟩ : Fin 512) k) : EReal)) (fun k n => (u (ix3 0 n k) : EReal)) _ _)

/-- Head 4's index queries, half 0 of the block's tokens. -/
theorem idx4_0 (x : FVec Ideal S512x256 .bf16) (u : Vec Ideal S1x64x256 .bf16) (n : Fin 64) (l : Fin 256) :
    (k0_pay46 (F := Ideal) x u (ix4 0 0 n l) : EReal)
      = lin (fun k => (x (ix2 (⟨l.val, by omega⟩ : Fin 512) k) : EReal)) (fun k n => (u (ix3 0 n k) : EReal)) n * Ideal.ofBits .f32 0x3E000000#32 := by
  have e : (k0_pay46 (F := Ideal) x u (ix4 0 0 n l) : EReal)
      = (∑ k, (u (ix3 0 n k) : EReal) * x (ix2 (⟨l.val, by omega⟩ : Fin 512) k)) * Ideal.ofBits .f32 0x3E000000#32 := by
    pointwise [k0_pay46, k0_pay44]
  exact e.trans (lin_swap (fun k => (x (ix2 (⟨l.val, by omega⟩ : Fin 512) k) : EReal)) (fun k n => (u (ix3 0 n k) : EReal)) _ _)

/-- Head 4's index queries, half 1 of the block's tokens. -/
theorem idx4_1 (x : FVec Ideal S512x256 .bf16) (u : Vec Ideal S1x64x256 .bf16) (n : Fin 64) (l : Fin 256) :
    (k0_pay48 (F := Ideal) (k0_pay44 x u) (ix4 0 0 n l) : EReal)
      = lin (fun k => (x (ix2 (⟨256 + l.val, by omega⟩ : Fin 512) k) : EReal)) (fun k n => (u (ix3 0 n k) : EReal)) n * Ideal.ofBits .f32 0x3E000000#32 := by
  have e : (k0_pay48 (F := Ideal) (k0_pay44 x u) (ix4 0 0 n l) : EReal)
      = (∑ k, (u (ix3 0 n k) : EReal) * x (ix2 (⟨256 + l.val, by omega⟩ : Fin 512) k)) * Ideal.ofBits .f32 0x3E000000#32 := by
    pointwise [k0_pay48, k0_pay44]
  exact e.trans (lin_swap (fun k => (x (ix2 (⟨256 + l.val, by omega⟩ : Fin 512) k) : EReal)) (fun k n => (u (ix3 0 n k) : EReal)) _ _)

/-- Head 5's index queries, half 0 of the block's tokens. -/
theorem idx5_0 (x : FVec Ideal S512x256 .bf16) (u : Vec Ideal S1x64x256 .bf16) (n : Fin 64) (l : Fin 256) :
    (k0_pay53 (F := Ideal) (k0_pay52 x u) (ix4 0 0 n l) : EReal)
      = lin (fun k => (x (ix2 (⟨l.val, by omega⟩ : Fin 512) k) : EReal)) (fun k n => (u (ix3 0 n k) : EReal)) n * Ideal.ofBits .f32 0x3E000000#32 := by
  have e : (k0_pay53 (F := Ideal) (k0_pay52 x u) (ix4 0 0 n l) : EReal)
      = (∑ k, (u (ix3 0 n k) : EReal) * x (ix2 (⟨l.val, by omega⟩ : Fin 512) k)) * Ideal.ofBits .f32 0x3E000000#32 := by
    pointwise [k0_pay53, k0_pay52, k0_pay50]
  exact e.trans (lin_swap (fun k => (x (ix2 (⟨l.val, by omega⟩ : Fin 512) k) : EReal)) (fun k n => (u (ix3 0 n k) : EReal)) _ _)

/-- Head 5's index queries, half 1 of the block's tokens. -/
theorem idx5_1 (x : FVec Ideal S512x256 .bf16) (u : Vec Ideal S1x64x256 .bf16) (n : Fin 64) (l : Fin 256) :
    (k0_pay55 (F := Ideal) (k0_pay50 x u) (ix4 0 0 n l) : EReal)
      = lin (fun k => (x (ix2 (⟨256 + l.val, by omega⟩ : Fin 512) k) : EReal)) (fun k n => (u (ix3 0 n k) : EReal)) n * Ideal.ofBits .f32 0x3E000000#32 := by
  have e : (k0_pay55 (F := Ideal) (k0_pay50 x u) (ix4 0 0 n l) : EReal)
      = (∑ k, (u (ix3 0 n k) : EReal) * x (ix2 (⟨256 + l.val, by omega⟩ : Fin 512) k)) * Ideal.ofBits .f32 0x3E000000#32 := by
    pointwise [k0_pay55, k0_pay50]
  exact e.trans (lin_swap (fun k => (x (ix2 (⟨256 + l.val, by omega⟩ : Fin 512) k) : EReal)) (fun k n => (u (ix3 0 n k) : EReal)) _ _)

/-- Head 6's index queries, half 0 of the block's tokens. -/
theorem idx6_0 (x : FVec Ideal S512x256 .bf16) (u : Vec Ideal S1x64x256 .bf16) (n : Fin 64) (l : Fin 256) :
    (k0_pay60 (F := Ideal) (k0_pay59 x u) (ix4 0 0 n l) : EReal)
      = lin (fun k => (x (ix2 (⟨l.val, by omega⟩ : Fin 512) k) : EReal)) (fun k n => (u (ix3 0 n k) : EReal)) n * Ideal.ofBits .f32 0x3E000000#32 := by
  have e : (k0_pay60 (F := Ideal) (k0_pay59 x u) (ix4 0 0 n l) : EReal)
      = (∑ k, (u (ix3 0 n k) : EReal) * x (ix2 (⟨l.val, by omega⟩ : Fin 512) k)) * Ideal.ofBits .f32 0x3E000000#32 := by
    pointwise [k0_pay60, k0_pay59, k0_pay57]
  exact e.trans (lin_swap (fun k => (x (ix2 (⟨l.val, by omega⟩ : Fin 512) k) : EReal)) (fun k n => (u (ix3 0 n k) : EReal)) _ _)

/-- Head 6's index queries, half 1 of the block's tokens. -/
theorem idx6_1 (x : FVec Ideal S512x256 .bf16) (u : Vec Ideal S1x64x256 .bf16) (n : Fin 64) (l : Fin 256) :
    (k0_pay62 (F := Ideal) (k0_pay57 x u) (ix4 0 0 n l) : EReal)
      = lin (fun k => (x (ix2 (⟨256 + l.val, by omega⟩ : Fin 512) k) : EReal)) (fun k n => (u (ix3 0 n k) : EReal)) n * Ideal.ofBits .f32 0x3E000000#32 := by
  have e : (k0_pay62 (F := Ideal) (k0_pay57 x u) (ix4 0 0 n l) : EReal)
      = (∑ k, (u (ix3 0 n k) : EReal) * x (ix2 (⟨256 + l.val, by omega⟩ : Fin 512) k)) * Ideal.ofBits .f32 0x3E000000#32 := by
    pointwise [k0_pay62, k0_pay57]
  exact e.trans (lin_swap (fun k => (x (ix2 (⟨256 + l.val, by omega⟩ : Fin 512) k) : EReal)) (fun k n => (u (ix3 0 n k) : EReal)) _ _)

/-- Head 7's index queries, half 0 of the block's tokens. -/
theorem idx7_0 (x : FVec Ideal S512x256 .bf16) (u : Vec Ideal S1x64x256 .bf16) (n : Fin 64) (l : Fin 256) :
    (k0_pay67 (F := Ideal) (k0_pay66 x u) (ix4 0 0 n l) : EReal)
      = lin (fun k => (x (ix2 (⟨l.val, by omega⟩ : Fin 512) k) : EReal)) (fun k n => (u (ix3 0 n k) : EReal)) n * Ideal.ofBits .f32 0x3E000000#32 := by
  have e : (k0_pay67 (F := Ideal) (k0_pay66 x u) (ix4 0 0 n l) : EReal)
      = (∑ k, (u (ix3 0 n k) : EReal) * x (ix2 (⟨l.val, by omega⟩ : Fin 512) k)) * Ideal.ofBits .f32 0x3E000000#32 := by
    pointwise [k0_pay67, k0_pay66, k0_pay64]
  exact e.trans (lin_swap (fun k => (x (ix2 (⟨l.val, by omega⟩ : Fin 512) k) : EReal)) (fun k n => (u (ix3 0 n k) : EReal)) _ _)

/-- Head 7's index queries, half 1 of the block's tokens. -/
theorem idx7_1 (x : FVec Ideal S512x256 .bf16) (u : Vec Ideal S1x64x256 .bf16) (n : Fin 64) (l : Fin 256) :
    (k0_pay69 (F := Ideal) (k0_pay64 x u) (ix4 0 0 n l) : EReal)
      = lin (fun k => (x (ix2 (⟨256 + l.val, by omega⟩ : Fin 512) k) : EReal)) (fun k n => (u (ix3 0 n k) : EReal)) n * Ideal.ofBits .f32 0x3E000000#32 := by
  have e : (k0_pay69 (F := Ideal) (k0_pay64 x u) (ix4 0 0 n l) : EReal)
      = (∑ k, (u (ix3 0 n k) : EReal) * x (ix2 (⟨256 + l.val, by omega⟩ : Fin 512) k)) * Ideal.ofBits .f32 0x3E000000#32 := by
    pointwise [k0_pay69, k0_pay64]
  exact e.trans (lin_swap (fun k => (x (ix2 (⟨256 + l.val, by omega⟩ : Fin 512) k) : EReal)) (fun k n => (u (ix3 0 n k) : EReal)) _ _)

/-- Column group 0 of chunk 0 of the mixed and gated values. -/
theorem od0_0 (f v : FVec Ideal S512x512 .f32) (g h : Vec Ideal S1x512 .f32) (w : Vec Ideal S1x128x128 .f32) (b : Vec Ideal S128x1 .f32)
    (t n : Fin 128) :
    (k0_pay79 (F := Ideal) f (k0_pay71 v) (k0_pay72 g) (k0_pay73 h) (k0_pay74 v) k0_pay75 w b (ix3 0 t n) : EReal)
      = (f (ix2 (⟨t.val, by omega⟩ : Fin 512) (⟨n.val, by omega⟩ : Fin 512)) : EReal) * mixc (fun s => (w (ix3 0 t s) : EReal))
        (fun s => lnm 0x44000000#32 (fun j => gel (v (ix2 (⟨s.val, by omega⟩ : Fin 512) j))) (fun k => (g (ix2 0 k) : EReal)) (fun k => (h (ix2 0 k) : EReal)) (⟨n.val, by omega⟩ : Fin 512))
        (b (ix2 t 0)) t := by
  unfold mixc
  simp only [← p76]
  pointwise [k0_pay79]
  simp only [p78]

/-- Column group 0 of chunk 1 of the mixed and gated values. -/
theorem od0_1 (f v : FVec Ideal S512x512 .f32) (g h : Vec Ideal S1x512 .f32) (w : Vec Ideal S1x128x128 .f32) (b : Vec Ideal S128x1 .f32)
    (t n : Fin 128) :
    (k0_pay82 (F := Ideal) f (k0_pay80 (k0_pay71 v) (k0_pay72 g) (k0_pay73 h) (k0_pay74 v) k0_pay75 w) (k0_pay81 b) (ix3 0 t n) : EReal)
      = (f (ix2 (⟨128 + t.val, by omega⟩ : Fin 512) (⟨n.val, by omega⟩ : Fin 512)) : EReal) * mixc (fun s => (w (ix3 0 t s) : EReal))
        (fun s => lnm 0x44000000#32 (fun j => gel (v (ix2 (⟨128 + s.val, by omega⟩ : Fin 512) j))) (fun k => (g (ix2 0 k) : EReal)) (fun k => (h (ix2 0 k) : EReal)) (⟨n.val, by omega⟩ : Fin 512))
        (b (ix2 t 0)) t := by
  unfold mixc
  simp only [← p76]
  pointwise [k0_pay82, k0_pay80, k0_pay81]
  simp only [p78]

/-- Column group 0 of chunk 2 of the mixed and gated values. -/
theorem od0_2 (f v : FVec Ideal S512x512 .f32) (g h : Vec Ideal S1x512 .f32) (w : Vec Ideal S1x128x128 .f32) (b : Vec Ideal S128x1 .f32)
    (t n : Fin 128) :
    (k0_pay83 (F := Ideal) f (k0_pay76 (k0_pay71 v) (k0_pay72 g) (k0_pay73 h) (k0_pay74 v) k0_pay75) (k0_pay78 w) b (ix3 0 t n) : EReal)
      = (f (ix2 (⟨256 + t.val, by omega⟩ : Fin 512) (⟨n.val, by omega⟩ : Fin 512)) : EReal) * mixc (fun s => (w (ix3 0 t s) : EReal))
        (fun s => lnm 0x44000000#32 (fun j => gel (v (ix2 (⟨256 + s.val, by omega⟩ : Fin 512) j))) (fun k => (g (ix2 0 k) : EReal)) (fun k => (h (ix2 0 k) : EReal)) (⟨n.val, by omega⟩ : Fin 512))
        (b (ix2 t 0)) t := by
  unfold mixc
  simp only [← p76]
  pointwise [k0_pay83]
  simp only [p78]

/-- Column group 0 of chunk 3 of the mixed and gated values. -/
theorem od0_3 (f v : FVec Ideal S512x512 .f32) (g h : Vec Ideal S1x512 .f32) (w : Vec Ideal S1x128x128 .f32) (b : Vec Ideal S128x1 .f32)
    (t n : Fin 128) :
    (k0_pay84 (F := Ideal) f (k0_pay76 (k0_pay71 v) (k0_pay72 g) (k0_pay73 h) (k0_pay74 v) k0_pay75) (k0_pay78 w) b (ix3 0 t n) : EReal)
      = (f (ix2 (⟨384 + t.val, by omega⟩ : Fin 512) (⟨n.val, by omega⟩ : Fin 512)) : EReal) * mixc (fun s => (w (ix3 0 t s) : EReal))
        (fun s => lnm 0x44000000#32 (fun j => gel (v (ix2 (⟨384 + s.val, by omega⟩ : Fin 512) j))) (fun k => (g (ix2 0 k) : EReal)) (fun k => (h (ix2 0 k) : EReal)) (⟨n.val, by omega⟩ : Fin 512))
        (b (ix2 t 0)) t := by
  unfold mixc
  simp only [← p76]
  pointwise [k0_pay84]
  simp only [p78]

/-- Column group 1 of chunk 0 of the mixed and gated values. -/
theorem od1_0 (f v : FVec Ideal S512x512 .f32) (g h : Vec Ideal S1x512 .f32) (w : Vec Ideal S1x128x128 .f32) (b : Vec Ideal S128x1 .f32)
    (t n : Fin 128) :
    (k0_pay87 (F := Ideal) f (k0_pay85 k0_pay77 w) (k0_pay86 (k0_pay76 (k0_pay71 v) (k0_pay72 g) (k0_pay73 h) (k0_pay74 v) k0_pay75)) (constant S128x128 .f32 0x00000000#32) b (ix3 0 t n) : EReal)
      = (f (ix2 (⟨t.val, by omega⟩ : Fin 512) (⟨128 + n.val, by omega⟩ : Fin 512)) : EReal) * mixc (fun s => (w (ix3 0 t s) : EReal))
        (fun s => lnm 0x44000000#32 (fun j => gel (v (ix2 (⟨s.val, by omega⟩ : Fin 512) j))) (fun k => (g (ix2 0 k) : EReal)) (fun k => (h (ix2 0 k) : EReal)) (⟨128 + n.val, by omega⟩ : Fin 512))
        (b (ix2 t 0)) t := by
  unfold mixc
  simp only [← p76]
  pointwise [k0_pay87, k0_pay86]
  simp only [p85]

/-- Column group 1 of chunk 1 of the mixed and gated values. -/
theorem od1_1 (f v : FVec Ideal S512x512 .f32) (g h : Vec Ideal S1x512 .f32) (w : Vec Ideal S1x128x128 .f32) (b : Vec Ideal S128x1 .f32)
    (t n : Fin 128) :
    (k0_pay88 (F := Ideal) f (k0_pay76 (k0_pay71 v) (k0_pay72 g) (k0_pay73 h) (k0_pay74 v) k0_pay75) (k0_pay85 k0_pay77 w) b (ix3 0 t n) : EReal)
      = (f (ix2 (⟨128 + t.val, by omega⟩ : Fin 512) (⟨128 + n.val, by omega⟩ : Fin 512)) : EReal) * mixc (fun s => (w (ix3 0 t s) : EReal))
        (fun s => lnm 0x44000000#32 (fun j => gel (v (ix2 (⟨128 + s.val, by omega⟩ : Fin 512) j))) (fun k => (g (ix2 0 k) : EReal)) (fun k => (h (ix2 0 k) : EReal)) (⟨128 + n.val, by omega⟩ : Fin 512))
        (b (ix2 t 0)) t := by
  unfold mixc
  simp only [← p76]
  pointwise [k0_pay88]
  simp only [p85]

/-- Column group 1 of chunk 2 of the mixed and gated values. -/
theorem od1_2 (f v : FVec Ideal S512x512 .f32) (g h : Vec Ideal S1x512 .f32) (w : Vec Ideal S1x128x128 .f32) (b : Vec Ideal S128x1 .f32)
    (t n : Fin 128) :
    (k0_pay89 (F := Ideal) f (k0_pay76 (k0_pay71 v) (k0_pay72 g) (k0_pay73 h) (k0_pay74 v) k0_pay75) (k0_pay85 k0_pay77 w) b (ix3 0 t n) : EReal)
      = (f (ix2 (⟨256 + t.val, by omega⟩ : Fin 512) (⟨128 + n.val, by omega⟩ : Fin 512)) : EReal) * mixc (fun s => (w (ix3 0 t s) : EReal))
        (fun s => lnm 0x44000000#32 (fun j => gel (v (ix2 (⟨256 + s.val, by omega⟩ : Fin 512) j))) (fun k => (g (ix2 0 k) : EReal)) (fun k => (h (ix2 0 k) : EReal)) (⟨128 + n.val, by omega⟩ : Fin 512))
        (b (ix2 t 0)) t := by
  unfold mixc
  simp only [← p76]
  pointwise [k0_pay89]
  simp only [p85]

/-- Column group 1 of chunk 3 of the mixed and gated values. -/
theorem od1_3 (f v : FVec Ideal S512x512 .f32) (g h : Vec Ideal S1x512 .f32) (w : Vec Ideal S1x128x128 .f32) (b : Vec Ideal S128x1 .f32)
    (t n : Fin 128) :
    (k0_pay91 (F := Ideal) f (k0_pay90 (k0_pay76 (k0_pay71 v) (k0_pay72 g) (k0_pay73 h) (k0_pay74 v) k0_pay75) (k0_pay85 k0_pay77 w)) b (ix3 0 t n) : EReal)
      = (f (ix2 (⟨384 + t.val, by omega⟩ : Fin 512) (⟨128 + n.val, by omega⟩ : Fin 512)) : EReal) * mixc (fun s => (w (ix3 0 t s) : EReal))
        (fun s => lnm 0x44000000#32 (fun j => gel (v (ix2 (⟨384 + s.val, by omega⟩ : Fin 512) j))) (fun k => (g (ix2 0 k) : EReal)) (fun k => (h (ix2 0 k) : EReal)) (⟨128 + n.val, by omega⟩ : Fin 512))
        (b (ix2 t 0)) t := by
  unfold mixc
  simp only [← p76]
  pointwise [k0_pay91, k0_pay90]
  simp only [p85]

/-- Column group 2 of chunk 0 of the mixed and gated values. -/
theorem od2_0 (f v : FVec Ideal S512x512 .f32) (g h : Vec Ideal S1x512 .f32) (w : Vec Ideal S1x128x128 .f32) (b : Vec Ideal S128x1 .f32)
    (t n : Fin 128) :
    (k0_pay93 (F := Ideal) f (k0_pay76 (k0_pay71 v) (k0_pay72 g) (k0_pay73 h) (k0_pay74 v) k0_pay75) k0_pay77 w b (ix3 0 t n) : EReal)
      = (f (ix2 (⟨t.val, by omega⟩ : Fin 512) (⟨256 + n.val, by omega⟩ : Fin 512)) : EReal) * mixc (fun s => (w (ix3 0 t s) : EReal))
        (fun s => lnm 0x44000000#32 (fun j => gel (v (ix2 (⟨s.val, by omega⟩ : Fin 512) j))) (fun k => (g (ix2 0 k) : EReal)) (fun k => (h (ix2 0 k) : EReal)) (⟨256 + n.val, by omega⟩ : Fin 512))
        (b (ix2 t 0)) t := by
  unfold mixc
  simp only [← p76]
  pointwise [k0_pay93]
  simp only [p92]

/-- Column group 2 of chunk 1 of the mixed and gated values. -/
theorem od2_1 (f v : FVec Ideal S512x512 .f32) (g h : Vec Ideal S1x512 .f32) (w : Vec Ideal S1x128x128 .f32) (b : Vec Ideal S128x1 .f32)
    (t n : Fin 128) :
    (k0_pay94 (F := Ideal) f (k0_pay76 (k0_pay71 v) (k0_pay72 g) (k0_pay73 h) (k0_pay74 v) k0_pay75) k0_pay77 w b (ix3 0 t n) : EReal)
      = (f (ix2 (⟨128 + t.val, by omega⟩ : Fin 512) (⟨256 + n.val, by omega⟩ : Fin 512)) : EReal) * mixc (fun s => (w (ix3 0 t s) : EReal))
        (fun s => lnm 0x44000000#32 (fun j => gel (v (ix2 (⟨128 + s.val, by omega⟩ : Fin 512) j))) (fun k => (g (ix2 0 k) : EReal)) (fun k => (h (ix2 0 k) : EReal)) (⟨256 + n.val, by omega⟩ : Fin 512))
        (b (ix2 t 0)) t := by
  unfold mixc
  simp only [← p76]
  pointwise [k0_pay94]
  simp only [p92]

/-- Column group 2 of chunk 2 of the mixed and gated values. -/
theorem od2_2 (f v : FVec Ideal S512x512 .f32) (g h : Vec Ideal S1x512 .f32) (w : Vec Ideal S1x128x128 .f32) (b : Vec Ideal S128x1 .f32)
    (t n : Fin 128) :
    (k0_pay95 (F := Ideal) f (k0_pay76 (k0_pay71 v) (k0_pay72 g) (k0_pay73 h) (k0_pay74 v) k0_pay75) (k0_pay92 k0_pay77 w) b (ix3 0 t n) : EReal)
      = (f (ix2 (⟨256 + t.val, by omega⟩ : Fin 512) (⟨256 + n.val, by omega⟩ : Fin 512)) : EReal) * mixc (fun s => (w (ix3 0 t s) : EReal))
        (fun s => lnm 0x44000000#32 (fun j => gel (v (ix2 (⟨256 + s.val, by omega⟩ : Fin 512) j))) (fun k => (g (ix2 0 k) : EReal)) (fun k => (h (ix2 0 k) : EReal)) (⟨256 + n.val, by omega⟩ : Fin 512))
        (b (ix2 t 0)) t := by
  unfold mixc
  simp only [← p76]
  pointwise [k0_pay95]
  simp only [p92]

/-- Column group 2 of chunk 3 of the mixed and gated values. -/
theorem od2_3 (f v : FVec Ideal S512x512 .f32) (g h : Vec Ideal S1x512 .f32) (w : Vec Ideal S1x128x128 .f32) (b : Vec Ideal S128x1 .f32)
    (t n : Fin 128) :
    (k0_pay96 (F := Ideal) f (k0_pay76 (k0_pay71 v) (k0_pay72 g) (k0_pay73 h) (k0_pay74 v) k0_pay75) (k0_pay92 k0_pay77 w) b (ix3 0 t n) : EReal)
      = (f (ix2 (⟨384 + t.val, by omega⟩ : Fin 512) (⟨256 + n.val, by omega⟩ : Fin 512)) : EReal) * mixc (fun s => (w (ix3 0 t s) : EReal))
        (fun s => lnm 0x44000000#32 (fun j => gel (v (ix2 (⟨384 + s.val, by omega⟩ : Fin 512) j))) (fun k => (g (ix2 0 k) : EReal)) (fun k => (h (ix2 0 k) : EReal)) (⟨256 + n.val, by omega⟩ : Fin 512))
        (b (ix2 t 0)) t := by
  unfold mixc
  simp only [← p76]
  pointwise [k0_pay96]
  simp only [p92]

/-- Column group 3 of chunk 0 of the mixed and gated values. -/
theorem od3_0 (f v : FVec Ideal S512x512 .f32) (g h : Vec Ideal S1x512 .f32) (w : Vec Ideal S1x128x128 .f32) (b : Vec Ideal S128x1 .f32)
    (t n : Fin 128) :
    (k0_pay99 (F := Ideal) (k0_pay98 f (k0_pay76 (k0_pay71 v) (k0_pay72 g) (k0_pay73 h) (k0_pay74 v) k0_pay75) k0_pay77 w b) (ix3 0 t n) : EReal)
      = (f (ix2 (⟨t.val, by omega⟩ : Fin 512) (⟨384 + n.val, by omega⟩ : Fin 512)) : EReal) * mixc (fun s => (w (ix3 0 t s) : EReal))
        (fun s => lnm 0x44000000#32 (fun j => gel (v (ix2 (⟨s.val, by omega⟩ : Fin 512) j))) (fun k => (g (ix2 0 k) : EReal)) (fun k => (h (ix2 0 k) : EReal)) (⟨384 + n.val, by omega⟩ : Fin 512))
        (b (ix2 t 0)) t := by
  unfold mixc
  simp only [← p76]
  pointwise [k0_pay99, k0_pay98]
  simp only [p97]

/-- Column group 3 of chunk 1 of the mixed and gated values. -/
theorem od3_1 (f v : FVec Ideal S512x512 .f32) (g h : Vec Ideal S1x512 .f32) (w : Vec Ideal S1x128x128 .f32) (b : Vec Ideal S128x1 .f32)
    (t n : Fin 128) :
    (k0_pay100 (F := Ideal) f (k0_pay76 (k0_pay71 v) (k0_pay72 g) (k0_pay73 h) (k0_pay74 v) k0_pay75) (k0_pay97 k0_pay77 w) b (ix3 0 t n) : EReal)
      = (f (ix2 (⟨128 + t.val, by omega⟩ : Fin 512) (⟨384 + n.val, by omega⟩ : Fin 512)) : EReal) * mixc (fun s => (w (ix3 0 t s) : EReal))
        (fun s => lnm 0x44000000#32 (fun j => gel (v (ix2 (⟨128 + s.val, by omega⟩ : Fin 512) j))) (fun k => (g (ix2 0 k) : EReal)) (fun k => (h (ix2 0 k) : EReal)) (⟨384 + n.val, by omega⟩ : Fin 512))
        (b (ix2 t 0)) t := by
  unfold mixc
  simp only [← p76]
  pointwise [k0_pay100]
  simp only [p97]

/-- Column group 3 of chunk 2 of the mixed and gated values. -/
theorem od3_2 (f v : FVec Ideal S512x512 .f32) (g h : Vec Ideal S1x512 .f32) (w : Vec Ideal S1x128x128 .f32) (b : Vec Ideal S128x1 .f32)
    (t n : Fin 128) :
    (k0_pay101 (F := Ideal) f (k0_pay76 (k0_pay71 v) (k0_pay72 g) (k0_pay73 h) (k0_pay74 v) k0_pay75) (k0_pay97 k0_pay77 w) b (ix3 0 t n) : EReal)
      = (f (ix2 (⟨256 + t.val, by omega⟩ : Fin 512) (⟨384 + n.val, by omega⟩ : Fin 512)) : EReal) * mixc (fun s => (w (ix3 0 t s) : EReal))
        (fun s => lnm 0x44000000#32 (fun j => gel (v (ix2 (⟨256 + s.val, by omega⟩ : Fin 512) j))) (fun k => (g (ix2 0 k) : EReal)) (fun k => (h (ix2 0 k) : EReal)) (⟨384 + n.val, by omega⟩ : Fin 512))
        (b (ix2 t 0)) t := by
  unfold mixc
  simp only [← p76]
  pointwise [k0_pay101]
  simp only [p97]

/-- Column group 3 of chunk 3 of the mixed and gated values. -/
theorem od3_3 (f v : FVec Ideal S512x512 .f32) (g h : Vec Ideal S1x512 .f32) (w : Vec Ideal S1x128x128 .f32) (b : Vec Ideal S128x1 .f32)
    (t n : Fin 128) :
    (k0_pay1 (F := Ideal) (k0_pay102 f (k0_pay76 (k0_pay71 v) (k0_pay72 g) (k0_pay73 h) (k0_pay74 v) k0_pay75) (k0_pay97 k0_pay77 w) b) (ix3 0 t n) : EReal)
      = (f (ix2 (⟨384 + t.val, by omega⟩ : Fin 512) (⟨384 + n.val, by omega⟩ : Fin 512)) : EReal) * mixc (fun s => (w (ix3 0 t s) : EReal))
        (fun s => lnm 0x44000000#32 (fun j => gel (v (ix2 (⟨384 + s.val, by omega⟩ : Fin 512) j))) (fun k => (g (ix2 0 k) : EReal)) (fun k => (h (ix2 0 k) : EReal)) (⟨384 + n.val, by omega⟩ : Fin 512))
        (b (ix2 t 0)) t := by
  unfold mixc
  simp only [← p76]
  pointwise [k0_pay1, k0_pay102]
  simp only [p97]

end Cert.OVal

end
-- ==== Proof.OOut.lean ====
/-
  The second layer's input projection: what the kernel's body leaves in each of its result blocks, as one function of the
  blocks it reads.
-/
module

public import proofs.«01_k».proof.Proof.OVal
public import Idealize.ShloMosaic.Lib.Pointwise
public import Idealize.ShloMosaic.Lib.Pipeline.Value
public import Idealize.ShloMosaic.Lib.Pipeline.ValueKit

@[expose] public section

set_option maxRecDepth 16384
set_option maxHeartbeats 1000000

noncomputable section

namespace Cert.OOut

open Cert.KernelOIdeal Cert.KernelOIdeal.Gen Idealize.ShloMosaic Idealize.ShloMosaic.TcCoe Idealize.SL.Sem Cert.Row Cert.ORow
  Cert.OVal

/-- The normalised row of a token. -/
def hr (x0 : Vec Ideal S1x512x1024 .f32) (x1 : Vec Ideal S1x1024 .f32) (r : Fin 512) : Fin 1024 → EReal :=
  rms (fun k => (x0 (ix3 0 r k) : EReal)) (fun k => (x1 (ix2 0 k) : EReal))

/-- All projected columns of a token. -/
def pj (x0 : Vec Ideal S1x512x1024 .f32) (x1 : Vec Ideal S1x1024 .f32) (x2 : Vec Ideal S1024x1536 .bf16) (r : Fin 512) : Fin 1536 → EReal :=
  lin (hr x0 x1 r) (fun k l => (x2 (ix2 k l) : EReal))

/-- The normalised latent query of a token. -/
def cq (x0 : Vec Ideal S1x512x1024 .f32) (x1 : Vec Ideal S1x1024 .f32) (x2 : Vec Ideal S1024x1536 .bf16) (x4 : Vec Ideal S1x256 .f32) (r : Fin 512) : Fin 256 → EReal :=
  nrm 0x43800000#32 (fun n => pj x0 x1 x2 r ⟨n.val, by omega⟩) (fun k => (x4 (ix2 0 k) : EReal))

/-- The normalised latent key of a token. -/
def ck (x0 : Vec Ideal S1x512x1024 .f32) (x1 : Vec Ideal S1x1024 .f32) (x2 : Vec Ideal S1024x1536 .bf16) (x5 : Vec Ideal S1x128 .f32) (r : Fin 512) : Fin 128 → EReal :=
  nrm 0x43000000#32 (fun n => pj x0 x1 x2 r ⟨256 + n.val, by omega⟩) (fun k => (x5 (ix2 0 k) : EReal))

/-- The gated values of a token after gelu and layer norm. -/
def nv (x0 : Vec Ideal S1x512x1024 .f32) (x1 : Vec Ideal S1x1024 .f32) (x2 : Vec Ideal S1024x1536 .bf16) (x11 : Vec Ideal S1x512 .f32) (x12 : Vec Ideal S1x512 .f32) (r : Fin 512) : Fin 512 → EReal :=
  lnm 0x44000000#32 (fun j => gel (pj x0 x1 x2 r ⟨896 + j.val, by omega⟩)) (fun k => (x11 (ix2 0 k) : EReal))
    (fun k => (x12 (ix2 0 k) : EReal))

/-- A head's latent query of a token. -/
def B15 (x0 : Vec Ideal S1x512x1024 .f32) (x1 : Vec Ideal S1x1024 .f32) (x2 : Vec Ideal S1024x1536 .bf16) (x4 : Vec Ideal S1x256 .f32) (x6 : Vec Ideal S256x512 .bf16) (x7 : Vec Ideal S8x128x64 .bf16) (r : Fin 512) (h : Fin 8) (n : Fin 128) : EReal :=
  lat (cq x0 x1 x2 x4 r) (fun k n => (x6 (ix2 k n) : EReal)) (fun d n => (x7 (ix3 h n d) : EReal)) h n

/-- The latent queries' block. -/
def G15 (x0 : Vec Ideal S1x512x1024 .f32) (x1 : Vec Ideal S1x1024 .f32) (x2 : Vec Ideal S1024x1536 .bf16) (x4 : Vec Ideal S1x256 .f32) (x6 : Vec Ideal S256x512 .bf16) (x7 : Vec Ideal S8x128x64 .bf16) : Vec Ideal S1x2x8x128x256 .bf16 := fun y =>
  B15 x0 x1 x2 x4 x6 x7 ⟨(y 1).val * 256 + (y 4).val, by
    have h1 : (y 1).val < 2 := (y 1).isLt
    have h4 : (y 4).val < 256 := (y 4).isLt
    omega⟩ (y 2) (y 3)

/-- A head's index query of a token. -/
def B16 (x0 : Vec Ideal S1x512x1024 .f32) (x1 : Vec Ideal S1x1024 .f32) (x2 : Vec Ideal S1024x1536 .bf16) (x4 : Vec Ideal S1x256 .f32) (x8 : Vec Ideal S8x64x256 .bf16) (r : Fin 512) (h : Fin 8) (n : Fin 64) : EReal :=
  lin (cq x0 x1 x2 x4 r) (fun k n => (x8 (ix3 h n k) : EReal)) n * Ideal.ofBits .f32 0x3E000000#32

/-- The index queries' block. -/
def G16 (x0 : Vec Ideal S1x512x1024 .f32) (x1 : Vec Ideal S1x1024 .f32) (x2 : Vec Ideal S1024x1536 .bf16) (x4 : Vec Ideal S1x256 .f32) (x8 : Vec Ideal S8x64x256 .bf16) : Vec Ideal S1x2x64x2048 .bf16 := fun y =>
  B16 x0 x1 x2 x4 x8 ⟨(y 1).val * 256 + (y 3).val % 256, by
    have h1 : (y 1).val < 2 := (y 1).isLt
    omega⟩ ⟨(y 3).val / 256, by
    have h3 : (y 3).val < 2048 := (y 3).isLt
    omega⟩ (y 2)

/-- The transposed latent keys' block. -/
def G19 (x0 : Vec Ideal S1x512x1024 .f32) (x1 : Vec Ideal S1x1024 .f32) (x2 : Vec Ideal S1024x1536 .bf16) (x5 : Vec Ideal S1x128 .f32) : Vec Ideal S1x1x144x512 .bf16 := fun y =>
  if h : (y 2).val < 128 then ck x0 x1 x2 x5 (y 3) ⟨(y 2).val, h⟩ else Ideal.ofBits .f32 0x3F800000#32

/-- One mixed and gated value: row chunk `k`, column group `a`. -/
def B21 (x0 : Vec Ideal S1x512x1024 .f32) (x1 : Vec Ideal S1x1024 .f32) (x2 : Vec Ideal S1024x1536 .bf16) (x11 : Vec Ideal S1x512 .f32) (x12 : Vec Ideal S1x512 .f32) (x13 : Vec Ideal S4x128x128 .f32) (x14 : Vec Ideal S128x4 .f32) (k a : Fin 4) (t n : Fin 128) : EReal :=
  gel (pj x0 x1 x2 ⟨k.val * 128 + t.val, by omega⟩ ⟨384 + (a.val * 128 + n.val), by omega⟩)
    * mixc (fun s => (x13 (ix3 a t s) : EReal)) (fun s => nv x0 x1 x2 x11 x12 ⟨k.val * 128 + s.val, by omega⟩ ⟨a.val * 128 + n.val, by omega⟩)
      (x14 (ix2 t a)) t

/-- The mixed and gated values' block. -/
def G21 (x0 : Vec Ideal S1x512x1024 .f32) (x1 : Vec Ideal S1x1024 .f32) (x2 : Vec Ideal S1024x1536 .bf16) (x11 : Vec Ideal S1x512 .f32) (x12 : Vec Ideal S1x512 .f32) (x13 : Vec Ideal S4x128x128 .f32) (x14 : Vec Ideal S128x4 .f32) : Vec Ideal S1x512x512 .bf16 := fun y =>
  B21 x0 x1 x2 x11 x12 x13 x14 ⟨(y 1).val / 128, by have h : (y 1).val < 512 := (y 1).isLt; omega⟩
    ⟨(y 2).val / 128, by have h : (y 2).val < 512 := (y 2).isLt; omega⟩ ⟨(y 1).val % 128, by omega⟩ ⟨(y 2).val % 128, by omega⟩

/-- One piece of the latent queries' block. -/
theorem piece15 (x0 : Vec Ideal S1x512x1024 .f32) (x1 : Vec Ideal S1x1024 .f32) (x2 : Vec Ideal S1024x1536 .bf16) (x4 : Vec Ideal S1x256 .f32) (x6 : Vec Ideal S256x512 .bf16) (x7 : Vec Ideal S8x128x64 .bf16) (p h : Nat) (hh : h < 8)
    (inb : ∀ a, (![0, p, h, 0, 0] : Fin 5 → Nat) a + S1x1x1x128x256.size a ≤ S1x2x8x128x256.size a)
    (pay : S1x1x1x128x256.Idx → EReal) (row : Fin 256 → Fin 512) (hrow : ∀ l, (row l).val = p * 256 + l.val)
    (hv : ∀ n l, pay (ix5 0 0 0 n l) = B15 x0 x1 x2 x4 x6 x7 (row l) ⟨h, hh⟩ n) (x : S1x1x1x128x256.Idx) :
    pay x = G15 x0 x1 x2 x4 x6 x7 ((Rect.unit (s := S1x2x8x128x256) ![0, p, h, 0, 0] S1x1x1x128x256.size inb).emb x) := by
  have h1 : (x 1).val < 1 := (x 1).isLt
  have h2 : (x 2).val < 1 := (x 2).isLt
  have hx : x = ix5 0 0 0 (x 3) (x 4) := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => rfl
  refine (congrArg pay hx).trans ((hv (x 3) (x 4)).trans ?_)
  unfold G15
  refine congr (congr (congrArg _ (Fin.ext ?_)) (Fin.ext ?_)) (Fin.ext ?_)
  · refine (hrow _).trans ?_
    show p * 256 + (x 4).val = (p + 1 * (x 1).val) * 256 + (0 + 1 * (x 4).val)
    omega
  · show h = h + 1 * (x 2).val
    omega
  · show (x 3).val = 0 + 1 * (x 3).val
    omega

/-- One piece of the index queries' block. -/
theorem piece16 (x0 : Vec Ideal S1x512x1024 .f32) (x1 : Vec Ideal S1x1024 .f32) (x2 : Vec Ideal S1024x1536 .bf16) (x4 : Vec Ideal S1x256 .f32) (x8 : Vec Ideal S8x64x256 .bf16) (p h o : Nat) (hh : h < 8) (ho : o = h * 256)
    (inb : ∀ a, (![0, p, 0, o] : Fin 4 → Nat) a + S1x1x64x256.size a ≤ S1x2x64x2048.size a)
    (pay : S1x1x64x256.Idx → EReal) (row : Fin 256 → Fin 512) (hrow : ∀ l, (row l).val = p * 256 + l.val)
    (hv : ∀ n l, pay (ix4 0 0 n l) = B16 x0 x1 x2 x4 x8 (row l) ⟨h, hh⟩ n) (x : S1x1x64x256.Idx) :
    pay x = G16 x0 x1 x2 x4 x8 ((Rect.unit (s := S1x2x64x2048) ![0, p, 0, o] S1x1x64x256.size inb).emb x) := by
  have h1 : (x 1).val < 1 := (x 1).isLt
  have h3 : (x 3).val < 256 := (x 3).isLt
  have hx : x = ix4 0 0 (x 2) (x 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  refine (congrArg pay hx).trans ((hv (x 2) (x 3)).trans ?_)
  unfold G16
  refine congr (congr (congrArg _ (Fin.ext ?_)) (Fin.ext ?_)) (Fin.ext ?_)
  · refine (hrow _).trans ?_
    show p * 256 + (x 3).val = (p + 1 * (x 1).val) * 256 + (o + 1 * (x 3).val) % 256
    omega
  · show h = (o + 1 * (x 3).val) / 256
    omega
  · show (x 2).val = 0 + 1 * (x 2).val
    omega

/-- One piece of the mixed and gated values' block. -/
theorem piece21 (x0 : Vec Ideal S1x512x1024 .f32) (x1 : Vec Ideal S1x1024 .f32) (x2 : Vec Ideal S1024x1536 .bf16) (x11 : Vec Ideal S1x512 .f32) (x12 : Vec Ideal S1x512 .f32) (x13 : Vec Ideal S4x128x128 .f32) (x14 : Vec Ideal S128x4 .f32) (k a u o : Nat) (hk : k < 4) (ha : a < 4) (hu : u = k * 128) (ho : o = a * 128)
    (inb : ∀ b, (![0, u, o] : Fin 3 → Nat) b + S1x128x128.size b ≤ S1x512x512.size b)
    (pay : S1x128x128.Idx → EReal)
    (hv : ∀ t n, pay (ix3 0 t n) = B21 x0 x1 x2 x11 x12 x13 x14 ⟨k, hk⟩ ⟨a, ha⟩ t n) (x : S1x128x128.Idx) :
    pay x = G21 x0 x1 x2 x11 x12 x13 x14 ((Rect.unit (s := S1x512x512) ![0, u, o] S1x128x128.size inb).emb x) := by
  have h1 : (x 1).val < 128 := (x 1).isLt
  have h2 : (x 2).val < 128 := (x 2).isLt
  have hx : x = ix3 0 (x 1) (x 2) := by
    funext a
    match a with
    | ⟨0, _⟩ => exact Subsingleton.elim (α := Fin 1) _ _
    | ⟨1, _⟩ => rfl
    | ⟨2, _⟩ => rfl
  refine (congrArg pay hx).trans ((hv (x 1) (x 2)).trans ?_)
  unfold G21
  refine congr (congr (congr (congrArg _ (Fin.ext ?_)) (Fin.ext ?_)) (Fin.ext ?_)) (Fin.ext ?_)
  · show k = (u + 1 * (x 1).val) / 128
    omega
  · show a = (o + 1 * (x 2).val) / 128
    omega
  · show (x 1).val = (u + 1 * (x 1).val) % 128
    omega
  · show (x 2).val = (o + 1 * (x 2).val) % 128
    omega

/-- The keys' piece of the transposed latent keys' block. -/
theorem piece19a (x0 : Vec Ideal S1x512x1024 .f32) (x1 : Vec Ideal S1x1024 .f32) (x2 : Vec Ideal S1024x1536 .bf16) (x5 : Vec Ideal S1x128 .f32)
    (inb : ∀ a, (![0, 0, 0, 0] : Fin 4 → Nat) a + S1x1x128x512.size a ≤ S1x1x144x512.size a)
    (pay : S1x1x128x512.Idx → EReal) (hv : ∀ r n, pay (ix4 0 0 n r) = ck x0 x1 x2 x5 r n) (x : S1x1x128x512.Idx) :
    pay x = G19 x0 x1 x2 x5 ((Rect.unit (s := S1x1x144x512) ![0, 0, 0, 0] S1x1x128x512.size inb).emb x) := by
  have h2 : (x 2).val < 128 := (x 2).isLt
  have hx : x = ix4 0 0 (x 2) (x 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  refine (congrArg pay hx).trans ((hv (x 3) (x 2)).trans (Eq.symm ?_))
  refine (dif_pos (show (0 + 1 * (x 2).val) < 128 by omega)).trans ?_
  refine congr (congrArg _ (Fin.ext ?_)) (Fin.ext ?_)
  · show 0 + 1 * (x 3).val = (x 3).val
    omega
  · show 0 + 1 * (x 2).val = (x 2).val
    omega

/-- The constant piece of the transposed latent keys' block. -/
theorem piece19b (x0 : Vec Ideal S1x512x1024 .f32) (x1 : Vec Ideal S1x1024 .f32) (x2 : Vec Ideal S1024x1536 .bf16) (x5 : Vec Ideal S1x128 .f32)
    (inb : ∀ a, (![0, 0, 128, 0] : Fin 4 → Nat) a + S1x1x16x512.size a ≤ S1x1x144x512.size a)
    (pay : S1x1x16x512.Idx → EReal) (hv : ∀ r n, pay (ix4 0 0 n r) = Ideal.ofBits .f32 0x3F800000#32) (x : S1x1x16x512.Idx) :
    pay x = G19 x0 x1 x2 x5 ((Rect.unit (s := S1x1x144x512) ![0, 0, 128, 0] S1x1x16x512.size inb).emb x) := by
  have hx : x = ix4 0 0 (x 2) (x 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  refine (congrArg pay hx).trans ((hv (x 3) (x 2)).trans (Eq.symm ?_))
  exact dif_neg (show ¬ (128 + 1 * (x 2).val) < 128 by omega)

/-- The loaded row, normalised. -/
theorem l2 (x0 : Vec Ideal S1x512x1024 .f32) (x1 : Vec Ideal S1x1024 .f32) (r : Fin 512) (k : Fin 1024) :
    (k0_pay2 (F := Ideal) (View.ld x0 (Rect.unit (s := S1x512x1024) ![0, 0, 0] S1x512x1024.size inb_S1x512x1024_S1x512x1024_0_0_0)) (View.ld x1 (Rect.unit (s := S1x1024) ![0, 0] S1x1024.size inb_S1x1024_S1x1024_0_0)) (ix2 r k) : EReal) = hr x0 x1 r k := by
  unfold hr
  refine (p2 _ _ r k).trans ?_
  unfold rms
  pointwise

/-- The loaded latent queries. -/
theorem l3 (x0 : Vec Ideal S1x512x1024 .f32) (x1 : Vec Ideal S1x1024 .f32) (x2 : Vec Ideal S1024x1536 .bf16) (x4 : Vec Ideal S1x256 .f32) (r : Fin 512) (n : Fin 256) :
    (k0_pay3 (F := Ideal) (View.ld x0 (Rect.unit (s := S1x512x1024) ![0, 0, 0] S1x512x1024.size inb_S1x512x1024_S1x512x1024_0_0_0)) (View.ld x1 (Rect.unit (s := S1x1024) ![0, 0] S1x1024.size inb_S1x1024_S1x1024_0_0)) (View.ld x2 (Rect.unit (s := S1024x1536) ![0, 0] S1024x256.size inb_S1024x1536_S1024x256_0_0)) (View.ld x4 (Rect.unit (s := S1x256) ![0, 0] S1x256.size inb_S1x256_S1x256_0_0)) (ix2 r n) : EReal) = cq x0 x1 x2 x4 r n := by
  refine (p3 _ _ _ _ r n).trans ?_
  simp only [l2]
  unfold cq pj nrm lin
  pointwise

/-- The loaded latent keys' columns. -/
theorem l4 (x0 : Vec Ideal S1x512x1024 .f32) (x1 : Vec Ideal S1x1024 .f32) (x2 : Vec Ideal S1024x1536 .bf16) (r : Fin 512) (n : Fin 128) :
    (k0_pay4 (F := Ideal) (View.ld x0 (Rect.unit (s := S1x512x1024) ![0, 0, 0] S1x512x1024.size inb_S1x512x1024_S1x512x1024_0_0_0)) (View.ld x1 (Rect.unit (s := S1x1024) ![0, 0] S1x1024.size inb_S1x1024_S1x1024_0_0)) (View.ld x2 (Rect.unit (s := S1024x1536) ![0, 256] S1024x128.size inb_S1024x1536_S1024x128_0_256)) (ix2 r n) : EReal) = pj x0 x1 x2 r ⟨256 + n.val, by omega⟩ := by
  refine (p4 _ _ _ r n).trans ?_
  simp only [l2]
  unfold pj lin
  pointwise

/-- The loaded gate's columns. -/
theorem l9 (x0 : Vec Ideal S1x512x1024 .f32) (x1 : Vec Ideal S1x1024 .f32) (x2 : Vec Ideal S1024x1536 .bf16) (r : Fin 512) (n : Fin 512) :
    (k0_pay70 (F := Ideal) (k0_pay9 (k0_pay2 (View.ld x0 (Rect.unit (s := S1x512x1024) ![0, 0, 0] S1x512x1024.size inb_S1x512x1024_S1x512x1024_0_0_0)) (View.ld x1 (Rect.unit (s := S1x1024) ![0, 0] S1x1024.size inb_S1x1024_S1x1024_0_0))) (View.ld x2 (Rect.unit (s := S1024x1536) ![0, 384] S1024x512.size inb_S1024x1536_S1024x512_0_384))) (ix2 r n) : EReal) = gel (pj x0 x1 x2 r ⟨384 + n.val, by omega⟩) := by
  refine (p70 _ r n).trans (congrArg gel ((p9 _ _ r n).trans ?_))
  simp only [l2]
  unfold pj lin
  pointwise

/-- The loaded gated values' columns. -/
theorem l10 (x0 : Vec Ideal S1x512x1024 .f32) (x1 : Vec Ideal S1x1024 .f32) (x2 : Vec Ideal S1024x1536 .bf16) (r : Fin 512) (n : Fin 512) :
    (k0_pay10 (F := Ideal) (k0_pay2 (View.ld x0 (Rect.unit (s := S1x512x1024) ![0, 0, 0] S1x512x1024.size inb_S1x512x1024_S1x512x1024_0_0_0)) (View.ld x1 (Rect.unit (s := S1x1024) ![0, 0] S1x1024.size inb_S1x1024_S1x1024_0_0))) (View.ld x2 (Rect.unit (s := S1024x1536) ![0, 896] S1024x512.size inb_S1024x1536_S1024x512_0_896)) (ix2 r n) : EReal) = pj x0 x1 x2 r ⟨896 + n.val, by omega⟩ := by
  refine (p10 _ _ r n).trans ?_
  simp only [l2]
  unfold pj lin
  pointwise

/-- The loaded queries' matrix. -/
theorem l6 (x6 : Vec Ideal S256x512 .bf16) (k : Fin 256) (n : Fin 512) : ((View.ld x6 (Rect.unit (s := S256x512) ![0, 0] S256x512.size inb_S256x512_S256x512_0_0)) (ix2 k n) : EReal) = x6 (ix2 k n) := by
  pointwise

/-- A loaded row of a block of one. -/
theorem l5 (x5 : Vec Ideal S1x128 .f32) (k : Fin 128) : ((View.ld x5 (Rect.unit (s := S1x128) ![0, 0] S1x128.size inb_S1x128_S1x128_0_0)) (ix2 0 k) : EReal) = x5 (ix2 0 k) := by
  pointwise

/-- A loaded gain. -/
theorem l11 (x11 : Vec Ideal S1x512 .f32) (k : Fin 512) : ((View.ld x11 (Rect.unit (s := S1x512) ![0, 0] S1x512.size inb_S1x512_S1x512_0_0)) (ix2 0 k) : EReal) = x11 (ix2 0 k) := by
  pointwise

/-- Head 0's loaded key matrix. -/
theorem l7_0 (x7 : Vec Ideal S8x128x64 .bf16) (n : Fin 128) (d : Fin 64) : ((View.ld x7 (Rect.unit (s := S8x128x64) ![0, 0, 0] S1x128x64.size inb_S8x128x64_S1x128x64_0_0_0)) (ix3 0 n d) : EReal) = x7 (ix3 0 n d) := by
  pointwise

/-- Head 0's loaded index matrix. -/
theorem l8_0 (x8 : Vec Ideal S8x64x256 .bf16) (n : Fin 64) (k : Fin 256) : ((View.ld x8 (Rect.unit (s := S8x64x256) ![0, 0, 0] S1x64x256.size inb_S8x64x256_S1x64x256_0_0_0)) (ix3 0 n k) : EReal) = x8 (ix3 0 n k) := by
  pointwise

/-- Head 1's loaded key matrix. -/
theorem l7_1 (x7 : Vec Ideal S8x128x64 .bf16) (n : Fin 128) (d : Fin 64) : ((View.ld x7 (Rect.unit (s := S8x128x64) ![1, 0, 0] S1x128x64.size inb_S8x128x64_S1x128x64_1_0_0)) (ix3 0 n d) : EReal) = x7 (ix3 1 n d) := by
  pointwise

/-- Head 1's loaded index matrix. -/
theorem l8_1 (x8 : Vec Ideal S8x64x256 .bf16) (n : Fin 64) (k : Fin 256) : ((View.ld x8 (Rect.unit (s := S8x64x256) ![1, 0, 0] S1x64x256.size inb_S8x64x256_S1x64x256_1_0_0)) (ix3 0 n k) : EReal) = x8 (ix3 1 n k) := by
  pointwise

/-- Head 2's loaded key matrix. -/
theorem l7_2 (x7 : Vec Ideal S8x128x64 .bf16) (n : Fin 128) (d : Fin 64) : ((View.ld x7 (Rect.unit (s := S8x128x64) ![2, 0, 0] S1x128x64.size inb_S8x128x64_S1x128x64_2_0_0)) (ix3 0 n d) : EReal) = x7 (ix3 2 n d) := by
  pointwise

/-- Head 2's loaded index matrix. -/
theorem l8_2 (x8 : Vec Ideal S8x64x256 .bf16) (n : Fin 64) (k : Fin 256) : ((View.ld x8 (Rect.unit (s := S8x64x256) ![2, 0, 0] S1x64x256.size inb_S8x64x256_S1x64x256_2_0_0)) (ix3 0 n k) : EReal) = x8 (ix3 2 n k) := by
  pointwise

/-- Head 3's loaded key matrix. -/
theorem l7_3 (x7 : Vec Ideal S8x128x64 .bf16) (n : Fin 128) (d : Fin 64) : ((View.ld x7 (Rect.unit (s := S8x128x64) ![3, 0, 0] S1x128x64.size inb_S8x128x64_S1x128x64_3_0_0)) (ix3 0 n d) : EReal) = x7 (ix3 3 n d) := by
  pointwise

/-- Head 3's loaded index matrix. -/
theorem l8_3 (x8 : Vec Ideal S8x64x256 .bf16) (n : Fin 64) (k : Fin 256) : ((View.ld x8 (Rect.unit (s := S8x64x256) ![3, 0, 0] S1x64x256.size inb_S8x64x256_S1x64x256_3_0_0)) (ix3 0 n k) : EReal) = x8 (ix3 3 n k) := by
  pointwise

/-- Head 4's loaded key matrix. -/
theorem l7_4 (x7 : Vec Ideal S8x128x64 .bf16) (n : Fin 128) (d : Fin 64) : ((View.ld x7 (Rect.unit (s := S8x128x64) ![4, 0, 0] S1x128x64.size inb_S8x128x64_S1x128x64_4_0_0)) (ix3 0 n d) : EReal) = x7 (ix3 4 n d) := by
  pointwise

/-- Head 4's loaded index matrix. -/
theorem l8_4 (x8 : Vec Ideal S8x64x256 .bf16) (n : Fin 64) (k : Fin 256) : ((View.ld x8 (Rect.unit (s := S8x64x256) ![4, 0, 0] S1x64x256.size inb_S8x64x256_S1x64x256_4_0_0)) (ix3 0 n k) : EReal) = x8 (ix3 4 n k) := by
  pointwise

/-- Head 5's loaded key matrix. -/
theorem l7_5 (x7 : Vec Ideal S8x128x64 .bf16) (n : Fin 128) (d : Fin 64) : ((View.ld x7 (Rect.unit (s := S8x128x64) ![5, 0, 0] S1x128x64.size inb_S8x128x64_S1x128x64_5_0_0)) (ix3 0 n d) : EReal) = x7 (ix3 5 n d) := by
  pointwise

/-- Head 5's loaded index matrix. -/
theorem l8_5 (x8 : Vec Ideal S8x64x256 .bf16) (n : Fin 64) (k : Fin 256) : ((View.ld x8 (Rect.unit (s := S8x64x256) ![5, 0, 0] S1x64x256.size inb_S8x64x256_S1x64x256_5_0_0)) (ix3 0 n k) : EReal) = x8 (ix3 5 n k) := by
  pointwise

/-- Head 6's loaded key matrix. -/
theorem l7_6 (x7 : Vec Ideal S8x128x64 .bf16) (n : Fin 128) (d : Fin 64) : ((View.ld x7 (Rect.unit (s := S8x128x64) ![6, 0, 0] S1x128x64.size inb_S8x128x64_S1x128x64_6_0_0)) (ix3 0 n d) : EReal) = x7 (ix3 6 n d) := by
  pointwise

/-- Head 6's loaded index matrix. -/
theorem l8_6 (x8 : Vec Ideal S8x64x256 .bf16) (n : Fin 64) (k : Fin 256) : ((View.ld x8 (Rect.unit (s := S8x64x256) ![6, 0, 0] S1x64x256.size inb_S8x64x256_S1x64x256_6_0_0)) (ix3 0 n k) : EReal) = x8 (ix3 6 n k) := by
  pointwise

/-- Head 7's loaded key matrix. -/
theorem l7_7 (x7 : Vec Ideal S8x128x64 .bf16) (n : Fin 128) (d : Fin 64) : ((View.ld x7 (Rect.unit (s := S8x128x64) ![7, 0, 0] S1x128x64.size inb_S8x128x64_S1x128x64_7_0_0)) (ix3 0 n d) : EReal) = x7 (ix3 7 n d) := by
  pointwise

/-- Head 7's loaded index matrix. -/
theorem l8_7 (x8 : Vec Ideal S8x64x256 .bf16) (n : Fin 64) (k : Fin 256) : ((View.ld x8 (Rect.unit (s := S8x64x256) ![7, 0, 0] S1x64x256.size inb_S8x64x256_S1x64x256_7_0_0)) (ix3 0 n k) : EReal) = x8 (ix3 7 n k) := by
  pointwise

/-- Group 0's loaded mixing weights. -/
theorem l13_0 (x13 : Vec Ideal S4x128x128 .f32) (t s : Fin 128) : ((View.ld x13 (Rect.unit (s := S4x128x128) ![0, 0, 0] S1x128x128.size inb_S4x128x128_S1x128x128_0_0_0)) (ix3 0 t s) : EReal) = x13 (ix3 0 t s) := by
  pointwise

/-- Group 0's loaded offsets. -/
theorem l14_0 (x14 : Vec Ideal S128x4 .f32) (t : Fin 128) : ((View.ld x14 (Rect.unit (s := S128x4) ![0, 0] S128x1.size inb_S128x4_S128x1_0_0)) (ix2 t 0) : EReal) = x14 (ix2 t 0) := by
  pointwise

/-- Group 1's loaded mixing weights. -/
theorem l13_1 (x13 : Vec Ideal S4x128x128 .f32) (t s : Fin 128) : ((View.ld x13 (Rect.unit (s := S4x128x128) ![1, 0, 0] S1x128x128.size inb_S4x128x128_S1x128x128_1_0_0)) (ix3 0 t s) : EReal) = x13 (ix3 1 t s) := by
  pointwise

/-- Group 1's loaded offsets. -/
theorem l14_1 (x14 : Vec Ideal S128x4 .f32) (t : Fin 128) : ((View.ld x14 (Rect.unit (s := S128x4) ![0, 1] S128x1.size inb_S128x4_S128x1_0_1)) (ix2 t 0) : EReal) = x14 (ix2 t 1) := by
  pointwise

/-- Group 2's loaded mixing weights. -/
theorem l13_2 (x13 : Vec Ideal S4x128x128 .f32) (t s : Fin 128) : ((View.ld x13 (Rect.unit (s := S4x128x128) ![2, 0, 0] S1x128x128.size inb_S4x128x128_S1x128x128_2_0_0)) (ix3 0 t s) : EReal) = x13 (ix3 2 t s) := by
  pointwise

/-- Group 2's loaded offsets. -/
theorem l14_2 (x14 : Vec Ideal S128x4 .f32) (t : Fin 128) : ((View.ld x14 (Rect.unit (s := S128x4) ![0, 2] S128x1.size inb_S128x4_S128x1_0_2)) (ix2 t 0) : EReal) = x14 (ix2 t 2) := by
  pointwise

/-- Group 3's loaded mixing weights. -/
theorem l13_3 (x13 : Vec Ideal S4x128x128 .f32) (t s : Fin 128) : ((View.ld x13 (Rect.unit (s := S4x128x128) ![3, 0, 0] S1x128x128.size inb_S4x128x128_S1x128x128_3_0_0)) (ix3 0 t s) : EReal) = x13 (ix3 3 t s) := by
  pointwise

/-- Group 3's loaded offsets. -/
theorem l14_3 (x14 : Vec Ideal S128x4 .f32) (t : Fin 128) : ((View.ld x14 (Rect.unit (s := S128x4) ![0, 3] S128x1.size inb_S128x4_S128x1_0_3)) (ix2 t 0) : EReal) = x14 (ix2 t 3) := by
  pointwise

/-- The latent query of parts that agree. -/
theorem lat_congr {c c' : Fin 256 → EReal} {w w' : Fin 256 → Fin 512 → EReal} {u u' : Fin 64 → Fin 128 → EReal} (h : Fin 8) (n : Fin 128)
    (hc : ∀ k, c k = c' k) (hw : ∀ k n, w k n = w' k n) (hu : ∀ d n, u d n = u' d n) : lat c w u h n = lat c' w' u' h n := by
  rw [show c = c' from funext hc, show w = w' from funext fun k => funext (hw k), show u = u' from funext fun k => funext (hu k)]

/-- The scaled product of parts that agree. -/
theorem lin_congr {a b : Nat} {c c' : Fin a → EReal} {w w' : Fin a → Fin b → EReal} (n : Fin b) (z : EReal)
    (hc : ∀ k, c k = c' k) (hw : ∀ k n, w k n = w' k n) : lin c w n * z = lin c' w' n * z := by
  rw [show c = c' from funext hc, show w = w' from funext fun k => funext (hw k)]

/-- A mixed and gated value of parts that agree with the blocks. -/
theorem od_congr (x0 : Vec Ideal S1x512x1024 .f32) (x1 : Vec Ideal S1x1024 .f32) (x2 : Vec Ideal S1024x1536 .bf16) (x11 : Vec Ideal S1x512 .f32) (x12 : Vec Ideal S1x512 .f32) (x13 : Vec Ideal S4x128x128 .f32) (x14 : Vec Ideal S128x4 .f32) (f v : FVec Ideal S512x512 .f32) (g h : Vec Ideal S1x512 .f32) (w : Vec Ideal S1x128x128 .f32)
    (b : Vec Ideal S128x1 .f32) (k a : Fin 4) (row col : Fin 128 → Fin 512)
    (hrow : ∀ t, row t = ⟨k.val * 128 + t.val, by omega⟩) (hcol : ∀ n, col n = ⟨a.val * 128 + n.val, by omega⟩)
    (hf : ∀ r n, (f (ix2 r n) : EReal) = gel (pj x0 x1 x2 r ⟨384 + n.val, by omega⟩))
    (hv : ∀ r n, (v (ix2 r n) : EReal) = pj x0 x1 x2 r ⟨896 + n.val, by omega⟩)
    (hg : ∀ k, (g (ix2 0 k) : EReal) = x11 (ix2 0 k)) (hh : ∀ k, (h (ix2 0 k) : EReal) = x12 (ix2 0 k))
    (hw : ∀ t s, (w (ix3 0 t s) : EReal) = x13 (ix3 a t s)) (hb : ∀ t, (b (ix2 t 0) : EReal) = x14 (ix2 t a)) (t n : Fin 128) :
    (f (ix2 (row t) (col n)) : EReal) * mixc (fun s => (w (ix3 0 t s) : EReal))
      (fun s => lnm 0x44000000#32 (fun j => gel (v (ix2 (row s) j))) (fun k => (g (ix2 0 k) : EReal)) (fun k => (h (ix2 0 k) : EReal)) (col n))
      (b (ix2 t 0)) t = B21 x0 x1 x2 x11 x12 x13 x14 k a t n := by
  simp only [hf, hv, hg, hh, hw, hb, hrow, hcol]
  rfl

/-- What the body leaves in result block 1. -/
theorem out15 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S16x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S256x512 .bf16) (harg8 : arg8.IsWhole) (arg9 : Memref sig .tc .vmem S8x128x64 .bf16) (harg9 : arg9.IsWhole) (arg10 : Memref sig .tc .vmem S8x64x256 .bf16) (harg10 : arg10.IsWhole) (arg11 : Memref sig .tc .vmem S1x64 .f32) (harg11 : arg11.IsWhole) (arg12 : Memref sig .tc .vmem S1x64 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S4x128x128 .f32) (harg15 : arg15.IsWhole) (arg16 : Memref sig .tc .vmem S128x4 .f32) (harg16 : arg16.IsWhole) (arg17 : Memref sig .tc .vmem S1x2x8x128x256 .bf16) (harg17 : arg17.IsWhole) (arg18 : Memref sig .tc .vmem S1x2x64x2048 .bf16) (harg18 : arg18.IsWhole) (arg19 : Memref sig .tc .vmem S1x8x512 .f32) (harg19 : arg19.IsWhole) (arg20 : Memref sig .tc .vmem S1x512x128 .bf16) (harg20 : arg20.IsWhole) (arg21 : Memref sig .tc .vmem S1x1x144x512 .bf16) (harg21 : arg21.IsWhole) (arg22 : Memref sig .tc .vmem S1x512x64 .bf16) (harg22 : arg22.IsWhole) (arg23 : Memref sig .tc .vmem S1x512x512 .bf16) (harg23 : arg23.IsWhole)
    (x0 : Vec Ideal S1x512x1024 .f32) (x1 : Vec Ideal S1x1024 .f32) (x2 : Vec Ideal S1024x1536 .bf16) (x3 : Vec Ideal S16x1024 .bf16) (x4 : Vec Ideal S1x256 .f32) (x5 : Vec Ideal S1x128 .f32) (x6 : Vec Ideal S256x512 .bf16) (x7 : Vec Ideal S8x128x64 .bf16) (x8 : Vec Ideal S8x64x256 .bf16) (x9 : Vec Ideal S1x64 .f32) (x10 : Vec Ideal S1x64 .f32) (x11 : Vec Ideal S1x512 .f32) (x12 : Vec Ideal S1x512 .f32) (x13 : Vec Ideal S4x128x128 .f32) (x14 : Vec Ideal S128x4 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 = G15 x0 x1 x2 x4 x6 x7 := by
  funext y
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14)]
  refine View.canon_apply_of_pieces (G15 x0 x1 x2 x4 x6 x7) _ ?_ y (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  refine List.forall_mem_cons.mpr ⟨piece15 x0 x1 x2 x4 x6 x7 1 7 (by decide) inb_S1x2x8x128x256_S1x1x1x128x256_0_1_7_0_0 _ (fun l => (⟨256 + l.val, by omega⟩ : Fin 512)) (fun l => by show 256 + l.val = 1 * 256 + l.val; omega)
    (fun n l => (lat7_1 _ _ _ n l).trans (lat_congr 7 n (fun k => l3 x0 x1 x2 x4 _ k) (l6 x6) (fun d n => l7_7 x7 n d))), ?_⟩
  refine List.forall_mem_cons.mpr ⟨piece15 x0 x1 x2 x4 x6 x7 0 7 (by decide) inb_S1x2x8x128x256_S1x1x1x128x256_0_0_7_0_0 _ (fun l => (⟨l.val, by omega⟩ : Fin 512)) (fun l => by show l.val = 0 * 256 + l.val; omega)
    (fun n l => (lat7_0 _ _ _ n l).trans (lat_congr 7 n (fun k => l3 x0 x1 x2 x4 _ k) (l6 x6) (fun d n => l7_7 x7 n d))), ?_⟩
  refine List.forall_mem_cons.mpr ⟨piece15 x0 x1 x2 x4 x6 x7 1 6 (by decide) inb_S1x2x8x128x256_S1x1x1x128x256_0_1_6_0_0 _ (fun l => (⟨256 + l.val, by omega⟩ : Fin 512)) (fun l => by show 256 + l.val = 1 * 256 + l.val; omega)
    (fun n l => (lat6_1 _ _ _ n l).trans (lat_congr 6 n (fun k => l3 x0 x1 x2 x4 _ k) (l6 x6) (fun d n => l7_6 x7 n d))), ?_⟩
  refine List.forall_mem_cons.mpr ⟨piece15 x0 x1 x2 x4 x6 x7 0 6 (by decide) inb_S1x2x8x128x256_S1x1x1x128x256_0_0_6_0_0 _ (fun l => (⟨l.val, by omega⟩ : Fin 512)) (fun l => by show l.val = 0 * 256 + l.val; omega)
    (fun n l => (lat6_0 _ _ _ n l).trans (lat_congr 6 n (fun k => l3 x0 x1 x2 x4 _ k) (l6 x6) (fun d n => l7_6 x7 n d))), ?_⟩
  refine List.forall_mem_cons.mpr ⟨piece15 x0 x1 x2 x4 x6 x7 1 5 (by decide) inb_S1x2x8x128x256_S1x1x1x128x256_0_1_5_0_0 _ (fun l => (⟨256 + l.val, by omega⟩ : Fin 512)) (fun l => by show 256 + l.val = 1 * 256 + l.val; omega)
    (fun n l => (lat5_1 _ _ _ n l).trans (lat_congr 5 n (fun k => l3 x0 x1 x2 x4 _ k) (l6 x6) (fun d n => l7_5 x7 n d))), ?_⟩
  refine List.forall_mem_cons.mpr ⟨piece15 x0 x1 x2 x4 x6 x7 0 5 (by decide) inb_S1x2x8x128x256_S1x1x1x128x256_0_0_5_0_0 _ (fun l => (⟨l.val, by omega⟩ : Fin 512)) (fun l => by show l.val = 0 * 256 + l.val; omega)
    (fun n l => (lat5_0 _ _ _ n l).trans (lat_congr 5 n (fun k => l3 x0 x1 x2 x4 _ k) (l6 x6) (fun d n => l7_5 x7 n d))), ?_⟩
  refine List.forall_mem_cons.mpr ⟨piece15 x0 x1 x2 x4 x6 x7 1 4 (by decide) inb_S1x2x8x128x256_S1x1x1x128x256_0_1_4_0_0 _ (fun l => (⟨256 + l.val, by omega⟩ : Fin 512)) (fun l => by show 256 + l.val = 1 * 256 + l.val; omega)
    (fun n l => (lat4_1 _ _ _ n l).trans (lat_congr 4 n (fun k => l3 x0 x1 x2 x4 _ k) (l6 x6) (fun d n => l7_4 x7 n d))), ?_⟩
  refine List.forall_mem_cons.mpr ⟨piece15 x0 x1 x2 x4 x6 x7 0 4 (by decide) inb_S1x2x8x128x256_S1x1x1x128x256_0_0_4_0_0 _ (fun l => (⟨l.val, by omega⟩ : Fin 512)) (fun l => by show l.val = 0 * 256 + l.val; omega)
    (fun n l => (lat4_0 _ _ _ n l).trans (lat_congr 4 n (fun k => l3 x0 x1 x2 x4 _ k) (l6 x6) (fun d n => l7_4 x7 n d))), ?_⟩
  refine List.forall_mem_cons.mpr ⟨piece15 x0 x1 x2 x4 x6 x7 1 3 (by decide) inb_S1x2x8x128x256_S1x1x1x128x256_0_1_3_0_0 _ (fun l => (⟨256 + l.val, by omega⟩ : Fin 512)) (fun l => by show 256 + l.val = 1 * 256 + l.val; omega)
    (fun n l => (lat3_1 _ _ _ n l).trans (lat_congr 3 n (fun k => l3 x0 x1 x2 x4 _ k) (l6 x6) (fun d n => l7_3 x7 n d))), ?_⟩
  refine List.forall_mem_cons.mpr ⟨piece15 x0 x1 x2 x4 x6 x7 0 3 (by decide) inb_S1x2x8x128x256_S1x1x1x128x256_0_0_3_0_0 _ (fun l => (⟨l.val, by omega⟩ : Fin 512)) (fun l => by show l.val = 0 * 256 + l.val; omega)
    (fun n l => (lat3_0 _ _ _ n l).trans (lat_congr 3 n (fun k => l3 x0 x1 x2 x4 _ k) (l6 x6) (fun d n => l7_3 x7 n d))), ?_⟩
  refine List.forall_mem_cons.mpr ⟨piece15 x0 x1 x2 x4 x6 x7 1 2 (by decide) inb_S1x2x8x128x256_S1x1x1x128x256_0_1_2_0_0 _ (fun l => (⟨256 + l.val, by omega⟩ : Fin 512)) (fun l => by show 256 + l.val = 1 * 256 + l.val; omega)
    (fun n l => (lat2_1 _ _ _ n l).trans (lat_congr 2 n (fun k => l3 x0 x1 x2 x4 _ k) (l6 x6) (fun d n => l7_2 x7 n d))), ?_⟩
  refine List.forall_mem_cons.mpr ⟨piece15 x0 x1 x2 x4 x6 x7 0 2 (by decide) inb_S1x2x8x128x256_S1x1x1x128x256_0_0_2_0_0 _ (fun l => (⟨l.val, by omega⟩ : Fin 512)) (fun l => by show l.val = 0 * 256 + l.val; omega)
    (fun n l => (lat2_0 _ _ _ n l).trans (lat_congr 2 n (fun k => l3 x0 x1 x2 x4 _ k) (l6 x6) (fun d n => l7_2 x7 n d))), ?_⟩
  refine List.forall_mem_cons.mpr ⟨piece15 x0 x1 x2 x4 x6 x7 1 1 (by decide) inb_S1x2x8x128x256_S1x1x1x128x256_0_1_1_0_0 _ (fun l => (⟨256 + l.val, by omega⟩ : Fin 512)) (fun l => by show 256 + l.val = 1 * 256 + l.val; omega)
    (fun n l => (lat1_1 _ _ _ n l).trans (lat_congr 1 n (fun k => l3 x0 x1 x2 x4 _ k) (l6 x6) (fun d n => l7_1 x7 n d))), ?_⟩
  refine List.forall_mem_cons.mpr ⟨piece15 x0 x1 x2 x4 x6 x7 0 1 (by decide) inb_S1x2x8x128x256_S1x1x1x128x256_0_0_1_0_0 _ (fun l => (⟨l.val, by omega⟩ : Fin 512)) (fun l => by show l.val = 0 * 256 + l.val; omega)
    (fun n l => (lat1_0 _ _ _ n l).trans (lat_congr 1 n (fun k => l3 x0 x1 x2 x4 _ k) (l6 x6) (fun d n => l7_1 x7 n d))), ?_⟩
  refine List.forall_mem_cons.mpr ⟨piece15 x0 x1 x2 x4 x6 x7 1 0 (by decide) inb_S1x2x8x128x256_S1x1x1x128x256_0_1_0_0_0 _ (fun l => (⟨256 + l.val, by omega⟩ : Fin 512)) (fun l => by show 256 + l.val = 1 * 256 + l.val; omega)
    (fun n l => (lat0_1 _ _ _ n l).trans (lat_congr 0 n (fun k => l3 x0 x1 x2 x4 _ k) (l6 x6) (fun d n => l7_0 x7 n d))), ?_⟩
  refine List.forall_mem_cons.mpr ⟨piece15 x0 x1 x2 x4 x6 x7 0 0 (by decide) inb_S1x2x8x128x256_S1x1x1x128x256_0_0_0_0_0 _ (fun l => (⟨l.val, by omega⟩ : Fin 512)) (fun l => by show l.val = 0 * 256 + l.val; omega)
    (fun n l => (lat0_0 _ _ _ n l).trans (lat_congr 0 n (fun k => l3 x0 x1 x2 x4 _ k) (l6 x6) (fun d n => l7_0 x7 n d))), ?_⟩
  exact fun p hp => absurd hp List.not_mem_nil

/-- What the body leaves in result block 2. -/
theorem out16 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S16x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S256x512 .bf16) (harg8 : arg8.IsWhole) (arg9 : Memref sig .tc .vmem S8x128x64 .bf16) (harg9 : arg9.IsWhole) (arg10 : Memref sig .tc .vmem S8x64x256 .bf16) (harg10 : arg10.IsWhole) (arg11 : Memref sig .tc .vmem S1x64 .f32) (harg11 : arg11.IsWhole) (arg12 : Memref sig .tc .vmem S1x64 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S4x128x128 .f32) (harg15 : arg15.IsWhole) (arg16 : Memref sig .tc .vmem S128x4 .f32) (harg16 : arg16.IsWhole) (arg17 : Memref sig .tc .vmem S1x2x8x128x256 .bf16) (harg17 : arg17.IsWhole) (arg18 : Memref sig .tc .vmem S1x2x64x2048 .bf16) (harg18 : arg18.IsWhole) (arg19 : Memref sig .tc .vmem S1x8x512 .f32) (harg19 : arg19.IsWhole) (arg20 : Memref sig .tc .vmem S1x512x128 .bf16) (harg20 : arg20.IsWhole) (arg21 : Memref sig .tc .vmem S1x1x144x512 .bf16) (harg21 : arg21.IsWhole) (arg22 : Memref sig .tc .vmem S1x512x64 .bf16) (harg22 : arg22.IsWhole) (arg23 : Memref sig .tc .vmem S1x512x512 .bf16) (harg23 : arg23.IsWhole)
    (x0 : Vec Ideal S1x512x1024 .f32) (x1 : Vec Ideal S1x1024 .f32) (x2 : Vec Ideal S1024x1536 .bf16) (x3 : Vec Ideal S16x1024 .bf16) (x4 : Vec Ideal S1x256 .f32) (x5 : Vec Ideal S1x128 .f32) (x6 : Vec Ideal S256x512 .bf16) (x7 : Vec Ideal S8x128x64 .bf16) (x8 : Vec Ideal S8x64x256 .bf16) (x9 : Vec Ideal S1x64 .f32) (x10 : Vec Ideal S1x64 .f32) (x11 : Vec Ideal S1x512 .f32) (x12 : Vec Ideal S1x512 .f32) (x13 : Vec Ideal S4x128x128 .f32) (x14 : Vec Ideal S128x4 .f32) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 = G16 x0 x1 x2 x4 x8 := by
  funext y
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14)]
  refine View.canon_apply_of_pieces (G16 x0 x1 x2 x4 x8) _ ?_ y (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  refine List.forall_mem_cons.mpr ⟨piece16 x0 x1 x2 x4 x8 1 7 1792 (by decide) rfl inb_S1x2x64x2048_S1x1x64x256_0_1_0_1792 _ (fun l => (⟨256 + l.val, by omega⟩ : Fin 512)) (fun l => by show 256 + l.val = 1 * 256 + l.val; omega)
    (fun n l => (idx7_1 _ _ n l).trans (lin_congr n _ (fun k => l3 x0 x1 x2 x4 _ k) (fun k n => l8_7 x8 n k))), ?_⟩
  refine List.forall_mem_cons.mpr ⟨piece16 x0 x1 x2 x4 x8 0 7 1792 (by decide) rfl inb_S1x2x64x2048_S1x1x64x256_0_0_0_1792 _ (fun l => (⟨l.val, by omega⟩ : Fin 512)) (fun l => by show l.val = 0 * 256 + l.val; omega)
    (fun n l => (idx7_0 _ _ n l).trans (lin_congr n _ (fun k => l3 x0 x1 x2 x4 _ k) (fun k n => l8_7 x8 n k))), ?_⟩
  refine List.forall_mem_cons.mpr ⟨piece16 x0 x1 x2 x4 x8 1 6 1536 (by decide) rfl inb_S1x2x64x2048_S1x1x64x256_0_1_0_1536 _ (fun l => (⟨256 + l.val, by omega⟩ : Fin 512)) (fun l => by show 256 + l.val = 1 * 256 + l.val; omega)
    (fun n l => (idx6_1 _ _ n l).trans (lin_congr n _ (fun k => l3 x0 x1 x2 x4 _ k) (fun k n => l8_6 x8 n k))), ?_⟩
  refine List.forall_mem_cons.mpr ⟨piece16 x0 x1 x2 x4 x8 0 6 1536 (by decide) rfl inb_S1x2x64x2048_S1x1x64x256_0_0_0_1536 _ (fun l => (⟨l.val, by omega⟩ : Fin 512)) (fun l => by show l.val = 0 * 256 + l.val; omega)
    (fun n l => (idx6_0 _ _ n l).trans (lin_congr n _ (fun k => l3 x0 x1 x2 x4 _ k) (fun k n => l8_6 x8 n k))), ?_⟩
  refine List.forall_mem_cons.mpr ⟨piece16 x0 x1 x2 x4 x8 1 5 1280 (by decide) rfl inb_S1x2x64x2048_S1x1x64x256_0_1_0_1280 _ (fun l => (⟨256 + l.val, by omega⟩ : Fin 512)) (fun l => by show 256 + l.val = 1 * 256 + l.val; omega)
    (fun n l => (idx5_1 _ _ n l).trans (lin_congr n _ (fun k => l3 x0 x1 x2 x4 _ k) (fun k n => l8_5 x8 n k))), ?_⟩
  refine List.forall_mem_cons.mpr ⟨piece16 x0 x1 x2 x4 x8 0 5 1280 (by decide) rfl inb_S1x2x64x2048_S1x1x64x256_0_0_0_1280 _ (fun l => (⟨l.val, by omega⟩ : Fin 512)) (fun l => by show l.val = 0 * 256 + l.val; omega)
    (fun n l => (idx5_0 _ _ n l).trans (lin_congr n _ (fun k => l3 x0 x1 x2 x4 _ k) (fun k n => l8_5 x8 n k))), ?_⟩
  refine List.forall_mem_cons.mpr ⟨piece16 x0 x1 x2 x4 x8 1 4 1024 (by decide) rfl inb_S1x2x64x2048_S1x1x64x256_0_1_0_1024 _ (fun l => (⟨256 + l.val, by omega⟩ : Fin 512)) (fun l => by show 256 + l.val = 1 * 256 + l.val; omega)
    (fun n l => (idx4_1 _ _ n l).trans (lin_congr n _ (fun k => l3 x0 x1 x2 x4 _ k) (fun k n => l8_4 x8 n k))), ?_⟩
  refine List.forall_mem_cons.mpr ⟨piece16 x0 x1 x2 x4 x8 0 4 1024 (by decide) rfl inb_S1x2x64x2048_S1x1x64x256_0_0_0_1024 _ (fun l => (⟨l.val, by omega⟩ : Fin 512)) (fun l => by show l.val = 0 * 256 + l.val; omega)
    (fun n l => (idx4_0 _ _ n l).trans (lin_congr n _ (fun k => l3 x0 x1 x2 x4 _ k) (fun k n => l8_4 x8 n k))), ?_⟩
  refine List.forall_mem_cons.mpr ⟨piece16 x0 x1 x2 x4 x8 1 3 768 (by decide) rfl inb_S1x2x64x2048_S1x1x64x256_0_1_0_768 _ (fun l => (⟨256 + l.val, by omega⟩ : Fin 512)) (fun l => by show 256 + l.val = 1 * 256 + l.val; omega)
    (fun n l => (idx3_1 _ _ n l).trans (lin_congr n _ (fun k => l3 x0 x1 x2 x4 _ k) (fun k n => l8_3 x8 n k))), ?_⟩
  refine List.forall_mem_cons.mpr ⟨piece16 x0 x1 x2 x4 x8 0 3 768 (by decide) rfl inb_S1x2x64x2048_S1x1x64x256_0_0_0_768 _ (fun l => (⟨l.val, by omega⟩ : Fin 512)) (fun l => by show l.val = 0 * 256 + l.val; omega)
    (fun n l => (idx3_0 _ _ n l).trans (lin_congr n _ (fun k => l3 x0 x1 x2 x4 _ k) (fun k n => l8_3 x8 n k))), ?_⟩
  refine List.forall_mem_cons.mpr ⟨piece16 x0 x1 x2 x4 x8 1 2 512 (by decide) rfl inb_S1x2x64x2048_S1x1x64x256_0_1_0_512 _ (fun l => (⟨256 + l.val, by omega⟩ : Fin 512)) (fun l => by show 256 + l.val = 1 * 256 + l.val; omega)
    (fun n l => (idx2_1 _ _ n l).trans (lin_congr n _ (fun k => l3 x0 x1 x2 x4 _ k) (fun k n => l8_2 x8 n k))), ?_⟩
  refine List.forall_mem_cons.mpr ⟨piece16 x0 x1 x2 x4 x8 0 2 512 (by decide) rfl inb_S1x2x64x2048_S1x1x64x256_0_0_0_512 _ (fun l => (⟨l.val, by omega⟩ : Fin 512)) (fun l => by show l.val = 0 * 256 + l.val; omega)
    (fun n l => (idx2_0 _ _ n l).trans (lin_congr n _ (fun k => l3 x0 x1 x2 x4 _ k) (fun k n => l8_2 x8 n k))), ?_⟩
  refine List.forall_mem_cons.mpr ⟨piece16 x0 x1 x2 x4 x8 1 1 256 (by decide) rfl inb_S1x2x64x2048_S1x1x64x256_0_1_0_256 _ (fun l => (⟨256 + l.val, by omega⟩ : Fin 512)) (fun l => by show 256 + l.val = 1 * 256 + l.val; omega)
    (fun n l => (idx1_1 _ _ n l).trans (lin_congr n _ (fun k => l3 x0 x1 x2 x4 _ k) (fun k n => l8_1 x8 n k))), ?_⟩
  refine List.forall_mem_cons.mpr ⟨piece16 x0 x1 x2 x4 x8 0 1 256 (by decide) rfl inb_S1x2x64x2048_S1x1x64x256_0_0_0_256 _ (fun l => (⟨l.val, by omega⟩ : Fin 512)) (fun l => by show l.val = 0 * 256 + l.val; omega)
    (fun n l => (idx1_0 _ _ n l).trans (lin_congr n _ (fun k => l3 x0 x1 x2 x4 _ k) (fun k n => l8_1 x8 n k))), ?_⟩
  refine List.forall_mem_cons.mpr ⟨piece16 x0 x1 x2 x4 x8 1 0 0 (by decide) rfl inb_S1x2x64x2048_S1x1x64x256_0_1_0_0 _ (fun l => (⟨256 + l.val, by omega⟩ : Fin 512)) (fun l => by show 256 + l.val = 1 * 256 + l.val; omega)
    (fun n l => (idx0_1 _ _ n l).trans (lin_congr n _ (fun k => l3 x0 x1 x2 x4 _ k) (fun k n => l8_0 x8 n k))), ?_⟩
  refine List.forall_mem_cons.mpr ⟨piece16 x0 x1 x2 x4 x8 0 0 0 (by decide) rfl inb_S1x2x64x2048_S1x1x64x256_0_0_0_0 _ (fun l => (⟨l.val, by omega⟩ : Fin 512)) (fun l => by show l.val = 0 * 256 + l.val; omega)
    (fun n l => (idx0_0 _ _ n l).trans (lin_congr n _ (fun k => l3 x0 x1 x2 x4 _ k) (fun k n => l8_0 x8 n k))), ?_⟩
  exact fun p hp => absurd hp List.not_mem_nil

/-- What the body leaves in result block 3, at an index. -/
theorem out17 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S16x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S256x512 .bf16) (harg8 : arg8.IsWhole) (arg9 : Memref sig .tc .vmem S8x128x64 .bf16) (harg9 : arg9.IsWhole) (arg10 : Memref sig .tc .vmem S8x64x256 .bf16) (harg10 : arg10.IsWhole) (arg11 : Memref sig .tc .vmem S1x64 .f32) (harg11 : arg11.IsWhole) (arg12 : Memref sig .tc .vmem S1x64 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S4x128x128 .f32) (harg15 : arg15.IsWhole) (arg16 : Memref sig .tc .vmem S128x4 .f32) (harg16 : arg16.IsWhole) (arg17 : Memref sig .tc .vmem S1x2x8x128x256 .bf16) (harg17 : arg17.IsWhole) (arg18 : Memref sig .tc .vmem S1x2x64x2048 .bf16) (harg18 : arg18.IsWhole) (arg19 : Memref sig .tc .vmem S1x8x512 .f32) (harg19 : arg19.IsWhole) (arg20 : Memref sig .tc .vmem S1x512x128 .bf16) (harg20 : arg20.IsWhole) (arg21 : Memref sig .tc .vmem S1x1x144x512 .bf16) (harg21 : arg21.IsWhole) (arg22 : Memref sig .tc .vmem S1x512x64 .bf16) (harg22 : arg22.IsWhole) (arg23 : Memref sig .tc .vmem S1x512x512 .bf16) (harg23 : arg23.IsWhole)
    (x0 : Vec Ideal S1x512x1024 .f32) (x1 : Vec Ideal S1x1024 .f32) (x2 : Vec Ideal S1024x1536 .bf16) (x3 : Vec Ideal S16x1024 .bf16) (x4 : Vec Ideal S1x256 .f32) (x5 : Vec Ideal S1x128 .f32) (x6 : Vec Ideal S256x512 .bf16) (x7 : Vec Ideal S8x128x64 .bf16) (x8 : Vec Ideal S8x64x256 .bf16) (x9 : Vec Ideal S1x64 .f32) (x10 : Vec Ideal S1x64 .f32) (x11 : Vec Ideal S1x512 .f32) (x12 : Vec Ideal S1x512 .f32) (x13 : Vec Ideal S4x128x128 .f32) (x14 : Vec Ideal S128x4 .f32) (h : Fin 8) (r : Fin 512) :
    (out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 (ix3 0 h r) : EReal) = lin (hr x0 x1 r) (fun k l => (x3 (ix2 l k) : EReal)) (⟨h.val, by omega⟩ : Fin 16) * Ideal.ofBits .f32 0x3EB504F3#32 := by
  have hz : (![0, 0, 0] : Fin 3 → Nat) = fun _ => 0 := funext fun a => by fin_cases a <;> rfl
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  rw [View.canon_unit_zero hz]
  refine (p13 _ _ h r).trans (lin_congr _ _ (l2 x0 x1 r) fun k n => ?_)
  pointwise

/-- What the body leaves in result block 4, at an index. -/
theorem out18 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S16x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S256x512 .bf16) (harg8 : arg8.IsWhole) (arg9 : Memref sig .tc .vmem S8x128x64 .bf16) (harg9 : arg9.IsWhole) (arg10 : Memref sig .tc .vmem S8x64x256 .bf16) (harg10 : arg10.IsWhole) (arg11 : Memref sig .tc .vmem S1x64 .f32) (harg11 : arg11.IsWhole) (arg12 : Memref sig .tc .vmem S1x64 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S4x128x128 .f32) (harg15 : arg15.IsWhole) (arg16 : Memref sig .tc .vmem S128x4 .f32) (harg16 : arg16.IsWhole) (arg17 : Memref sig .tc .vmem S1x2x8x128x256 .bf16) (harg17 : arg17.IsWhole) (arg18 : Memref sig .tc .vmem S1x2x64x2048 .bf16) (harg18 : arg18.IsWhole) (arg19 : Memref sig .tc .vmem S1x8x512 .f32) (harg19 : arg19.IsWhole) (arg20 : Memref sig .tc .vmem S1x512x128 .bf16) (harg20 : arg20.IsWhole) (arg21 : Memref sig .tc .vmem S1x1x144x512 .bf16) (harg21 : arg21.IsWhole) (arg22 : Memref sig .tc .vmem S1x512x64 .bf16) (harg22 : arg22.IsWhole) (arg23 : Memref sig .tc .vmem S1x512x512 .bf16) (harg23 : arg23.IsWhole)
    (x0 : Vec Ideal S1x512x1024 .f32) (x1 : Vec Ideal S1x1024 .f32) (x2 : Vec Ideal S1024x1536 .bf16) (x3 : Vec Ideal S16x1024 .bf16) (x4 : Vec Ideal S1x256 .f32) (x5 : Vec Ideal S1x128 .f32) (x6 : Vec Ideal S256x512 .bf16) (x7 : Vec Ideal S8x128x64 .bf16) (x8 : Vec Ideal S8x64x256 .bf16) (x9 : Vec Ideal S1x64 .f32) (x10 : Vec Ideal S1x64 .f32) (x11 : Vec Ideal S1x512 .f32) (x12 : Vec Ideal S1x512 .f32) (x13 : Vec Ideal S4x128x128 .f32) (x14 : Vec Ideal S128x4 .f32) (r : Fin 512) (n : Fin 128) :
    (out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 (ix3 0 r n) : EReal) = ck x0 x1 x2 x5 r n := by
  have hz : (![0, 0, 0] : Fin 3 → Nat) = fun _ => 0 := funext fun a => by fin_cases a <;> rfl
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  rw [View.canon_unit_zero hz]
  refine (p6 _ _ r n).trans ?_
  simp only [l4]
  exact congrArg (fun g => nrm _ _ g n) (funext fun k => l5 x5 k)

/-- What the body leaves in result block 5. -/
theorem out19 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S16x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S256x512 .bf16) (harg8 : arg8.IsWhole) (arg9 : Memref sig .tc .vmem S8x128x64 .bf16) (harg9 : arg9.IsWhole) (arg10 : Memref sig .tc .vmem S8x64x256 .bf16) (harg10 : arg10.IsWhole) (arg11 : Memref sig .tc .vmem S1x64 .f32) (harg11 : arg11.IsWhole) (arg12 : Memref sig .tc .vmem S1x64 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S4x128x128 .f32) (harg15 : arg15.IsWhole) (arg16 : Memref sig .tc .vmem S128x4 .f32) (harg16 : arg16.IsWhole) (arg17 : Memref sig .tc .vmem S1x2x8x128x256 .bf16) (harg17 : arg17.IsWhole) (arg18 : Memref sig .tc .vmem S1x2x64x2048 .bf16) (harg18 : arg18.IsWhole) (arg19 : Memref sig .tc .vmem S1x8x512 .f32) (harg19 : arg19.IsWhole) (arg20 : Memref sig .tc .vmem S1x512x128 .bf16) (harg20 : arg20.IsWhole) (arg21 : Memref sig .tc .vmem S1x1x144x512 .bf16) (harg21 : arg21.IsWhole) (arg22 : Memref sig .tc .vmem S1x512x64 .bf16) (harg22 : arg22.IsWhole) (arg23 : Memref sig .tc .vmem S1x512x512 .bf16) (harg23 : arg23.IsWhole)
    (x0 : Vec Ideal S1x512x1024 .f32) (x1 : Vec Ideal S1x1024 .f32) (x2 : Vec Ideal S1024x1536 .bf16) (x3 : Vec Ideal S16x1024 .bf16) (x4 : Vec Ideal S1x256 .f32) (x5 : Vec Ideal S1x128 .f32) (x6 : Vec Ideal S256x512 .bf16) (x7 : Vec Ideal S8x128x64 .bf16) (x8 : Vec Ideal S8x64x256 .bf16) (x9 : Vec Ideal S1x64 .f32) (x10 : Vec Ideal S1x64 .f32) (x11 : Vec Ideal S1x512 .f32) (x12 : Vec Ideal S1x512 .f32) (x13 : Vec Ideal S4x128x128 .f32) (x14 : Vec Ideal S128x4 .f32) :
    out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 = G19 x0 x1 x2 x5 := by
  funext y
  unfold out0_A_19
  rw [View.read_writes_eq_canon _ _ _ (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14)]
  refine View.canon_apply_of_pieces (G19 x0 x1 x2 x5) _ ?_ y (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  refine List.forall_mem_cons.mpr ⟨piece19b x0 x1 x2 x5 inb_S1x1x144x512_S1x1x16x512_0_0_128_0 _ (fun r n => p8 r n), ?_⟩
  refine List.forall_mem_cons.mpr ⟨piece19a x0 x1 x2 x5 inb_S1x1x144x512_S1x1x128x512_0_0_0_0 _ (fun r n => (p7 _ _ r n).trans ?_), ?_⟩
  · simp only [l4]
    exact congrArg (fun g => nrm _ _ g n) (funext fun k => l5 x5 k)
  exact fun p hp => absurd hp List.not_mem_nil

/-- What the body leaves in result block 6, at an index. -/
theorem out20 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S16x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S256x512 .bf16) (harg8 : arg8.IsWhole) (arg9 : Memref sig .tc .vmem S8x128x64 .bf16) (harg9 : arg9.IsWhole) (arg10 : Memref sig .tc .vmem S8x64x256 .bf16) (harg10 : arg10.IsWhole) (arg11 : Memref sig .tc .vmem S1x64 .f32) (harg11 : arg11.IsWhole) (arg12 : Memref sig .tc .vmem S1x64 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S4x128x128 .f32) (harg15 : arg15.IsWhole) (arg16 : Memref sig .tc .vmem S128x4 .f32) (harg16 : arg16.IsWhole) (arg17 : Memref sig .tc .vmem S1x2x8x128x256 .bf16) (harg17 : arg17.IsWhole) (arg18 : Memref sig .tc .vmem S1x2x64x2048 .bf16) (harg18 : arg18.IsWhole) (arg19 : Memref sig .tc .vmem S1x8x512 .f32) (harg19 : arg19.IsWhole) (arg20 : Memref sig .tc .vmem S1x512x128 .bf16) (harg20 : arg20.IsWhole) (arg21 : Memref sig .tc .vmem S1x1x144x512 .bf16) (harg21 : arg21.IsWhole) (arg22 : Memref sig .tc .vmem S1x512x64 .bf16) (harg22 : arg22.IsWhole) (arg23 : Memref sig .tc .vmem S1x512x512 .bf16) (harg23 : arg23.IsWhole)
    (x0 : Vec Ideal S1x512x1024 .f32) (x1 : Vec Ideal S1x1024 .f32) (x2 : Vec Ideal S1024x1536 .bf16) (x3 : Vec Ideal S16x1024 .bf16) (x4 : Vec Ideal S1x256 .f32) (x5 : Vec Ideal S1x128 .f32) (x6 : Vec Ideal S256x512 .bf16) (x7 : Vec Ideal S8x128x64 .bf16) (x8 : Vec Ideal S8x64x256 .bf16) (x9 : Vec Ideal S1x64 .f32) (x10 : Vec Ideal S1x64 .f32) (x11 : Vec Ideal S1x512 .f32) (x12 : Vec Ideal S1x512 .f32) (x13 : Vec Ideal S4x128x128 .f32) (x14 : Vec Ideal S128x4 .f32) (r : Fin 512) (n : Fin 64) :
    (out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 (ix3 0 r n) : EReal) = lnm 0x42800000#32 (fun j => pj x0 x1 x2 r ⟨1408 + j.val, by omega⟩) (fun k => (x9 (ix2 0 k) : EReal)) (fun k => (x10 (ix2 0 k) : EReal)) n := by
  have hz : (![0, 0, 0] : Fin 3 → Nat) = fun _ => 0 := funext fun a => by fin_cases a <;> rfl
  unfold out0_A_20
  rw [View.read_writes_eq_canon _ _ _ (cover0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  rw [View.canon_unit_zero hz]
  refine (p11 _ _ _ _ r n).trans ?_
  simp only [l2]
  unfold lnm mean pj lin
  pointwise

/-- What the body leaves in result block 7. -/
theorem out21 (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S16x1024 .bf16) (harg5 : arg5.IsWhole) (arg6 : Memref sig .tc .vmem S1x256 .f32) (harg6 : arg6.IsWhole) (arg7 : Memref sig .tc .vmem S1x128 .f32) (harg7 : arg7.IsWhole) (arg8 : Memref sig .tc .vmem S256x512 .bf16) (harg8 : arg8.IsWhole) (arg9 : Memref sig .tc .vmem S8x128x64 .bf16) (harg9 : arg9.IsWhole) (arg10 : Memref sig .tc .vmem S8x64x256 .bf16) (harg10 : arg10.IsWhole) (arg11 : Memref sig .tc .vmem S1x64 .f32) (harg11 : arg11.IsWhole) (arg12 : Memref sig .tc .vmem S1x64 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S4x128x128 .f32) (harg15 : arg15.IsWhole) (arg16 : Memref sig .tc .vmem S128x4 .f32) (harg16 : arg16.IsWhole) (arg17 : Memref sig .tc .vmem S1x2x8x128x256 .bf16) (harg17 : arg17.IsWhole) (arg18 : Memref sig .tc .vmem S1x2x64x2048 .bf16) (harg18 : arg18.IsWhole) (arg19 : Memref sig .tc .vmem S1x8x512 .f32) (harg19 : arg19.IsWhole) (arg20 : Memref sig .tc .vmem S1x512x128 .bf16) (harg20 : arg20.IsWhole) (arg21 : Memref sig .tc .vmem S1x1x144x512 .bf16) (harg21 : arg21.IsWhole) (arg22 : Memref sig .tc .vmem S1x512x64 .bf16) (harg22 : arg22.IsWhole) (arg23 : Memref sig .tc .vmem S1x512x512 .bf16) (harg23 : arg23.IsWhole)
    (x0 : Vec Ideal S1x512x1024 .f32) (x1 : Vec Ideal S1x1024 .f32) (x2 : Vec Ideal S1024x1536 .bf16) (x3 : Vec Ideal S16x1024 .bf16) (x4 : Vec Ideal S1x256 .f32) (x5 : Vec Ideal S1x128 .f32) (x6 : Vec Ideal S256x512 .bf16) (x7 : Vec Ideal S8x128x64 .bf16) (x8 : Vec Ideal S8x64x256 .bf16) (x9 : Vec Ideal S1x64 .f32) (x10 : Vec Ideal S1x64 .f32) (x11 : Vec Ideal S1x512 .f32) (x12 : Vec Ideal S1x512 .f32) (x13 : Vec Ideal S4x128x128 .f32) (x14 : Vec Ideal S128x4 .f32) :
    out0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 = G21 x0 x1 x2 x11 x12 x13 x14 := by
  funext y
  unfold out0_A_21
  rw [View.read_writes_eq_canon _ _ _ (cover0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14)]
  refine View.canon_apply_of_pieces (G21 x0 x1 x2 x11 x12 x13 x14) _ ?_ y (cover0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 y)
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  refine List.forall_mem_cons.mpr ⟨piece21 x0 x1 x2 x11 x12 x13 x14 3 3 384 384 (by decide) (by decide) rfl rfl inb_S1x512x512_S1x128x128_0_384_384 _
    (fun t n => (od3_3 _ _ _ _ _ _ t n).trans (od_congr x0 x1 x2 x11 x12 x13 x14 _ _ _ _ _ _ 3 3 (fun t => (⟨384 + t.val, by omega⟩ : Fin 512)) (fun n => (⟨384 + n.val, by omega⟩ : Fin 512))
      (fun t => Fin.ext (by show 384 + t.val = 3 * 128 + t.val; omega)) (fun n => Fin.ext (by show 384 + n.val = 3 * 128 + n.val; omega))
      (l9 x0 x1 x2) (l10 x0 x1 x2) (l11 x11) (l11 x12) (l13_3 x13) (l14_3 x14) t n)), ?_⟩
  refine List.forall_mem_cons.mpr ⟨piece21 x0 x1 x2 x11 x12 x13 x14 2 3 256 384 (by decide) (by decide) rfl rfl inb_S1x512x512_S1x128x128_0_256_384 _
    (fun t n => (od3_2 _ _ _ _ _ _ t n).trans (od_congr x0 x1 x2 x11 x12 x13 x14 _ _ _ _ _ _ 2 3 (fun t => (⟨256 + t.val, by omega⟩ : Fin 512)) (fun n => (⟨384 + n.val, by omega⟩ : Fin 512))
      (fun t => Fin.ext (by show 256 + t.val = 2 * 128 + t.val; omega)) (fun n => Fin.ext (by show 384 + n.val = 3 * 128 + n.val; omega))
      (l9 x0 x1 x2) (l10 x0 x1 x2) (l11 x11) (l11 x12) (l13_3 x13) (l14_3 x14) t n)), ?_⟩
  refine List.forall_mem_cons.mpr ⟨piece21 x0 x1 x2 x11 x12 x13 x14 1 3 128 384 (by decide) (by decide) rfl rfl inb_S1x512x512_S1x128x128_0_128_384 _
    (fun t n => (od3_1 _ _ _ _ _ _ t n).trans (od_congr x0 x1 x2 x11 x12 x13 x14 _ _ _ _ _ _ 1 3 (fun t => (⟨128 + t.val, by omega⟩ : Fin 512)) (fun n => (⟨384 + n.val, by omega⟩ : Fin 512))
      (fun t => Fin.ext (by show 128 + t.val = 1 * 128 + t.val; omega)) (fun n => Fin.ext (by show 384 + n.val = 3 * 128 + n.val; omega))
      (l9 x0 x1 x2) (l10 x0 x1 x2) (l11 x11) (l11 x12) (l13_3 x13) (l14_3 x14) t n)), ?_⟩
  refine List.forall_mem_cons.mpr ⟨piece21 x0 x1 x2 x11 x12 x13 x14 0 3 0 384 (by decide) (by decide) rfl rfl inb_S1x512x512_S1x128x128_0_0_384 _
    (fun t n => (od3_0 _ _ _ _ _ _ t n).trans (od_congr x0 x1 x2 x11 x12 x13 x14 _ _ _ _ _ _ 0 3 (fun t => (⟨t.val, by omega⟩ : Fin 512)) (fun n => (⟨384 + n.val, by omega⟩ : Fin 512))
      (fun t => Fin.ext (by show t.val = 0 * 128 + t.val; omega)) (fun n => Fin.ext (by show 384 + n.val = 3 * 128 + n.val; omega))
      (l9 x0 x1 x2) (l10 x0 x1 x2) (l11 x11) (l11 x12) (l13_3 x13) (l14_3 x14) t n)), ?_⟩
  refine List.forall_mem_cons.mpr ⟨piece21 x0 x1 x2 x11 x12 x13 x14 3 2 384 256 (by decide) (by decide) rfl rfl inb_S1x512x512_S1x128x128_0_384_256 _
    (fun t n => (od2_3 _ _ _ _ _ _ t n).trans (od_congr x0 x1 x2 x11 x12 x13 x14 _ _ _ _ _ _ 3 2 (fun t => (⟨384 + t.val, by omega⟩ : Fin 512)) (fun n => (⟨256 + n.val, by omega⟩ : Fin 512))
      (fun t => Fin.ext (by show 384 + t.val = 3 * 128 + t.val; omega)) (fun n => Fin.ext (by show 256 + n.val = 2 * 128 + n.val; omega))
      (l9 x0 x1 x2) (l10 x0 x1 x2) (l11 x11) (l11 x12) (l13_2 x13) (l14_2 x14) t n)), ?_⟩
  refine List.forall_mem_cons.mpr ⟨piece21 x0 x1 x2 x11 x12 x13 x14 2 2 256 256 (by decide) (by decide) rfl rfl inb_S1x512x512_S1x128x128_0_256_256 _
    (fun t n => (od2_2 _ _ _ _ _ _ t n).trans (od_congr x0 x1 x2 x11 x12 x13 x14 _ _ _ _ _ _ 2 2 (fun t => (⟨256 + t.val, by omega⟩ : Fin 512)) (fun n => (⟨256 + n.val, by omega⟩ : Fin 512))
      (fun t => Fin.ext (by show 256 + t.val = 2 * 128 + t.val; omega)) (fun n => Fin.ext (by show 256 + n.val = 2 * 128 + n.val; omega))
      (l9 x0 x1 x2) (l10 x0 x1 x2) (l11 x11) (l11 x12) (l13_2 x13) (l14_2 x14) t n)), ?_⟩
  refine List.forall_mem_cons.mpr ⟨piece21 x0 x1 x2 x11 x12 x13 x14 1 2 128 256 (by decide) (by decide) rfl rfl inb_S1x512x512_S1x128x128_0_128_256 _
    (fun t n => (od2_1 _ _ _ _ _ _ t n).trans (od_congr x0 x1 x2 x11 x12 x13 x14 _ _ _ _ _ _ 1 2 (fun t => (⟨128 + t.val, by omega⟩ : Fin 512)) (fun n => (⟨256 + n.val, by omega⟩ : Fin 512))
      (fun t => Fin.ext (by show 128 + t.val = 1 * 128 + t.val; omega)) (fun n => Fin.ext (by show 256 + n.val = 2 * 128 + n.val; omega))
      (l9 x0 x1 x2) (l10 x0 x1 x2) (l11 x11) (l11 x12) (l13_2 x13) (l14_2 x14) t n)), ?_⟩
  refine List.forall_mem_cons.mpr ⟨piece21 x0 x1 x2 x11 x12 x13 x14 0 2 0 256 (by decide) (by decide) rfl rfl inb_S1x512x512_S1x128x128_0_0_256 _
    (fun t n => (od2_0 _ _ _ _ _ _ t n).trans (od_congr x0 x1 x2 x11 x12 x13 x14 _ _ _ _ _ _ 0 2 (fun t => (⟨t.val, by omega⟩ : Fin 512)) (fun n => (⟨256 + n.val, by omega⟩ : Fin 512))
      (fun t => Fin.ext (by show t.val = 0 * 128 + t.val; omega)) (fun n => Fin.ext (by show 256 + n.val = 2 * 128 + n.val; omega))
      (l9 x0 x1 x2) (l10 x0 x1 x2) (l11 x11) (l11 x12) (l13_2 x13) (l14_2 x14) t n)), ?_⟩
  refine List.forall_mem_cons.mpr ⟨piece21 x0 x1 x2 x11 x12 x13 x14 3 1 384 128 (by decide) (by decide) rfl rfl inb_S1x512x512_S1x128x128_0_384_128 _
    (fun t n => (od1_3 _ _ _ _ _ _ t n).trans (od_congr x0 x1 x2 x11 x12 x13 x14 _ _ _ _ _ _ 3 1 (fun t => (⟨384 + t.val, by omega⟩ : Fin 512)) (fun n => (⟨128 + n.val, by omega⟩ : Fin 512))
      (fun t => Fin.ext (by show 384 + t.val = 3 * 128 + t.val; omega)) (fun n => Fin.ext (by show 128 + n.val = 1 * 128 + n.val; omega))
      (l9 x0 x1 x2) (l10 x0 x1 x2) (l11 x11) (l11 x12) (l13_1 x13) (l14_1 x14) t n)), ?_⟩
  refine List.forall_mem_cons.mpr ⟨piece21 x0 x1 x2 x11 x12 x13 x14 2 1 256 128 (by decide) (by decide) rfl rfl inb_S1x512x512_S1x128x128_0_256_128 _
    (fun t n => (od1_2 _ _ _ _ _ _ t n).trans (od_congr x0 x1 x2 x11 x12 x13 x14 _ _ _ _ _ _ 2 1 (fun t => (⟨256 + t.val, by omega⟩ : Fin 512)) (fun n => (⟨128 + n.val, by omega⟩ : Fin 512))
      (fun t => Fin.ext (by show 256 + t.val = 2 * 128 + t.val; omega)) (fun n => Fin.ext (by show 128 + n.val = 1 * 128 + n.val; omega))
      (l9 x0 x1 x2) (l10 x0 x1 x2) (l11 x11) (l11 x12) (l13_1 x13) (l14_1 x14) t n)), ?_⟩
  refine List.forall_mem_cons.mpr ⟨piece21 x0 x1 x2 x11 x12 x13 x14 1 1 128 128 (by decide) (by decide) rfl rfl inb_S1x512x512_S1x128x128_0_128_128 _
    (fun t n => (od1_1 _ _ _ _ _ _ t n).trans (od_congr x0 x1 x2 x11 x12 x13 x14 _ _ _ _ _ _ 1 1 (fun t => (⟨128 + t.val, by omega⟩ : Fin 512)) (fun n => (⟨128 + n.val, by omega⟩ : Fin 512))
      (fun t => Fin.ext (by show 128 + t.val = 1 * 128 + t.val; omega)) (fun n => Fin.ext (by show 128 + n.val = 1 * 128 + n.val; omega))
      (l9 x0 x1 x2) (l10 x0 x1 x2) (l11 x11) (l11 x12) (l13_1 x13) (l14_1 x14) t n)), ?_⟩
  refine List.forall_mem_cons.mpr ⟨piece21 x0 x1 x2 x11 x12 x13 x14 0 1 0 128 (by decide) (by decide) rfl rfl inb_S1x512x512_S1x128x128_0_0_128 _
    (fun t n => (od1_0 _ _ _ _ _ _ t n).trans (od_congr x0 x1 x2 x11 x12 x13 x14 _ _ _ _ _ _ 0 1 (fun t => (⟨t.val, by omega⟩ : Fin 512)) (fun n => (⟨128 + n.val, by omega⟩ : Fin 512))
      (fun t => Fin.ext (by show t.val = 0 * 128 + t.val; omega)) (fun n => Fin.ext (by show 128 + n.val = 1 * 128 + n.val; omega))
      (l9 x0 x1 x2) (l10 x0 x1 x2) (l11 x11) (l11 x12) (l13_1 x13) (l14_1 x14) t n)), ?_⟩
  refine List.forall_mem_cons.mpr ⟨piece21 x0 x1 x2 x11 x12 x13 x14 3 0 384 0 (by decide) (by decide) rfl rfl inb_S1x512x512_S1x128x128_0_384_0 _
    (fun t n => (od0_3 _ _ _ _ _ _ t n).trans (od_congr x0 x1 x2 x11 x12 x13 x14 _ _ _ _ _ _ 3 0 (fun t => (⟨384 + t.val, by omega⟩ : Fin 512)) (fun n => (⟨n.val, by omega⟩ : Fin 512))
      (fun t => Fin.ext (by show 384 + t.val = 3 * 128 + t.val; omega)) (fun n => Fin.ext (by show n.val = 0 * 128 + n.val; omega))
      (l9 x0 x1 x2) (l10 x0 x1 x2) (l11 x11) (l11 x12) (l13_0 x13) (l14_0 x14) t n)), ?_⟩
  refine List.forall_mem_cons.mpr ⟨piece21 x0 x1 x2 x11 x12 x13 x14 2 0 256 0 (by decide) (by decide) rfl rfl inb_S1x512x512_S1x128x128_0_256_0 _
    (fun t n => (od0_2 _ _ _ _ _ _ t n).trans (od_congr x0 x1 x2 x11 x12 x13 x14 _ _ _ _ _ _ 2 0 (fun t => (⟨256 + t.val, by omega⟩ : Fin 512)) (fun n => (⟨n.val, by omega⟩ : Fin 512))
      (fun t => Fin.ext (by show 256 + t.val = 2 * 128 + t.val; omega)) (fun n => Fin.ext (by show n.val = 0 * 128 + n.val; omega))
      (l9 x0 x1 x2) (l10 x0 x1 x2) (l11 x11) (l11 x12) (l13_0 x13) (l14_0 x14) t n)), ?_⟩
  refine List.forall_mem_cons.mpr ⟨piece21 x0 x1 x2 x11 x12 x13 x14 1 0 128 0 (by decide) (by decide) rfl rfl inb_S1x512x512_S1x128x128_0_128_0 _
    (fun t n => (od0_1 _ _ _ _ _ _ t n).trans (od_congr x0 x1 x2 x11 x12 x13 x14 _ _ _ _ _ _ 1 0 (fun t => (⟨128 + t.val, by omega⟩ : Fin 512)) (fun n => (⟨n.val, by omega⟩ : Fin 512))
      (fun t => Fin.ext (by show 128 + t.val = 1 * 128 + t.val; omega)) (fun n => Fin.ext (by show n.val = 0 * 128 + n.val; omega))
      (l9 x0 x1 x2) (l10 x0 x1 x2) (l11 x11) (l11 x12) (l13_0 x13) (l14_0 x14) t n)), ?_⟩
  refine List.forall_mem_cons.mpr ⟨piece21 x0 x1 x2 x11 x12 x13 x14 0 0 0 0 (by decide) (by decide) rfl rfl inb_S1x512x512_S1x128x128_0_0_0 _
    (fun t n => (od0_0 _ _ _ _ _ _ t n).trans (od_congr x0 x1 x2 x11 x12 x13 x14 _ _ _ _ _ _ 0 0 (fun t => (⟨t.val, by omega⟩ : Fin 512)) (fun n => (⟨n.val, by omega⟩ : Fin 512))
      (fun t => Fin.ext (by show t.val = 0 * 128 + t.val; omega)) (fun n => Fin.ext (by show n.val = 0 * 128 + n.val; omega))
      (l9 x0 x1 x2) (l10 x0 x1 x2) (l11 x11) (l11 x12) (l13_0 x13) (l14_0 x14) t n)), ?_⟩
  exact fun p hp => absurd hp List.not_mem_nil

end Cert.OOut

end
-- ==== Proof.OBlk.lean ====
/-
  The second layer's input projection: which block each grid point reads and writes, and what the arrays hold after the grid has run.
-/
module

public import proofs.«01_k».proof.Proof.Gen.KernelOIdeal.Value
public import proofs.«01_k».proof.Proof.OOut
public import Idealize.ShloMosaic.Lib.Pipeline.ValueKit.Geometry

@[expose] public section

set_option maxRecDepth 16384
set_option maxHeartbeats 1000000

noncomputable section

namespace Cert.OBlk

open Cert.KernelOIdeal Cert.KernelOIdeal.Gen Idealize.ShloMosaic Idealize.ShloMosaic.TcCoe Idealize.SL.Sem
  Idealize.ShloMosaic.StableHlo Cert.Row Cert.ORow

/-- The batch row of grid point `t`. -/
def pb (t : Fin cfg0.N) : Fin 8 := ⟨(grid0.coords t 0).val, (grid0.coords t 0).isLt⟩

/-- Row `r` of the block of grid point `t`, as a token of its batch row. -/
def ps (t : Fin cfg0.N) (r : Fin 512) : Fin 8192 :=
  ⟨(grid0.coords t 1).val * 512 + r.val, by have h : (grid0.coords t 1).val < 16 := (grid0.coords t 1).isLt; omega⟩

variable (m : (ℓ : Loc nD τ sig) → Buf (Elt Ideal) ℓ) (c : Dev nD)

/-- Which block window 0 holds at a grid point. -/
theorem e0 : ∀ t : Fin cfg0.N, win0_0.index t = ![(grid0.coords t 0).val, (grid0.coords t 1).val, 0] :=
  (by decide +kernel : ∀ t : Fin grid0.N, _)

/-- Which block window 1 holds at a grid point. -/
theorem e1 : ∀ t : Fin cfg0.N, win0_1.index t = ![0, 0] :=
  (by decide +kernel : ∀ t : Fin grid0.N, _)

/-- Which block window 2 holds at a grid point. -/
theorem e2 : ∀ t : Fin cfg0.N, win0_2.index t = ![0, 0] :=
  (by decide +kernel : ∀ t : Fin grid0.N, _)

/-- Which block window 3 holds at a grid point. -/
theorem e3 : ∀ t : Fin cfg0.N, win0_3.index t = ![0, 0] :=
  (by decide +kernel : ∀ t : Fin grid0.N, _)

/-- Which block window 4 holds at a grid point. -/
theorem e4 : ∀ t : Fin cfg0.N, win0_4.index t = ![0, 0] :=
  (by decide +kernel : ∀ t : Fin grid0.N, _)

/-- Which block window 5 holds at a grid point. -/
theorem e5 : ∀ t : Fin cfg0.N, win0_5.index t = ![0, 0] :=
  (by decide +kernel : ∀ t : Fin grid0.N, _)

/-- Which block window 6 holds at a grid point. -/
theorem e6 : ∀ t : Fin cfg0.N, win0_6.index t = ![0, 0] :=
  (by decide +kernel : ∀ t : Fin grid0.N, _)

/-- Which block window 7 holds at a grid point. -/
theorem e7 : ∀ t : Fin cfg0.N, win0_7.index t = ![0, 0, 0] :=
  (by decide +kernel : ∀ t : Fin grid0.N, _)

/-- Which block window 8 holds at a grid point. -/
theorem e8 : ∀ t : Fin cfg0.N, win0_8.index t = ![0, 0, 0] :=
  (by decide +kernel : ∀ t : Fin grid0.N, _)

/-- Which block window 9 holds at a grid point. -/
theorem e9 : ∀ t : Fin cfg0.N, win0_9.index t = ![0, 0] :=
  (by decide +kernel : ∀ t : Fin grid0.N, _)

/-- Which block window 10 holds at a grid point. -/
theorem e10 : ∀ t : Fin cfg0.N, win0_10.index t = ![0, 0] :=
  (by decide +kernel : ∀ t : Fin grid0.N, _)

/-- Which block window 11 holds at a grid point. -/
theorem e11 : ∀ t : Fin cfg0.N, win0_11.index t = ![0, 0] :=
  (by decide +kernel : ∀ t : Fin grid0.N, _)

/-- Which block window 12 holds at a grid point. -/
theorem e12 : ∀ t : Fin cfg0.N, win0_12.index t = ![0, 0] :=
  (by decide +kernel : ∀ t : Fin grid0.N, _)

/-- Which block window 13 holds at a grid point. -/
theorem e13 : ∀ t : Fin cfg0.N, win0_13.index t = ![0, 0, 0] :=
  (by decide +kernel : ∀ t : Fin grid0.N, _)

/-- Which block window 14 holds at a grid point. -/
theorem e14 : ∀ t : Fin cfg0.N, win0_14.index t = ![0, 0] :=
  (by decide +kernel : ∀ t : Fin grid0.N, _)

/-- Which block window 15 holds at a grid point. -/
theorem e15 : ∀ t : Fin cfg0.N, win0_15.index t = ![(grid0.coords t 0).val, (grid0.coords t 1).val, 0, 0, 0] :=
  (by decide +kernel : ∀ t : Fin grid0.N, _)

/-- Which block window 16 holds at a grid point. -/
theorem e16 : ∀ t : Fin cfg0.N, win0_16.index t = ![(grid0.coords t 0).val, (grid0.coords t 1).val, 0, 0] :=
  (by decide +kernel : ∀ t : Fin grid0.N, _)

/-- Which block window 17 holds at a grid point. -/
theorem e17 : ∀ t : Fin cfg0.N, win0_17.index t = ![(grid0.coords t 0).val, 0, (grid0.coords t 1).val] :=
  (by decide +kernel : ∀ t : Fin grid0.N, _)

/-- Which block window 18 holds at a grid point. -/
theorem e18 : ∀ t : Fin cfg0.N, win0_18.index t = ![(grid0.coords t 0).val, (grid0.coords t 1).val, 0] :=
  (by decide +kernel : ∀ t : Fin grid0.N, _)

/-- Which block window 19 holds at a grid point. -/
theorem e19 : ∀ t : Fin cfg0.N, win0_19.index t = ![(grid0.coords t 0).val, (grid0.coords t 1).val, 0, 0] :=
  (by decide +kernel : ∀ t : Fin grid0.N, _)

/-- Which block window 20 holds at a grid point. -/
theorem e20 : ∀ t : Fin cfg0.N, win0_20.index t = ![(grid0.coords t 0).val, (grid0.coords t 1).val, 0] :=
  (by decide +kernel : ∀ t : Fin grid0.N, _)

/-- Which block window 21 holds at a grid point. -/
theorem e21 : ∀ t : Fin cfg0.N, win0_21.index t = ![(grid0.coords t 0).val, (grid0.coords t 1).val, 0] :=
  (by decide +kernel : ∀ t : Fin grid0.N, _)

/-- Before the grid runs, the host has only changed the precision of argument 5. -/
theorem Vv19 : (V m c main_v19 : FVec Ideal S256x512 .bf16) = (m ((c : Thread nD τ).loc main_arg5) : FVec Ideal S256x512 .f32) := by
  show StableHlo.after hostOps0 (fun b => m (c, b)) (Proc.devRef .tc main_v19) = _
  simp only [hostOps0]
  after_results_simp
  rfl

/-- Before the grid runs, the host has only given argument 1 a leading axis of one. -/
theorem Vv16 (n : Fin 1024) : ((V m c main_v16 : FVec Ideal S1x1024 .f32) (ix2 0 n) : EReal) = (m ((c : Thread nD τ).loc main_arg1) : FVec Ideal S1024 .f32) (ix1 n) := by
  have h : (V m c main_v16 : FVec Ideal S1x1024 .f32) = shapeCast S1x1024 (m ((c : Thread nD τ).loc main_arg1) : FVec Ideal S1024 .f32) shapeCasts_S1024_S1x1024 := by
    show StableHlo.after hostOps0 (fun b => m (c, b)) (Proc.devRef .tc main_v16) = _
    simp only [hostOps0]
    after_results_simp
    rfl
  rw [h]
  pointwise

/-- Before the grid runs, the host has only given argument 3 a leading axis of one. -/
theorem Vv17 (n : Fin 256) : ((V m c main_v17 : FVec Ideal S1x256 .f32) (ix2 0 n) : EReal) = (m ((c : Thread nD τ).loc main_arg3) : FVec Ideal S256 .f32) (ix1 n) := by
  have h : (V m c main_v17 : FVec Ideal S1x256 .f32) = shapeCast S1x256 (m ((c : Thread nD τ).loc main_arg3) : FVec Ideal S256 .f32) shapeCasts_S256_S1x256 := by
    show StableHlo.after hostOps0 (fun b => m (c, b)) (Proc.devRef .tc main_v17) = _
    simp only [hostOps0]
    after_results_simp
    rfl
  rw [h]
  pointwise

/-- Before the grid runs, the host has only given argument 4 a leading axis of one. -/
theorem Vv18 (n : Fin 128) : ((V m c main_v18 : FVec Ideal S1x128 .f32) (ix2 0 n) : EReal) = (m ((c : Thread nD τ).loc main_arg4) : FVec Ideal S128 .f32) (ix1 n) := by
  have h : (V m c main_v18 : FVec Ideal S1x128 .f32) = shapeCast S1x128 (m ((c : Thread nD τ).loc main_arg4) : FVec Ideal S128 .f32) shapeCasts_S128_S1x128 := by
    show StableHlo.after hostOps0 (fun b => m (c, b)) (Proc.devRef .tc main_v18) = _
    simp only [hostOps0]
    after_results_simp
    rfl
  rw [h]
  pointwise

/-- Before the grid runs, the host has only given argument 8 a leading axis of one. -/
theorem Vv20 (n : Fin 64) : ((V m c main_v20 : FVec Ideal S1x64 .f32) (ix2 0 n) : EReal) = (m ((c : Thread nD τ).loc main_arg8) : FVec Ideal S64 .f32) (ix1 n) := by
  have h : (V m c main_v20 : FVec Ideal S1x64 .f32) = shapeCast S1x64 (m ((c : Thread nD τ).loc main_arg8) : FVec Ideal S64 .f32) shapeCasts_S64_S1x64 := by
    show StableHlo.after hostOps0 (fun b => m (c, b)) (Proc.devRef .tc main_v20) = _
    simp only [hostOps0]
    after_results_simp
    rfl
  rw [h]
  pointwise

/-- Before the grid runs, the host has only given argument 9 a leading axis of one. -/
theorem Vv21 (n : Fin 64) : ((V m c main_v21 : FVec Ideal S1x64 .f32) (ix2 0 n) : EReal) = (m ((c : Thread nD τ).loc main_arg9) : FVec Ideal S64 .f32) (ix1 n) := by
  have h : (V m c main_v21 : FVec Ideal S1x64 .f32) = shapeCast S1x64 (m ((c : Thread nD τ).loc main_arg9) : FVec Ideal S64 .f32) shapeCasts_S64_S1x64 := by
    show StableHlo.after hostOps0 (fun b => m (c, b)) (Proc.devRef .tc main_v21) = _
    simp only [hostOps0]
    after_results_simp
    rfl
  rw [h]
  pointwise

/-- Before the grid runs, the host has only given argument 10 a leading axis of one. -/
theorem Vv22 (n : Fin 512) : ((V m c main_v22 : FVec Ideal S1x512 .f32) (ix2 0 n) : EReal) = (m ((c : Thread nD τ).loc main_arg10) : FVec Ideal S512 .f32) (ix1 n) := by
  have h : (V m c main_v22 : FVec Ideal S1x512 .f32) = shapeCast S1x512 (m ((c : Thread nD τ).loc main_arg10) : FVec Ideal S512 .f32) shapeCasts_S512_S1x512 := by
    show StableHlo.after hostOps0 (fun b => m (c, b)) (Proc.devRef .tc main_v22) = _
    simp only [hostOps0]
    after_results_simp
    rfl
  rw [h]
  pointwise

/-- Before the grid runs, the host has only given argument 11 a leading axis of one. -/
theorem Vv23 (n : Fin 512) : ((V m c main_v23 : FVec Ideal S1x512 .f32) (ix2 0 n) : EReal) = (m ((c : Thread nD τ).loc main_arg11) : FVec Ideal S512 .f32) (ix1 n) := by
  have h : (V m c main_v23 : FVec Ideal S1x512 .f32) = shapeCast S1x512 (m ((c : Thread nD τ).loc main_arg11) : FVec Ideal S512 .f32) shapeCasts_S512_S1x512 := by
    show StableHlo.after hostOps0 (fun b => m (c, b)) (Proc.devRef .tc main_v23) = _
    simp only [hostOps0]
    after_results_simp
    rfl
  rw [h]
  pointwise

/-- The columns of the latent queries and keys in the matrix the host has put together. -/
theorem Vv5a (k : Fin 1024) (n : Fin 384) : ((V m c main_v5 : FVec Ideal S1024x1536 .bf16) (ix2 k (⟨n.val, by omega⟩ : Fin 1536)) : EReal) = (m ((c : Thread nD τ).loc main_arg2) : FVec Ideal S1024x1480 .f32) (ix2 k (⟨n.val, by omega⟩ : Fin 1480)) := by
  have h : (V m c main_v5 : FVec Ideal S1024x1536 .bf16) = (truncf .bf16 (concatenate S1024x1536 1 [⟨S1024x384, extractStridedSlice S1024x384 ![0, 0] (m ((c : Thread nD τ).loc main_arg2) : FVec Ideal S1024x1480 .f32) slices_S1024x1480_S1024x384_0_0⟩, ⟨S1024x1024, extractStridedSlice S1024x1024 ![0, 456] (m ((c : Thread nD τ).loc main_arg2) : FVec Ideal S1024x1480 .f32) slices_S1024x1480_S1024x1024_0_456⟩, ⟨S1024x64, extractStridedSlice S1024x64 ![0, 384] (m ((c : Thread nD τ).loc main_arg2) : FVec Ideal S1024x1480 .f32) slices_S1024x1480_S1024x64_0_384⟩, ⟨S1024x64, broadcastInDim S1024x64 ![] bcast_S_S1024x64 (constant S_ .f32 0x00000000#32)⟩] concatenates_S1024x384_S1024x1024_S1024x64_S1024x64_S1024x1536_d1) bitsLt_bf16_f32 : FVec Ideal S1024x1536 .bf16) := by
    show StableHlo.after hostOps0 (fun b => m (c, b)) (Proc.devRef .tc main_v5) = _
    simp only [hostOps0]
    after_results_simp
    rfl
  rw [h]
  pointwise

/-- The columns of the gate and of the gated values in the matrix the host has put together. -/
theorem Vv5b (k : Fin 1024) (n : Fin 1024) : ((V m c main_v5 : FVec Ideal S1024x1536 .bf16) (ix2 k (⟨384 + n.val, by omega⟩ : Fin 1536)) : EReal) = (m ((c : Thread nD τ).loc main_arg2) : FVec Ideal S1024x1480 .f32) (ix2 k (⟨456 + n.val, by omega⟩ : Fin 1480)) := by
  have h : (V m c main_v5 : FVec Ideal S1024x1536 .bf16) = (truncf .bf16 (concatenate S1024x1536 1 [⟨S1024x384, extractStridedSlice S1024x384 ![0, 0] (m ((c : Thread nD τ).loc main_arg2) : FVec Ideal S1024x1480 .f32) slices_S1024x1480_S1024x384_0_0⟩, ⟨S1024x1024, extractStridedSlice S1024x1024 ![0, 456] (m ((c : Thread nD τ).loc main_arg2) : FVec Ideal S1024x1480 .f32) slices_S1024x1480_S1024x1024_0_456⟩, ⟨S1024x64, extractStridedSlice S1024x64 ![0, 384] (m ((c : Thread nD τ).loc main_arg2) : FVec Ideal S1024x1480 .f32) slices_S1024x1480_S1024x64_0_384⟩, ⟨S1024x64, broadcastInDim S1024x64 ![] bcast_S_S1024x64 (constant S_ .f32 0x00000000#32)⟩] concatenates_S1024x384_S1024x1024_S1024x64_S1024x64_S1024x1536_d1) bitsLt_bf16_f32 : FVec Ideal S1024x1536 .bf16) := by
    show StableHlo.after hostOps0 (fun b => m (c, b)) (Proc.devRef .tc main_v5) = _
    simp only [hostOps0]
    after_results_simp
    rfl
  rw [h]
  pointwise

/-- The columns of the index keys in the matrix the host has put together. -/
theorem Vv5c (k : Fin 1024) (n : Fin 64) : ((V m c main_v5 : FVec Ideal S1024x1536 .bf16) (ix2 k (⟨1408 + n.val, by omega⟩ : Fin 1536)) : EReal) = (m ((c : Thread nD τ).loc main_arg2) : FVec Ideal S1024x1480 .f32) (ix2 k (⟨384 + n.val, by omega⟩ : Fin 1480)) := by
  have h : (V m c main_v5 : FVec Ideal S1024x1536 .bf16) = (truncf .bf16 (concatenate S1024x1536 1 [⟨S1024x384, extractStridedSlice S1024x384 ![0, 0] (m ((c : Thread nD τ).loc main_arg2) : FVec Ideal S1024x1480 .f32) slices_S1024x1480_S1024x384_0_0⟩, ⟨S1024x1024, extractStridedSlice S1024x1024 ![0, 456] (m ((c : Thread nD τ).loc main_arg2) : FVec Ideal S1024x1480 .f32) slices_S1024x1480_S1024x1024_0_456⟩, ⟨S1024x64, extractStridedSlice S1024x64 ![0, 384] (m ((c : Thread nD τ).loc main_arg2) : FVec Ideal S1024x1480 .f32) slices_S1024x1480_S1024x64_0_384⟩, ⟨S1024x64, broadcastInDim S1024x64 ![] bcast_S_S1024x64 (constant S_ .f32 0x00000000#32)⟩] concatenates_S1024x384_S1024x1024_S1024x64_S1024x64_S1024x1536_d1) bitsLt_bf16_f32 : FVec Ideal S1024x1536 .bf16) := by
    show StableHlo.after hostOps0 (fun b => m (c, b)) (Proc.devRef .tc main_v5) = _
    simp only [hostOps0]
    after_results_simp
    rfl
  rw [h]
  pointwise
  rw [dif_neg (by omega), dif_neg (by omega), dif_pos (by omega)]
  refine congrArg (fun j : Fin 1480 => (m ((c : Thread nD τ).loc main_arg2) : FVec Ideal S1024x1480 .f32) (ix2 k j)) (Fin.ext ?_)
  show 384 + (1408 + n.val - 384 - 1024) = 384 + n.val
  omega

/-- The columns of the index weights, as the host has transposed them. -/
theorem Vv10 (h : Fin 8) (k : Fin 1024) : ((V m c main_v10 : FVec Ideal S16x1024 .bf16) (ix2 (⟨h.val, by omega⟩ : Fin 16) k) : EReal) = (m ((c : Thread nD τ).loc main_arg2) : FVec Ideal S1024x1480 .f32) (ix2 k (⟨448 + h.val, by omega⟩ : Fin 1480)) := by
  have h : (V m c main_v10 : FVec Ideal S16x1024 .bf16) = (truncf .bf16 (concatenate S16x1024 0 [⟨S8x1024, transpose S8x1024 [1, 0] (extractStridedSlice S1024x8 ![0, 448] (m ((c : Thread nD τ).loc main_arg2) : FVec Ideal S1024x1480 .f32) slices_S1024x1480_S1024x8_0_448) transposes_S1024x8_S8x1024_1_0⟩, ⟨S8x1024, broadcastInDim S8x1024 ![] bcast_S_S8x1024 (constant S_ .f32 0x00000000#32)⟩] concatenates_S8x1024_S8x1024_S16x1024_d0) bitsLt_bf16_f32 : FVec Ideal S16x1024 .bf16) := by
    show StableHlo.after hostOps0 (fun b => m (c, b)) (Proc.devRef .tc main_v10) = _
    simp only [hostOps0]
    after_results_simp
    rfl
  rw [h]
  pointwise

/-- The key matrices, as the host has transposed them. -/
theorem Vv12 (h : Fin 8) (n : Fin 128) (d : Fin 64) : ((V m c main_v12 : FVec Ideal S8x128x64 .bf16) (ix3 h n d) : EReal) = (m ((c : Thread nD τ).loc main_arg6) : FVec Ideal S8x64x128 .f32) (ix3 h d n) := by
  have h : (V m c main_v12 : FVec Ideal S8x128x64 .bf16) = (truncf .bf16 (transpose S8x128x64 [0, 2, 1] (m ((c : Thread nD τ).loc main_arg6) : FVec Ideal S8x64x128 .f32) transposes_S8x64x128_S8x128x64_0_2_1) bitsLt_bf16_f32 : FVec Ideal S8x128x64 .bf16) := by
    show StableHlo.after hostOps0 (fun b => m (c, b)) (Proc.devRef .tc main_v12) = _
    simp only [hostOps0]
    after_results_simp
  rw [h]
  pointwise

/-- The index matrices, as the host has split and transposed them. -/
theorem Vv15 (h : Fin 8) (d : Fin 64) (k : Fin 256) : ((V m c main_v15 : FVec Ideal S8x64x256 .bf16) (ix3 h d k) : EReal) = (m ((c : Thread nD τ).loc main_arg7) : FVec Ideal S256x512 .f32) (ix2 k (hcol h d)) := by
  unfold hcol
  have h : (V m c main_v15 : FVec Ideal S8x64x256 .bf16) = (truncf .bf16 (transpose S8x64x256 [1, 2, 0] (shapeCast S256x8x64 (m ((c : Thread nD τ).loc main_arg7) : FVec Ideal S256x512 .f32) shapeCasts_S256x512_S256x8x64) transposes_S256x8x64_S8x64x256_1_2_0) bitsLt_bf16_f32 : FVec Ideal S8x64x256 .bf16) := by
    show StableHlo.after hostOps0 (fun b => m (c, b)) (Proc.devRef .tc main_v15) = _
    simp only [hostOps0]
    after_results_simp
    rfl
  rw [h]
  pointwise

/-- The offsets, as the host has transposed them. -/
theorem Vv24 (t : Fin 128) (a : Fin 4) : ((V m c main_v24 : FVec Ideal S128x4 .f32) (ix2 t a) : EReal) = (m ((c : Thread nD τ).loc main_arg13) : FVec Ideal S4x128 .f32) (ix2 a t) := by
  have h : (V m c main_v24 : FVec Ideal S128x4 .f32) = (transpose S128x4 [1, 0] (m ((c : Thread nD τ).loc main_arg13) : FVec Ideal S4x128 .f32) transposes_S4x128_S128x4_1_0 : FVec Ideal S128x4 .f32) := by
    show StableHlo.after hostOps0 (fun b => m (c, b)) (Proc.devRef .tc main_v24) = _
    simp only [hostOps0]
    after_results_simp
  rw [h]
  pointwise

/-- Window 0's block at a grid point, at an index. -/
theorem i0 (t : Fin cfg0.N) (r : Fin 512) (k : Fin 1024) :
    (iblk m c 0 t (ix3 0 r k) : EReal) = (m ((c : Thread nD τ).loc main_arg0) : FVec Ideal S8x8192x1024 .f32) (ix3 (pb t) (ps t r) k) := by
  blk_simp [iblk]
  refine (congrFun (V_main_arg0 m c) _).trans ?_
  refine congrArg (m ((c : Thread nD τ).loc main_arg0)) ?_
  blk_ext [e0] <;> rfl

/-- Window 1 holds a whole gain vector at every grid point. -/
theorem i1 (t : Fin cfg0.N) (k : Fin 1024) :
    (iblk m c 1 t (ix2 0 k) : EReal) = (m ((c : Thread nD τ).loc main_arg1) : FVec Ideal S1024 .f32) (ix1 k) := by
  refine Eq.trans ?_ (Vv16 m c k)
  blk_simp [iblk]
  refine congrArg (V m c main_v16) ?_
  blk_ext [e1]

/-- Window 4 holds a whole gain vector at every grid point. -/
theorem i4 (t : Fin cfg0.N) (k : Fin 256) :
    (iblk m c 4 t (ix2 0 k) : EReal) = (m ((c : Thread nD τ).loc main_arg3) : FVec Ideal S256 .f32) (ix1 k) := by
  refine Eq.trans ?_ (Vv17 m c k)
  blk_simp [iblk]
  refine congrArg (V m c main_v17) ?_
  blk_ext [e4]

/-- Window 5 holds a whole gain vector at every grid point. -/
theorem i5 (t : Fin cfg0.N) (k : Fin 128) :
    (iblk m c 5 t (ix2 0 k) : EReal) = (m ((c : Thread nD τ).loc main_arg4) : FVec Ideal S128 .f32) (ix1 k) := by
  refine Eq.trans ?_ (Vv18 m c k)
  blk_simp [iblk]
  refine congrArg (V m c main_v18) ?_
  blk_ext [e5]

/-- Window 9 holds a whole gain vector at every grid point. -/
theorem i9 (t : Fin cfg0.N) (k : Fin 64) :
    (iblk m c 9 t (ix2 0 k) : EReal) = (m ((c : Thread nD τ).loc main_arg8) : FVec Ideal S64 .f32) (ix1 k) := by
  refine Eq.trans ?_ (Vv20 m c k)
  blk_simp [iblk]
  refine congrArg (V m c main_v20) ?_
  blk_ext [e9]

/-- Window 10 holds a whole gain vector at every grid point. -/
theorem i10 (t : Fin cfg0.N) (k : Fin 64) :
    (iblk m c 10 t (ix2 0 k) : EReal) = (m ((c : Thread nD τ).loc main_arg9) : FVec Ideal S64 .f32) (ix1 k) := by
  refine Eq.trans ?_ (Vv21 m c k)
  blk_simp [iblk]
  refine congrArg (V m c main_v21) ?_
  blk_ext [e10]

/-- Window 11 holds a whole gain vector at every grid point. -/
theorem i11 (t : Fin cfg0.N) (k : Fin 512) :
    (iblk m c 11 t (ix2 0 k) : EReal) = (m ((c : Thread nD τ).loc main_arg10) : FVec Ideal S512 .f32) (ix1 k) := by
  refine Eq.trans ?_ (Vv22 m c k)
  blk_simp [iblk]
  refine congrArg (V m c main_v22) ?_
  blk_ext [e11]

/-- Window 12 holds a whole gain vector at every grid point. -/
theorem i12 (t : Fin cfg0.N) (k : Fin 512) :
    (iblk m c 12 t (ix2 0 k) : EReal) = (m ((c : Thread nD τ).loc main_arg11) : FVec Ideal S512 .f32) (ix1 k) := by
  refine Eq.trans ?_ (Vv23 m c k)
  blk_simp [iblk]
  refine congrArg (V m c main_v23) ?_
  blk_ext [e12]

/-- Window 6 holds a whole matrix at every grid point. -/
theorem i6 (t : Fin cfg0.N) (r : Fin 256) (k : Fin 512) :
    (iblk m c 6 t (ix2 r k) : EReal) = (m ((c : Thread nD τ).loc main_arg5) : FVec Ideal S256x512 .f32) (ix2 r k) := by
  blk_simp [iblk]
  refine (congrFun (Vv19 m c) _).trans ?_
  refine congrArg (m ((c : Thread nD τ).loc main_arg5)) ?_
  blk_ext [e6]

/-- The columns of the latent queries and keys in window 2. -/
theorem i2a (t : Fin cfg0.N) (k : Fin 1024) (n : Fin 384) :
    (iblk m c 2 t (ix2 k (⟨n.val, by omega⟩ : Fin 1536)) : EReal) = (m ((c : Thread nD τ).loc main_arg2) : FVec Ideal S1024x1480 .f32) (ix2 k (⟨n.val, by omega⟩ : Fin 1480)) := by
  refine Eq.trans ?_ (Vv5a m c k n)
  blk_simp [iblk]
  refine congrArg (V m c main_v5) ?_
  blk_ext [e2]

/-- The columns of the gate and of the gated values in window 2. -/
theorem i2b (t : Fin cfg0.N) (k : Fin 1024) (n : Fin 1024) :
    (iblk m c 2 t (ix2 k (⟨384 + n.val, by omega⟩ : Fin 1536)) : EReal) = (m ((c : Thread nD τ).loc main_arg2) : FVec Ideal S1024x1480 .f32) (ix2 k (⟨456 + n.val, by omega⟩ : Fin 1480)) := by
  refine Eq.trans ?_ (Vv5b m c k n)
  blk_simp [iblk]
  refine congrArg (V m c main_v5) ?_
  blk_ext [e2]

/-- The columns of the index keys in window 2. -/
theorem i2c (t : Fin cfg0.N) (k : Fin 1024) (n : Fin 64) :
    (iblk m c 2 t (ix2 k (⟨1408 + n.val, by omega⟩ : Fin 1536)) : EReal) = (m ((c : Thread nD τ).loc main_arg2) : FVec Ideal S1024x1480 .f32) (ix2 k (⟨384 + n.val, by omega⟩ : Fin 1480)) := by
  refine Eq.trans ?_ (Vv5c m c k n)
  blk_simp [iblk]
  refine congrArg (V m c main_v5) ?_
  blk_ext [e2]

/-- The index weights in window 3. -/
theorem i3 (t : Fin cfg0.N) (h : Fin 8) (k : Fin 1024) :
    (iblk m c 3 t (ix2 (⟨h.val, by omega⟩ : Fin 16) k) : EReal) = (m ((c : Thread nD τ).loc main_arg2) : FVec Ideal S1024x1480 .f32) (ix2 k (⟨448 + h.val, by omega⟩ : Fin 1480)) := by
  refine Eq.trans ?_ (Vv10 m c h k)
  blk_simp [iblk]
  refine congrArg (V m c main_v10) ?_
  blk_ext [e3]

/-- The key matrices in window 7. -/
theorem i7 (t : Fin cfg0.N) (h : Fin 8) (n : Fin 128) (d : Fin 64) :
    (iblk m c 7 t (ix3 h n d) : EReal) = (m ((c : Thread nD τ).loc main_arg6) : FVec Ideal S8x64x128 .f32) (ix3 h d n) := by
  refine Eq.trans ?_ (Vv12 m c h n d)
  blk_simp [iblk]
  refine congrArg (V m c main_v12) ?_
  blk_ext [e7]

/-- The index matrices in window 8. -/
theorem i8 (t : Fin cfg0.N) (h : Fin 8) (d : Fin 64) (k : Fin 256) :
    (iblk m c 8 t (ix3 h d k) : EReal) = (m ((c : Thread nD τ).loc main_arg7) : FVec Ideal S256x512 .f32) (ix2 k (hcol h d)) := by
  refine Eq.trans ?_ (Vv15 m c h d k)
  blk_simp [iblk]
  refine congrArg (V m c main_v15) ?_
  blk_ext [e8]

/-- The offsets in window 14. -/
theorem i14 (t : Fin cfg0.N) (r : Fin 128) (a : Fin 4) :
    (iblk m c 14 t (ix2 r a) : EReal) = (m ((c : Thread nD τ).loc main_arg13) : FVec Ideal S4x128 .f32) (ix2 a r) := by
  refine Eq.trans ?_ (Vv24 m c r a)
  blk_simp [iblk]
  refine congrArg (V m c main_v24) ?_
  blk_ext [e14]

/-- The mixing weights in window 13. -/
theorem i13 (t : Fin cfg0.N) (a : Fin 4) (r k : Fin 128) :
    (iblk m c 13 t (ix3 a r k) : EReal) = (m ((c : Thread nD τ).loc main_arg12) : FVec Ideal S4x128x128 .f32) (ix3 a r k) := by
  blk_simp [iblk]
  refine (congrFun (V_main_arg12 m c) _).trans ?_
  refine congrArg (m ((c : Thread nD τ).loc main_arg12)) ?_
  blk_ext [e13]

/-- One entry of the input projection, of a batch row, a token and a column. -/
def P (b : Fin 8) (s : Fin 8192) : Fin 1480 → EReal :=
  lin (rms (fun n => ((m ((c : Thread nD τ).loc main_arg0) : FVec Ideal S8x8192x1024 .f32) (ix3 b s n) : EReal)) (fun n => ((m ((c : Thread nD τ).loc main_arg1) : FVec Ideal S1024 .f32) (ix1 n) : EReal))) (fun k n => ((m ((c : Thread nD τ).loc main_arg2) : FVec Ideal S1024x1480 .f32) (ix2 k n) : EReal))

/-- A token's normalised latent query. -/
def Q (b : Fin 8) (s : Fin 8192) : Fin 256 → EReal :=
  nrm 0x43800000#32 (fun n => P m c b s ⟨n.val, by omega⟩) (fun n => ((m ((c : Thread nD τ).loc main_arg3) : FVec Ideal S256 .f32) (ix1 n) : EReal))

/-- A token's normalised latent key. -/
def K (b : Fin 8) (s : Fin 8192) : Fin 128 → EReal :=
  nrm 0x43000000#32 (fun n => P m c b s ⟨256 + n.val, by omega⟩) (fun n => ((m ((c : Thread nD τ).loc main_arg4) : FVec Ideal S128 .f32) (ix1 n) : EReal))

/-- A token's gated values after gelu and layer norm. -/
def N (b : Fin 8) (s : Fin 8192) : Fin 512 → EReal :=
  lnm 0x44000000#32 (fun j => gel (P m c b s ⟨968 + j.val, by omega⟩)) (fun n => ((m ((c : Thread nD τ).loc main_arg10) : FVec Ideal S512 .f32) (ix1 n) : EReal)) (fun n => ((m ((c : Thread nD τ).loc main_arg11) : FVec Ideal S512 .f32) (ix1 n) : EReal))

/-- A mixed and gated value: chunk `k`, column group `a`. -/
def M (b : Fin 8) (k : Fin 64) (a : Fin 4) (t n : Fin 128) : EReal :=
  gel (P m c b ⟨k.val * 128 + t.val, by omega⟩ ⟨456 + (a.val * 128 + n.val), by omega⟩)
    * mixc (fun s => ((m ((c : Thread nD τ).loc main_arg12) : FVec Ideal S4x128x128 .f32) (ix3 a t s) : EReal)) (fun s => N m c b ⟨k.val * 128 + s.val, by omega⟩ ⟨a.val * 128 + n.val, by omega⟩)
      ((m ((c : Thread nD τ).loc main_arg13) : FVec Ideal S4x128 .f32) (ix2 a t)) t

/-- A token's latent query for a head. -/
def LQ (b : Fin 8) (s : Fin 8192) (h : Fin 8) (n : Fin 128) : EReal :=
  lat (Q m c b s) (fun k n => ((m ((c : Thread nD τ).loc main_arg5) : FVec Ideal S256x512 .f32) (ix2 k n) : EReal)) (fun d n => ((m ((c : Thread nD τ).loc main_arg6) : FVec Ideal S8x64x128 .f32) (ix3 h d n) : EReal)) h n

/-- A token's index query for a head. -/
def IQ (b : Fin 8) (s : Fin 8192) (h : Fin 8) (d : Fin 64) : EReal :=
  idx (Q m c b s) (fun k n => ((m ((c : Thread nD τ).loc main_arg7) : FVec Ideal S256x512 .f32) (ix2 k n) : EReal)) h d

/-- The latent queries' array. -/
def G15 : FVec Ideal S8x32x8x128x256 .bf16 := fun y =>
  LQ m c (y 0) ⟨(y 1).val * 256 + (y 4).val, by
    have h1 : (y 1).val < 32 := (y 1).isLt
    have h4 : (y 4).val < 256 := (y 4).isLt
    omega⟩ (y 2) (y 3)

/-- The index queries' array. -/
def G16 : FVec Ideal S8x32x64x2048 .bf16 := fun y =>
  IQ m c (y 0) ⟨(y 1).val * 256 + (y 3).val % 256, by
    have h1 : (y 1).val < 32 := (y 1).isLt
    omega⟩ ⟨(y 3).val / 256, by
    have h3 : (y 3).val < 2048 := (y 3).isLt
    omega⟩ (y 2)

/-- The index weights' array. -/
def G17 : FVec Ideal S8x8x8192 .f32 := fun y =>
  P m c (y 0) (y 2) ⟨448 + (y 1).val, by have h : (y 1).val < 8 := (y 1).isLt; omega⟩ * Ideal.ofBits .f32 0x3EB504F3#32

/-- The latent keys' array. -/
def G18 : FVec Ideal S8x8192x128 .bf16 := fun y => K m c (y 0) (y 1) (y 2)

/-- The transposed latent keys' array. -/
def G19 : FVec Ideal S8x16x144x512 .bf16 := fun y =>
  if h : (y 2).val < 128 then K m c (y 0) ⟨(y 1).val * 512 + (y 3).val, by
    have h1 : (y 1).val < 16 := (y 1).isLt
    have h3 : (y 3).val < 512 := (y 3).isLt
    omega⟩ ⟨(y 2).val, h⟩ else Ideal.ofBits .f32 0x3F800000#32

/-- The index keys' array. -/
def G20 : FVec Ideal S8x8192x64 .bf16 := fun y =>
  lnm 0x42800000#32 (fun j => P m c (y 0) (y 1) ⟨384 + j.val, by omega⟩) (fun n => ((m ((c : Thread nD τ).loc main_arg8) : FVec Ideal S64 .f32) (ix1 n) : EReal)) (fun n => ((m ((c : Thread nD τ).loc main_arg9) : FVec Ideal S64 .f32) (ix1 n) : EReal)) (y 2)

/-- The mixed and gated values' array. -/
def G21 : FVec Ideal S8x8192x512 .bf16 := fun y =>
  M m c (y 0) ⟨(y 1).val / 128, by have h : (y 1).val < 8192 := (y 1).isLt; omega⟩
    ⟨(y 2).val / 128, by have h : (y 2).val < 512 := (y 2).isLt; omega⟩ ⟨(y 1).val % 128, by omega⟩ ⟨(y 2).val % 128, by omega⟩

/-- The projected columns of a block are those of the array. -/
theorem pja (t : Fin cfg0.N) (r : Fin 512) (n : Fin 384) :
    OOut.pj (iblk m c 0 t) (iblk m c 1 t) (iblk m c 2 t) r (⟨n.val, by omega⟩ : Fin 1536) = P m c (pb t) (ps t r) ⟨n.val, by omega⟩ := by
  unfold OOut.pj OOut.hr P lin
  simp only [i0, i1, i2a]

/-- The projected columns of a block are those of the array. -/
theorem pjb (t : Fin cfg0.N) (r : Fin 512) (n : Fin 1024) :
    OOut.pj (iblk m c 0 t) (iblk m c 1 t) (iblk m c 2 t) r (⟨384 + n.val, by omega⟩ : Fin 1536) = P m c (pb t) (ps t r) ⟨456 + n.val, by omega⟩ := by
  unfold OOut.pj OOut.hr P lin
  simp only [i0, i1, i2b]

/-- The projected columns of a block are those of the array. -/
theorem pjc (t : Fin cfg0.N) (r : Fin 512) (n : Fin 64) :
    OOut.pj (iblk m c 0 t) (iblk m c 1 t) (iblk m c 2 t) r (⟨1408 + n.val, by omega⟩ : Fin 1536) = P m c (pb t) (ps t r) ⟨384 + n.val, by omega⟩ := by
  unfold OOut.pj OOut.hr P lin
  simp only [i0, i1, i2c]

/-- The latent queries of a block are those of the array. -/
theorem cqE (t : Fin cfg0.N) (r : Fin 512) (n : Fin 256) : OOut.cq (iblk m c 0 t) (iblk m c 1 t) (iblk m c 2 t) (iblk m c 4 t) r n = Q m c (pb t) (ps t r) n := by
  unfold OOut.cq Q
  refine congrFun (congr (congrArg _ (funext fun n => ?_)) (funext fun k => i4 m c t k)) n
  exact pja m c t r ⟨n.val, by omega⟩

/-- The latent keys of a block are those of the array. -/
theorem ckE (t : Fin cfg0.N) (r : Fin 512) (n : Fin 128) : OOut.ck (iblk m c 0 t) (iblk m c 1 t) (iblk m c 2 t) (iblk m c 5 t) r n = K m c (pb t) (ps t r) n := by
  unfold OOut.ck K
  refine congrFun (congr (congrArg _ (funext fun n => ?_)) (funext fun k => i5 m c t k)) n
  exact pja m c t r ⟨256 + n.val, by omega⟩

/-- The gate's columns of a block are those of the array. -/
theorem pjg (t : Fin cfg0.N) (r : Fin 512) (n : Fin 512) :
    OOut.pj (iblk m c 0 t) (iblk m c 1 t) (iblk m c 2 t) r (⟨384 + n.val, by omega⟩ : Fin 1536) = P m c (pb t) (ps t r) ⟨456 + n.val, by omega⟩ :=
  pjb m c t r ⟨n.val, by omega⟩

/-- The gated values' columns of a block are those of the array. -/
theorem pjv (t : Fin cfg0.N) (r : Fin 512) (n : Fin 512) :
    OOut.pj (iblk m c 0 t) (iblk m c 1 t) (iblk m c 2 t) r (⟨896 + n.val, by omega⟩ : Fin 1536) = P m c (pb t) (ps t r) ⟨968 + n.val, by omega⟩ := by
  refine Eq.trans ?_ ((pjb m c t r ⟨512 + n.val, by omega⟩).trans ?_)
  · exact congrArg _ (Fin.ext (show 896 + n.val = 384 + (512 + n.val) by omega))
  · exact congrArg _ (Fin.ext (show 456 + (512 + n.val) = 968 + n.val by omega))

/-- The gated values of a block are those of the array. -/
theorem nvE (t : Fin cfg0.N) (r : Fin 512) (n : Fin 512) : OOut.nv (iblk m c 0 t) (iblk m c 1 t) (iblk m c 2 t) (iblk m c 11 t) (iblk m c 12 t) r n = N m c (pb t) (ps t r) n := by
  unfold OOut.nv N
  refine congrFun (congr (congr (congrArg _ (funext fun n => ?_)) (funext fun k => i11 m c t k)) (funext fun k => i12 m c t k)) n
  exact congrArg gel (pjv m c t r n)

/-- What a grid point leaves in the latent queries' block, at an index. -/
theorem blk15 (t : Fin cfg0.N) (p : Fin 2) (h : Fin 8) (n : Fin 128) (l : Fin 256) :
    (OOut.G15 (iblk m c 0 t) (iblk m c 1 t) (iblk m c 2 t) (iblk m c 4 t) (iblk m c 6 t) (iblk m c 7 t) (ix5 0 p h n l) : EReal) = G15 m c (ix5 (pb t) (⟨(grid0.coords t 1).val * 2 + p.val, by have h : (grid0.coords t 1).val < 16 := (grid0.coords t 1).isLt; omega⟩ : Fin 32) h n l) := by
  refine (OOut.lat_congr h n (cqE m c t ⟨p.val * 256 + l.val, by omega⟩) (fun k n => i6 m c t k n) (fun d n => i7 m c t h n d)).trans ?_
  show LQ m c (pb t) (ps t ⟨p.val * 256 + l.val, by omega⟩) h n = LQ m c (pb t) ⟨((grid0.coords t 1).val * 2 + p.val) * 256 + l.val, _⟩ h n
  refine congrArg (fun s => LQ m c (pb t) s h n) (Fin.ext ?_)
  show (grid0.coords t 1).val * 512 + (p.val * 256 + l.val) = ((grid0.coords t 1).val * 2 + p.val) * 256 + l.val
  omega

/-- The blocks the grid writes cover the latent queries' array. -/
theorem cov15 : (cfg0.win 15).Covers := by decide +kernel

/-- The latent queries' array after the grid has run. -/
theorem final15 : (dats m 0 c).arrAt 15 cfg0.N = G15 m c := by
  refine (dats m 0 c).arrAt_eq_of_covers 15 _ cov15 fun t hf y => ?_
  blk_simp
  rw [after0_15]
  unfold outsAt0
  dsimp only
  have hy : y = ix5 0 (y 1) (y 2) (y 3) (y 4) := by
    funext a
    match a with
    | ⟨0, _⟩ => exact Subsingleton.elim (α := Fin 1) _ _
    | ⟨1, _⟩ => rfl
    | ⟨2, _⟩ => rfl
    | ⟨3, _⟩ => rfl
    | ⟨4, _⟩ => rfl
  refine (congrArg _ hy).trans ((congrFun (OOut.out15 _ _ _ _ _ _ _ _ _ _ _ _ _ _ _ _ _ _ _ _ _ _ _ _ _ _ _ _ _ _ _ _ _ _ _ _ _ _ _ _ _ _ _ _ _ _ _ _ _ _ _ _ _ _ _ _ _ _ _ _ _) _).trans ((blk15 m c t (y 1) (y 2) (y 3) (y 4)).trans (congrArg (G15 m c) ?_)))
  blk_ext [e15] <;> rfl

/-- What a grid point leaves in the index queries' block, at an index. -/
theorem blk16 (t : Fin cfg0.N) (p : Fin 2) (d : Fin 64) (l : Fin 2048) :
    (OOut.G16 (iblk m c 0 t) (iblk m c 1 t) (iblk m c 2 t) (iblk m c 4 t) (iblk m c 8 t) (ix4 0 p d l) : EReal) = G16 m c (ix4 (pb t) (⟨(grid0.coords t 1).val * 2 + p.val, by have h : (grid0.coords t 1).val < 16 := (grid0.coords t 1).isLt; omega⟩ : Fin 32) d l) := by
  refine (OOut.lin_congr d _ (cqE m c t ⟨p.val * 256 + l.val % 256, by omega⟩) (fun k n => i8 m c t ⟨l.val / 256, by omega⟩ n k)).trans ?_
  show IQ m c (pb t) (ps t ⟨p.val * 256 + l.val % 256, by omega⟩) ⟨l.val / 256, _⟩ d = IQ m c (pb t) ⟨((grid0.coords t 1).val * 2 + p.val) * 256 + l.val % 256, _⟩ ⟨l.val / 256, _⟩ d
  refine congrArg (fun s => IQ m c (pb t) s ⟨l.val / 256, by omega⟩ d) (Fin.ext ?_)
  show (grid0.coords t 1).val * 512 + (p.val * 256 + l.val % 256) = ((grid0.coords t 1).val * 2 + p.val) * 256 + l.val % 256
  omega

/-- The blocks the grid writes cover the index queries' array. -/
theorem cov16 : (cfg0.win 16).Covers := by decide +kernel

/-- The index queries' array after the grid has run. -/
theorem final16 : (dats m 0 c).arrAt 16 cfg0.N = G16 m c := by
  refine (dats m 0 c).arrAt_eq_of_covers 16 _ cov16 fun t hf y => ?_
  blk_simp
  rw [after0_16]
  unfold outsAt0
  dsimp only
  have hy : y = ix4 0 (y 1) (y 2) (y 3) := by
    funext a
    match a with
    | ⟨0, _⟩ => exact Subsingleton.elim (α := Fin 1) _ _
    | ⟨1, _⟩ => rfl
    | ⟨2, _⟩ => rfl
    | ⟨3, _⟩ => rfl
  refine (congrArg _ hy).trans ((congrFun (OOut.out16 _ _ _ _ _ _ _ _ _ _ _ _ _ _ _ _ _ _ _ _ _ _ _ _ _ _ _ _ _ _ _ _ _ _ _ _ _ _ _ _ _ _ _ _ _ _ _ _ _ _ _ _ _ _ _ _ _ _ _ _ _) _).trans ((blk16 m c t (y 1) (y 2) (y 3)).trans (congrArg (G16 m c) ?_)))
  blk_ext [e16] <;> rfl

/-- What a grid point leaves in the index weights' block, at an index. -/
theorem blk17 (t : Fin cfg0.N) (h : Fin 8) (r : Fin 512) :
    (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 h r) : EReal) = G17 m c (ix3 (pb t) h (ps t r)) := by
  refine (OOut.out17 _ _ _ _ _ _ _ _ _ _ _ _ _ _ _ _ _ _ _ _ _ _ _ _ _ _ _ _ _ _ _ _ _ _ _ _ _ _ _ _ _ _ _ _ _ _ _ _ _ _ _ _ _ _ _ _ _ _ _ _ _ h r).trans ?_
  unfold OOut.hr lin
  simp only [i0, i1, i3]
  rfl

/-- The blocks the grid writes cover the index weights' array. -/
theorem cov17 : (cfg0.win 17).Covers := by decide +kernel

/-- The index weights' array after the grid has run. -/
theorem final17 : (dats m 0 c).arrAt 17 cfg0.N = G17 m c := by
  refine (dats m 0 c).arrAt_eq_of_covers 17 _ cov17 fun t hf y => ?_
  blk_simp
  rw [after0_17]
  unfold outsAt0
  dsimp only
  have hy : y = ix3 0 (y 1) (y 2) := by
    funext a
    match a with
    | ⟨0, _⟩ => exact Subsingleton.elim (α := Fin 1) _ _
    | ⟨1, _⟩ => rfl
    | ⟨2, _⟩ => rfl
  refine (congrArg _ hy).trans (((blk17 m c t (y 1) (y 2)).trans (congrArg (G17 m c) ?_)))
  blk_ext [e17] <;> rfl

/-- What a grid point leaves in the latent keys' block, at an index. -/
theorem blk18 (t : Fin cfg0.N) (r : Fin 512) (n : Fin 128) :
    (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 r n) : EReal) = G18 m c (ix3 (pb t) (ps t r) n) := by
  refine (OOut.out18 _ _ _ _ _ _ _ _ _ _ _ _ _ _ _ _ _ _ _ _ _ _ _ _ _ _ _ _ _ _ _ _ _ _ _ _ _ _ _ _ _ _ _ _ _ _ _ _ _ _ _ _ _ _ _ _ _ _ _ _ _ r n).trans ?_
  exact ckE m c t r n

/-- The blocks the grid writes cover the latent keys' array. -/
theorem cov18 : (cfg0.win 18).Covers := by decide +kernel

/-- The latent keys' array after the grid has run. -/
theorem final18 : (dats m 0 c).arrAt 18 cfg0.N = G18 m c := by
  refine (dats m 0 c).arrAt_eq_of_covers 18 _ cov18 fun t hf y => ?_
  blk_simp
  rw [after0_18]
  unfold outsAt0
  dsimp only
  have hy : y = ix3 0 (y 1) (y 2) := by
    funext a
    match a with
    | ⟨0, _⟩ => exact Subsingleton.elim (α := Fin 1) _ _
    | ⟨1, _⟩ => rfl
    | ⟨2, _⟩ => rfl
  refine (congrArg _ hy).trans (((blk18 m c t (y 1) (y 2)).trans (congrArg (G18 m c) ?_)))
  blk_ext [e18] <;> rfl

/-- What a grid point leaves in the transposed latent keys' block, at an index. -/
theorem blk19 (t : Fin cfg0.N) (n : Fin 144) (r : Fin 512) :
    (OOut.G19 (iblk m c 0 t) (iblk m c 1 t) (iblk m c 2 t) (iblk m c 5 t) (ix4 0 0 n r) : EReal) = G19 m c (ix4 (pb t) (⟨(grid0.coords t 1).val, (grid0.coords t 1).isLt⟩ : Fin 16) n r) := by
  by_cases h : n.val < 128
  · refine (dif_pos h).trans (Eq.trans ?_ (dif_pos h).symm)
    exact ckE m c t r ⟨n.val, h⟩
  · refine (dif_neg h).trans (Eq.trans ?_ (dif_neg h).symm)
    rfl

/-- The blocks the grid writes cover the transposed latent keys' array. -/
theorem cov19 : (cfg0.win 19).Covers := by decide +kernel

/-- The transposed latent keys' array after the grid has run. -/
theorem final19 : (dats m 0 c).arrAt 19 cfg0.N = G19 m c := by
  refine (dats m 0 c).arrAt_eq_of_covers 19 _ cov19 fun t hf y => ?_
  blk_simp
  rw [after0_19]
  unfold outsAt0
  dsimp only
  have hy : y = ix4 0 0 (y 2) (y 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  refine (congrArg _ hy).trans ((congrFun (OOut.out19 _ _ _ _ _ _ _ _ _ _ _ _ _ _ _ _ _ _ _ _ _ _ _ _ _ _ _ _ _ _ _ _ _ _ _ _ _ _ _ _ _ _ _ _ _ _ _ _ _ _ _ _ _ _ _ _ _ _ _ _ _) _).trans ((blk19 m c t (y 2) (y 3)).trans (congrArg (G19 m c) ?_)))
  blk_ext [e19] <;> rfl

/-- What a grid point leaves in the index keys' block, at an index. -/
theorem blk20 (t : Fin cfg0.N) (r : Fin 512) (n : Fin 64) :
    (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 r n) : EReal) = G20 m c (ix3 (pb t) (ps t r) n) := by
  refine (OOut.out20 _ _ _ _ _ _ _ _ _ _ _ _ _ _ _ _ _ _ _ _ _ _ _ _ _ _ _ _ _ _ _ _ _ _ _ _ _ _ _ _ _ _ _ _ _ _ _ _ _ _ _ _ _ _ _ _ _ _ _ _ _ r n).trans ?_
  refine congrFun (congr (congr (congrArg _ (funext fun n => ?_)) (funext fun k => i9 m c t k)) (funext fun k => i10 m c t k)) n
  exact pjc m c t r n

/-- The blocks the grid writes cover the index keys' array. -/
theorem cov20 : (cfg0.win 20).Covers := by decide +kernel

/-- The index keys' array after the grid has run. -/
theorem final20 : (dats m 0 c).arrAt 20 cfg0.N = G20 m c := by
  refine (dats m 0 c).arrAt_eq_of_covers 20 _ cov20 fun t hf y => ?_
  blk_simp
  rw [after0_20]
  unfold outsAt0
  dsimp only
  have hy : y = ix3 0 (y 1) (y 2) := by
    funext a
    match a with
    | ⟨0, _⟩ => exact Subsingleton.elim (α := Fin 1) _ _
    | ⟨1, _⟩ => rfl
    | ⟨2, _⟩ => rfl
  refine (congrArg _ hy).trans (((blk20 m c t (y 1) (y 2)).trans (congrArg (G20 m c) ?_)))
  blk_ext [e20] <;> rfl

/-- What a grid point leaves in the mixed and gated values' block, at an index. -/
theorem blk21 (t : Fin cfg0.N) (r n : Fin 512) :
    (OOut.G21 (iblk m c 0 t) (iblk m c 1 t) (iblk m c 2 t) (iblk m c 11 t) (iblk m c 12 t) (iblk m c 13 t) (iblk m c 14 t) (ix3 0 r n) : EReal) = G21 m c (ix3 (pb t) (ps t r) n) := by
  have hb : (grid0.coords t 1).val < 16 := (grid0.coords t 1).isLt
  have hs : ∀ u : Fin 128, ps t ⟨(⟨r.val / 128, by omega⟩ : Fin 4).val * 128 + u.val, by have := r.isLt; dsimp only; omega⟩
      = ⟨((grid0.coords t 1).val * 4 + r.val / 128) * 128 + u.val, by omega⟩ := fun u => Fin.ext (by
    show (grid0.coords t 1).val * 512 + (r.val / 128 * 128 + u.val) = ((grid0.coords t 1).val * 4 + r.val / 128) * 128 + u.val
    omega)
  have h1 : OOut.B21 (iblk m c 0 t) (iblk m c 1 t) (iblk m c 2 t) (iblk m c 11 t) (iblk m c 12 t) (iblk m c 13 t) (iblk m c 14 t) ⟨r.val / 128, by omega⟩ ⟨n.val / 128, by omega⟩ ⟨r.val % 128, by omega⟩ ⟨n.val % 128, by omega⟩
      = M m c (pb t) ⟨(grid0.coords t 1).val * 4 + r.val / 128, by omega⟩ ⟨n.val / 128, by omega⟩ ⟨r.val % 128, by omega⟩ ⟨n.val % 128, by omega⟩ := by
    unfold OOut.B21 M
    refine congr (congrArg _ (congrArg gel ?_)) ?_
    · refine (pjg m c t _ ⟨n.val / 128 * 128 + n.val % 128, by omega⟩).trans ?_
      exact congrArg (fun s => P m c (pb t) s _) (hs _)
    · refine congrFun (congr (congr (congrArg _ (funext fun s => i13 m c t _ _ s)) (funext fun s => ?_)) (i14 m c t _ _)) _
      refine (nvE m c t _ _).trans ?_
      exact congrArg (fun s => N m c (pb t) s _) (hs s)
  refine h1.trans ?_
  refine congrFun (congrArg₂ (fun k u => M m c (pb t) k ⟨n.val / 128, by omega⟩ u) (Fin.ext ?_) (Fin.ext ?_)) _
  · show (grid0.coords t 1).val * 4 + r.val / 128 = ((grid0.coords t 1).val * 512 + r.val) / 128
    omega
  · show r.val % 128 = ((grid0.coords t 1).val * 512 + r.val) % 128
    omega

/-- The blocks the grid writes cover the mixed and gated values' array. -/
theorem cov21 : (cfg0.win 21).Covers := by decide +kernel

/-- The mixed and gated values' array after the grid has run. -/
theorem final21 : (dats m 0 c).arrAt 21 cfg0.N = G21 m c := by
  refine (dats m 0 c).arrAt_eq_of_covers 21 _ cov21 fun t hf y => ?_
  blk_simp
  rw [after0_21]
  unfold outsAt0
  dsimp only
  have hy : y = ix3 0 (y 1) (y 2) := by
    funext a
    match a with
    | ⟨0, _⟩ => exact Subsingleton.elim (α := Fin 1) _ _
    | ⟨1, _⟩ => rfl
    | ⟨2, _⟩ => rfl
  refine (congrArg _ hy).trans ((congrFun (OOut.out21 _ _ _ _ _ _ _ _ _ _ _ _ _ _ _ _ _ _ _ _ _ _ _ _ _ _ _ _ _ _ _ _ _ _ _ _ _ _ _ _ _ _ _ _ _ _ _ _ _ _ _ _ _ _ _ _ _ _ _ _ _) _).trans ((blk21 m c t (y 1) (y 2)).trans (congrArg (G21 m c) ?_)))
  blk_ext [e21] <;> rfl

end Cert.OBlk

end
-- ==== Proof.OJoin.lean ====
/-
  The second layer's input projection: on equal arguments the kernel and the reference leave the same results.
-/
module

public import proofs.«01_k».proof.Proof.ORef
public import proofs.«01_k».proof.Proof.OBlk
public import proofs.«01_k».proof.Proof.Gen.KernelOIdeal.Value
public import proofs.«01_k».proof.Defs
public import Idealize.ShloMosaic.Adequacy

@[expose] public section

set_option maxRecDepth 16384
set_option maxHeartbeats 1000000

noncomputable section

namespace Cert.OJoin

open Cert.ReferenceOIdeal Cert.ReferenceOIdeal.Gen Cert.ReferenceOIdeal.Value Idealize.ShloMosaic
  Idealize.ShloMosaic.TcCoe Idealize.SL.Sem Idealize.ShloMosaic.StableHlo Cert.Row Cert.ORow Cert.ORef

variable (m : (ℓ : Loc Cert.KernelOIdeal.nD Cert.KernelOIdeal.τ Cert.KernelOIdeal.sig) → Buf (Elt Ideal) ℓ)
  (d : Dev Cert.KernelOIdeal.nD)

/-- The kernel's argument 0. -/
abbrev A0 : FVec Ideal S8x8192x1024 .f32 :=
  m ((d.tc : Thread Cert.KernelOIdeal.nD Cert.KernelOIdeal.τ).loc Cert.KernelOIdeal.main_arg0)

/-- The kernel's argument 1. -/
abbrev A1 : FVec Ideal S1024 .f32 :=
  m ((d.tc : Thread Cert.KernelOIdeal.nD Cert.KernelOIdeal.τ).loc Cert.KernelOIdeal.main_arg1)

/-- The kernel's argument 2. -/
abbrev A2 : FVec Ideal S1024x1480 .f32 :=
  m ((d.tc : Thread Cert.KernelOIdeal.nD Cert.KernelOIdeal.τ).loc Cert.KernelOIdeal.main_arg2)

/-- The kernel's argument 3. -/
abbrev A3 : FVec Ideal S256 .f32 :=
  m ((d.tc : Thread Cert.KernelOIdeal.nD Cert.KernelOIdeal.τ).loc Cert.KernelOIdeal.main_arg3)

/-- The kernel's argument 4. -/
abbrev A4 : FVec Ideal S128 .f32 :=
  m ((d.tc : Thread Cert.KernelOIdeal.nD Cert.KernelOIdeal.τ).loc Cert.KernelOIdeal.main_arg4)

/-- The kernel's argument 5. -/
abbrev A5 : FVec Ideal S256x512 .f32 :=
  m ((d.tc : Thread Cert.KernelOIdeal.nD Cert.KernelOIdeal.τ).loc Cert.KernelOIdeal.main_arg5)

/-- The kernel's argument 6. -/
abbrev A6 : FVec Ideal S8x64x128 .f32 :=
  m ((d.tc : Thread Cert.KernelOIdeal.nD Cert.KernelOIdeal.τ).loc Cert.KernelOIdeal.main_arg6)

/-- The kernel's argument 7. -/
abbrev A7 : FVec Ideal S256x512 .f32 :=
  m ((d.tc : Thread Cert.KernelOIdeal.nD Cert.KernelOIdeal.τ).loc Cert.KernelOIdeal.main_arg7)

/-- The kernel's argument 8. -/
abbrev A8 : FVec Ideal S64 .f32 :=
  m ((d.tc : Thread Cert.KernelOIdeal.nD Cert.KernelOIdeal.τ).loc Cert.KernelOIdeal.main_arg8)

/-- The kernel's argument 9. -/
abbrev A9 : FVec Ideal S64 .f32 :=
  m ((d.tc : Thread Cert.KernelOIdeal.nD Cert.KernelOIdeal.τ).loc Cert.KernelOIdeal.main_arg9)

/-- The kernel's argument 10. -/
abbrev A10 : FVec Ideal S512 .f32 :=
  m ((d.tc : Thread Cert.KernelOIdeal.nD Cert.KernelOIdeal.τ).loc Cert.KernelOIdeal.main_arg10)

/-- The kernel's argument 11. -/
abbrev A11 : FVec Ideal S512 .f32 :=
  m ((d.tc : Thread Cert.KernelOIdeal.nD Cert.KernelOIdeal.τ).loc Cert.KernelOIdeal.main_arg11)

/-- The kernel's argument 12. -/
abbrev A12 : FVec Ideal S4x128x128 .f32 :=
  m ((d.tc : Thread Cert.KernelOIdeal.nD Cert.KernelOIdeal.τ).loc Cert.KernelOIdeal.main_arg12)

/-- The kernel's argument 13. -/
abbrev A13 : FVec Ideal S4x128 .f32 :=
  m ((d.tc : Thread Cert.KernelOIdeal.nD Cert.KernelOIdeal.τ).loc Cert.KernelOIdeal.main_arg13)

/-- The reference's projected columns are the kernel's. -/
theorem pE (b : Fin 8) (s : Fin 8192) (n : Fin 1480) : ((s13 (A0 m d) (A1 m d) (A2 m d)) (ix3 b s n) : EReal) = Cert.OBlk.P m d b s n :=
  (s13_at _ _ _ b s n).trans rfl

/-- The reference's latent queries are the kernel's. -/
theorem qE (b : Fin 8) (s : Fin 8192) (n : Fin 256) : ((s27 (s14 (s13 (A0 m d) (A1 m d) (A2 m d))) (A3 m d)) (ix3 b s n) : EReal) = Cert.OBlk.Q m d b s n := by
  refine (s27_at _ _ b s n).trans ?_
  simp only [s14_at, pE]
  rfl

/-- The reference's latent keys are the kernel's. -/
theorem kE (b : Fin 8) (s : Fin 8192) (n : Fin 128) : ((s41 (s28 (s13 (A0 m d) (A1 m d) (A2 m d))) (A4 m d)) (ix3 b s n) : EReal) = Cert.OBlk.K m d b s n := by
  refine (s41_at _ _ b s n).trans ?_
  simp only [s28_at, pE]
  rfl

/-- The reference's gated values are the kernel's. -/
theorem nE (b : Fin 8) (s : Fin 8192) (n : Fin 512) : ((lnv (s95 (s88 (s13 (A0 m d) (A1 m d) (A2 m d)))) (s99 (s95 (s88 (s13 (A0 m d) (A1 m d) (A2 m d))))) (s101 (s95 (s88 (s13 (A0 m d) (A1 m d) (A2 m d)))) (s99 (s95 (s88 (s13 (A0 m d) (A1 m d) (A2 m d)))))) (A10 m d) (A11 m d)) (ix3 b s n) : EReal) = Cert.OBlk.N m d b s n := by
  refine (lnv_at _ _ _ b s n).trans ?_
  simp only [s95_at, s88_at, pE]
  rfl

/-- The reference's latent queries at an index. -/
theorem t15 (b : Fin 8) (j : Fin 32) (h : Fin 8) (l : Fin 128) (q : Fin 256) :
    (s146 (s27 (s14 (s13 (A0 m d) (A1 m d) (A2 m d))) (A3 m d)) (A5 m d) (A6 m d) (ix5 b j h l q) : EReal) = Cert.OBlk.LQ m d b (⟨j.val * 256 + q.val, by omega⟩ : Fin 8192) h l := by
  refine (s146_at _ _ _ b j h l q).trans ?_
  simp only [qE]
  rfl

/-- The reference's index queries at an index. -/
theorem t16 (b : Fin 8) (j : Fin 32) (e : Fin 64) (h : Fin 8) (q : Fin 256) :
    (s147 (s27 (s14 (s13 (A0 m d) (A1 m d) (A2 m d))) (A3 m d)) (A7 m d) (ix4 b j e (⟨h.val * 256 + q.val, by omega⟩ : Fin 2048)) : EReal)
      = Cert.OBlk.IQ m d b (⟨j.val * 256 + q.val, by omega⟩ : Fin 8192) h e := by
  refine (s147_at _ _ b j e h q).trans ?_
  simp only [qE]
  rfl

/-- The reference's index weights at an index. -/
theorem t17 (b : Fin 8) (h : Fin 8) (s : Fin 8192) :
    (s148 (s13 (A0 m d) (A1 m d) (A2 m d)) (ix3 b h s) : EReal) = Cert.OBlk.P m d b s (⟨448 + h.val, by omega⟩ : Fin 1480) * Ideal.ofBits .f32 0x3EB504F3#32 := by
  refine (s148_at _ b h s).trans ?_
  rw [pE]

/-- The reference's index keys at an index. -/
theorem t20 (b : Fin 8) (s : Fin 8192) (n : Fin 64) :
    (s151 (s42 (s13 (A0 m d) (A1 m d) (A2 m d))) (s46 (s42 (s13 (A0 m d) (A1 m d) (A2 m d)))) (s48 (s42 (s13 (A0 m d) (A1 m d) (A2 m d))) (s46 (s42 (s13 (A0 m d) (A1 m d) (A2 m d))))) (A8 m d) (A9 m d) (ix3 b s n) : EReal) = lnm 0x42800000#32 (fun j => Cert.OBlk.P m d b s (⟨384 + j.val, by omega⟩ : Fin 1480))
      (fun n => (A8 m d (ix1 n) : EReal)) (fun n => (A9 m d (ix1 n) : EReal)) n := by
  refine (s151_at _ _ _ b s n).trans ?_
  simp only [s42_at, pE]

/-- The reference's mixed and gated values at an index. -/
theorem t21 (b : Fin 8) (k : Fin 64) (t : Fin 128) (a : Fin 4) (n : Fin 128) :
    (s152 (gate (s80 (s13 (A0 m d) (A1 m d) (A2 m d)))) (lnv (s95 (s88 (s13 (A0 m d) (A1 m d) (A2 m d)))) (s99 (s95 (s88 (s13 (A0 m d) (A1 m d) (A2 m d))))) (s101 (s95 (s88 (s13 (A0 m d) (A1 m d) (A2 m d)))) (s99 (s95 (s88 (s13 (A0 m d) (A1 m d) (A2 m d)))))) (A10 m d) (A11 m d)) (wtri (A12 m d)) (A13 m d) (ix3 b (⟨k.val * 128 + t.val, by omega⟩ : Fin 8192) (⟨a.val * 128 + n.val, by omega⟩ : Fin 512)) : EReal)
      = Cert.OBlk.M m d b k a t n := by
  refine (s152_at _ _ _ _ b k t a n).trans ?_
  simp only [gate_at, s80_at, pE, nE, wtri_at]
  refine congrArg₂ (fun x y : EReal => x * y) rfl (congrArg₂ (fun x y : EReal => x + y) (Finset.sum_congr rfl fun s _ => ?_) rfl)
  exact mul_comm (G := EReal) _ _

/-- The reference's latent queries are the kernel's, on the kernel's arguments. -/
theorem e15 : s146 (s27 (s14 (s13 (A0 m d) (A1 m d) (A2 m d))) (A3 m d)) (A5 m d) (A6 m d) = Cert.OBlk.G15 m d := by
  funext i
  have hi : i = ix5 (i 0) (i 1) (i 2) (i 3) (i 4) := by
    funext a
    match a with
    | ⟨0, _⟩ => rfl
    | ⟨1, _⟩ => rfl
    | ⟨2, _⟩ => rfl
    | ⟨3, _⟩ => rfl
    | ⟨4, _⟩ => rfl
  refine (congrArg _ hi).trans ((t15 m d (i 0) (i 1) (i 2) (i 3) (i 4)).trans rfl)

/-- The reference's latent queries are the kernel's, on equal arguments. -/
theorem q15 (a0 : FVec Ideal S8x8192x1024 .f32) (a1 : FVec Ideal S1024 .f32) (a2 : FVec Ideal S1024x1480 .f32) (a3 : FVec Ideal S256 .f32) (a5 : FVec Ideal S256x512 .f32) (a6 : FVec Ideal S8x64x128 .f32)
    (h0 : a0 = A0 m d) (h1 : a1 = A1 m d) (h2 : a2 = A2 m d) (h3 : a3 = A3 m d) (h5 : a5 = A5 m d) (h6 : a6 = A6 m d) :
    s146 (s27 (s14 (s13 a0 a1 a2)) a3) a5 a6 = Cert.OBlk.G15 m d := by
  rw [h0, h1, h2, h3, h5, h6]
  exact e15 m d

/-- The reference's index queries are the kernel's, on the kernel's arguments. -/
theorem e16 : s147 (s27 (s14 (s13 (A0 m d) (A1 m d) (A2 m d))) (A3 m d)) (A7 m d) = Cert.OBlk.G16 m d := by
  funext i
  have h3 : (i 3).val < 2048 := (i 3).isLt
  have hi : i = ix4 (i 0) (i 1) (i 2) (⟨(i 3).val / 256 * 256 + (i 3).val % 256, by omega⟩ : Fin 2048) := by
    funext a
    match a with
    | ⟨0, _⟩ => rfl
    | ⟨1, _⟩ => rfl
    | ⟨2, _⟩ => rfl
    | ⟨3, _⟩ => exact Fin.ext (show (i 3).val = (i 3).val / 256 * 256 + (i 3).val % 256 by omega)
  refine (congrArg _ hi).trans ((t16 m d (i 0) (i 1) (i 2) ⟨(i 3).val / 256, by omega⟩ ⟨(i 3).val % 256, by omega⟩).trans rfl)

/-- The reference's index queries are the kernel's, on equal arguments. -/
theorem q16 (a0 : FVec Ideal S8x8192x1024 .f32) (a1 : FVec Ideal S1024 .f32) (a2 : FVec Ideal S1024x1480 .f32) (a3 : FVec Ideal S256 .f32) (a7 : FVec Ideal S256x512 .f32)
    (h0 : a0 = A0 m d) (h1 : a1 = A1 m d) (h2 : a2 = A2 m d) (h3 : a3 = A3 m d) (h7 : a7 = A7 m d) :
    s147 (s27 (s14 (s13 a0 a1 a2)) a3) a7 = Cert.OBlk.G16 m d := by
  rw [h0, h1, h2, h3, h7]
  exact e16 m d

/-- The reference's index weights are the kernel's, on the kernel's arguments. -/
theorem e17 : s148 (s13 (A0 m d) (A1 m d) (A2 m d)) = Cert.OBlk.G17 m d := by
  funext i
  have hi : i = ix3 (i 0) (i 1) (i 2) := by
    funext a
    match a with
    | ⟨0, _⟩ => rfl
    | ⟨1, _⟩ => rfl
    | ⟨2, _⟩ => rfl
  refine (congrArg _ hi).trans ((t17 m d (i 0) (i 1) (i 2)).trans rfl)

/-- The reference's index weights are the kernel's, on equal arguments. -/
theorem q17 (a0 : FVec Ideal S8x8192x1024 .f32) (a1 : FVec Ideal S1024 .f32) (a2 : FVec Ideal S1024x1480 .f32)
    (h0 : a0 = A0 m d) (h1 : a1 = A1 m d) (h2 : a2 = A2 m d) :
    s148 (s13 a0 a1 a2) = Cert.OBlk.G17 m d := by
  rw [h0, h1, h2]
  exact e17 m d

/-- The reference's latent keys are the kernel's, on the kernel's arguments. -/
theorem e18 : s149 (s41 (s28 (s13 (A0 m d) (A1 m d) (A2 m d))) (A4 m d)) = Cert.OBlk.G18 m d := by
  funext i
  have hi : i = ix3 (i 0) (i 1) (i 2) := by
    funext a
    match a with
    | ⟨0, _⟩ => rfl
    | ⟨1, _⟩ => rfl
    | ⟨2, _⟩ => rfl
  refine (congrArg _ hi).trans ((s149_at _ (i 0) (i 1) (i 2)).trans ?_)
  exact kE m d _ _ _

/-- The reference's latent keys are the kernel's, on equal arguments. -/
theorem q18 (a0 : FVec Ideal S8x8192x1024 .f32) (a1 : FVec Ideal S1024 .f32) (a2 : FVec Ideal S1024x1480 .f32) (a4 : FVec Ideal S128 .f32)
    (h0 : a0 = A0 m d) (h1 : a1 = A1 m d) (h2 : a2 = A2 m d) (h4 : a4 = A4 m d) :
    s149 (s41 (s28 (s13 a0 a1 a2)) a4) = Cert.OBlk.G18 m d := by
  rw [h0, h1, h2, h4]
  exact e18 m d

/-- The reference's transposed latent keys are the kernel's, on the kernel's arguments. -/
theorem e19 : s150 (s41 (s28 (s13 (A0 m d) (A1 m d) (A2 m d))) (A4 m d)) = Cert.OBlk.G19 m d := by
  funext i
  have h2 : (i 2).val < 144 := (i 2).isLt
  by_cases h : (i 2).val < 128
  · have hi : i = ix4 (i 0) (i 1) (⟨(i 2).val, h2⟩ : Fin 144) (i 3) := by
      funext a
      match a with
      | ⟨0, _⟩ => rfl
      | ⟨1, _⟩ => rfl
      | ⟨2, _⟩ => rfl
      | ⟨3, _⟩ => rfl
    refine (congrArg _ hi).trans ((s150_lo _ (i 0) (i 1) ⟨(i 2).val, h⟩ (i 3)).trans (Eq.trans ?_ (dif_pos h).symm))
    exact kE m d _ _ _
  · have hi : i = ix4 (i 0) (i 1) (⟨128 + ((i 2).val - 128), by omega⟩ : Fin 144) (i 3) := by
      funext a
      match a with
      | ⟨0, _⟩ => rfl
      | ⟨1, _⟩ => rfl
      | ⟨2, _⟩ => exact Fin.ext (show (i 2).val = 128 + ((i 2).val - 128) by omega)
      | ⟨3, _⟩ => rfl
    refine (congrArg _ hi).trans ((s150_hi _ (i 0) (i 1) ⟨(i 2).val - 128, by omega⟩ (i 3)).trans (Eq.trans ?_ (dif_neg h).symm))
    rfl

/-- The reference's transposed latent keys are the kernel's, on equal arguments. -/
theorem q19 (a0 : FVec Ideal S8x8192x1024 .f32) (a1 : FVec Ideal S1024 .f32) (a2 : FVec Ideal S1024x1480 .f32) (a4 : FVec Ideal S128 .f32)
    (h0 : a0 = A0 m d) (h1 : a1 = A1 m d) (h2 : a2 = A2 m d) (h4 : a4 = A4 m d) :
    s150 (s41 (s28 (s13 a0 a1 a2)) a4) = Cert.OBlk.G19 m d := by
  rw [h0, h1, h2, h4]
  exact e19 m d

/-- The reference's index keys are the kernel's, on the kernel's arguments. -/
theorem e20 : s151 (s42 (s13 (A0 m d) (A1 m d) (A2 m d))) (s46 (s42 (s13 (A0 m d) (A1 m d) (A2 m d)))) (s48 (s42 (s13 (A0 m d) (A1 m d) (A2 m d))) (s46 (s42 (s13 (A0 m d) (A1 m d) (A2 m d))))) (A8 m d) (A9 m d) = Cert.OBlk.G20 m d := by
  funext i
  have hi : i = ix3 (i 0) (i 1) (i 2) := by
    funext a
    match a with
    | ⟨0, _⟩ => rfl
    | ⟨1, _⟩ => rfl
    | ⟨2, _⟩ => rfl
  refine (congrArg _ hi).trans ((t20 m d (i 0) (i 1) (i 2)).trans rfl)

/-- The reference's index keys are the kernel's, on equal arguments. -/
theorem q20 (a0 : FVec Ideal S8x8192x1024 .f32) (a1 : FVec Ideal S1024 .f32) (a2 : FVec Ideal S1024x1480 .f32) (a8 : FVec Ideal S64 .f32) (a9 : FVec Ideal S64 .f32)
    (h0 : a0 = A0 m d) (h1 : a1 = A1 m d) (h2 : a2 = A2 m d) (h8 : a8 = A8 m d) (h9 : a9 = A9 m d) :
    s151 (s42 (s13 a0 a1 a2)) (s46 (s42 (s13 a0 a1 a2))) (s48 (s42 (s13 a0 a1 a2)) (s46 (s42 (s13 a0 a1 a2)))) a8 a9 = Cert.OBlk.G20 m d := by
  rw [h0, h1, h2, h8, h9]
  exact e20 m d

/-- The reference's mixed and gated values are the kernel's, on the kernel's arguments. -/
theorem e21 : s152 (gate (s80 (s13 (A0 m d) (A1 m d) (A2 m d)))) (lnv (s95 (s88 (s13 (A0 m d) (A1 m d) (A2 m d)))) (s99 (s95 (s88 (s13 (A0 m d) (A1 m d) (A2 m d))))) (s101 (s95 (s88 (s13 (A0 m d) (A1 m d) (A2 m d)))) (s99 (s95 (s88 (s13 (A0 m d) (A1 m d) (A2 m d)))))) (A10 m d) (A11 m d)) (wtri (A12 m d)) (A13 m d) = Cert.OBlk.G21 m d := by
  funext i
  have h1 : (i 1).val < 8192 := (i 1).isLt
  have h2 : (i 2).val < 512 := (i 2).isLt
  have hi : i = ix3 (i 0) (⟨(i 1).val / 128 * 128 + (i 1).val % 128, by omega⟩ : Fin 8192) (⟨(i 2).val / 128 * 128 + (i 2).val % 128, by omega⟩ : Fin 512) := by
    funext a
    match a with
    | ⟨0, _⟩ => rfl
    | ⟨1, _⟩ => exact Fin.ext (show (i 1).val = (i 1).val / 128 * 128 + (i 1).val % 128 by omega)
    | ⟨2, _⟩ => exact Fin.ext (show (i 2).val = (i 2).val / 128 * 128 + (i 2).val % 128 by omega)
  refine (congrArg _ hi).trans ((t21 m d (i 0) ⟨(i 1).val / 128, by omega⟩ ⟨(i 1).val % 128, by omega⟩ ⟨(i 2).val / 128, by omega⟩ ⟨(i 2).val % 128, by omega⟩).trans rfl)

/-- The reference's mixed and gated values are the kernel's, on equal arguments. -/
theorem q21 (a0 : FVec Ideal S8x8192x1024 .f32) (a1 : FVec Ideal S1024 .f32) (a2 : FVec Ideal S1024x1480 .f32) (a10 : FVec Ideal S512 .f32) (a11 : FVec Ideal S512 .f32) (a12 : FVec Ideal S4x128x128 .f32) (a13 : FVec Ideal S4x128 .f32)
    (h0 : a0 = A0 m d) (h1 : a1 = A1 m d) (h2 : a2 = A2 m d) (h10 : a10 = A10 m d) (h11 : a11 = A11 m d) (h12 : a12 = A12 m d) (h13 : a13 = A13 m d) :
    s152 (gate (s80 (s13 a0 a1 a2))) (lnv (s95 (s88 (s13 a0 a1 a2))) (s99 (s95 (s88 (s13 a0 a1 a2)))) (s101 (s95 (s88 (s13 a0 a1 a2))) (s99 (s95 (s88 (s13 a0 a1 a2))))) a10 a11) (wtri a12) a13 = Cert.OBlk.G21 m d := by
  rw [h0, h1, h2, h10, h11, h12, h13]
  exact e21 m d

/-- The kernel and the reference, at exact arithmetic, leave the same results. -/
theorem algebraic : Cert.algebraic_KernelOIdeal_ReferenceOIdeal := by
  intro m g m' g' _ hag
  refine ⟨fun c => Cert.OBlk.G15 m c, fun c => Cert.OBlk.G16 m c, fun c => Cert.OBlk.G17 m c, fun c => Cert.OBlk.G18 m c, fun c => Cert.OBlk.G19 m c, fun c => Cert.OBlk.G20 m c, fun c => Cert.OBlk.G21 m c,
    (θ_run Cert.KernelOIdeal.defs _ _).mono (fun r h c => ⟨(h c).1.trans (Cert.OBlk.final15 m c), (h c).2.1.trans (Cert.OBlk.final16 m c), (h c).2.2.1.trans (Cert.OBlk.final17 m c), (h c).2.2.2.1.trans (Cert.OBlk.final18 m c), (h c).2.2.2.2.1.trans (Cert.OBlk.final19 m c), (h c).2.2.2.2.2.1.trans (Cert.OBlk.final20 m c), (h c).2.2.2.2.2.2.1.trans (Cert.OBlk.final21 m c), (h c).2.2.2.2.2.2.2⟩) (Cert.KernelOIdeal.Value.run_blocks m g),
    (θ_run Cert.ReferenceOIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
      (Cert.ReferenceOIdeal.Value.run (F := Ideal) m' g')⟩
  · obtain ⟨h0, h1, h2, h3, h4, h5, h6, h7, h8, h9, h10, h11, h12, h13⟩ := hag c
    have hq := q15 m c _ _ _ _ _ _ h0 h1 h2 h3 h5 h6
    exact hq
  · obtain ⟨h0, h1, h2, h3, h4, h5, h6, h7, h8, h9, h10, h11, h12, h13⟩ := hag c
    have hq := q16 m c _ _ _ _ _ h0 h1 h2 h3 h7
    exact hq
  · obtain ⟨h0, h1, h2, h3, h4, h5, h6, h7, h8, h9, h10, h11, h12, h13⟩ := hag c
    have hq := q17 m c _ _ _ h0 h1 h2
    exact hq
  · obtain ⟨h0, h1, h2, h3, h4, h5, h6, h7, h8, h9, h10, h11, h12, h13⟩ := hag c
    have hq := q18 m c _ _ _ _ h0 h1 h2 h4
    exact hq
  · obtain ⟨h0, h1, h2, h3, h4, h5, h6, h7, h8, h9, h10, h11, h12, h13⟩ := hag c
    have hq := q19 m c _ _ _ _ h0 h1 h2 h4
    exact hq
  · obtain ⟨h0, h1, h2, h3, h4, h5, h6, h7, h8, h9, h10, h11, h12, h13⟩ := hag c
    have hq := q20 m c _ _ _ _ _ h0 h1 h2 h8 h9
    exact hq
  · obtain ⟨h0, h1, h2, h3, h4, h5, h6, h7, h8, h9, h10, h11, h12, h13⟩ := hag c
    have hq := q21 m c _ _ _ _ _ _ _ h0 h1 h2 h10 h11 h12 h13
    exact hq

end Cert.OJoin

end
-- ==== Proof.OFrame.lean ====
module

public import proofs.«01_k».proof.Defs
public import proofs.«01_k».proof.Proof.Gen.ReferenceOIdeal.Run

@[expose] public section

noncomputable section

namespace Cert.OFrame

open Idealize.ShloMosaic Idealize.SL.Sem

/-- The reference of the second layer's input projection runs and leaves its arguments as they were. -/
theorem frameRef : Cert.quiescent_ReferenceOIdeal := fun m g _ =>
  (θ_run Cert.ReferenceOIdeal.defs _ _).mono
    (fun r h => ⟨fun c => (h c).2.2.2.2.2.2.2, sem_eq_zero_of_no_sems (by decide) r.2⟩)
    (Cert.ReferenceOIdeal.Value.run (F := Ideal) m g)

end Cert.OFrame

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.KernelX
public import proofs.«01_k».proof.Proof.Gen.KernelX.Skeleton
public import proofs.«01_k».proof.Proof.Gen.KernelX.Launch
public import proofs.«01_k».proof.Proof.Gen.KernelX.Points
public import proofs.«01_k».proof.Proof.Gen.KernelX.Frame
public import proofs.«01_k».proof.Proof.Gen.KernelXIdeal
public import proofs.«01_k».proof.Proof.Gen.KernelXIdeal.Skeleton
public import proofs.«01_k».proof.Proof.Gen.KernelXIdeal.Launch
public import proofs.«01_k».proof.Proof.Gen.KernelXIdeal.Points
public import proofs.«01_k».proof.Proof.Gen.KernelXIdeal.Frame
public import proofs.«01_k».proof.Proof.Gen.KernelXIdeal.Value
public import proofs.«01_k».proof.Proof.Gen.ReferenceXIdeal
public import proofs.«01_k».proof.Proof.Gen.ReferenceXIdeal.Run
public import proofs.«01_k».proof.Proof.Gen.KernelM
public import proofs.«01_k».proof.Proof.Gen.KernelM.Skeleton
public import proofs.«01_k».proof.Proof.Gen.KernelM.Launch
public import proofs.«01_k».proof.Proof.Gen.KernelM.Points
public import proofs.«01_k».proof.Proof.Gen.KernelM.Frame
public import proofs.«01_k».proof.Proof.Gen.KernelMIdeal
public import proofs.«01_k».proof.Proof.Gen.KernelMIdeal.Skeleton
public import proofs.«01_k».proof.Proof.Gen.KernelMIdeal.Launch
public import proofs.«01_k».proof.Proof.Gen.KernelMIdeal.Points
public import proofs.«01_k».proof.Proof.Gen.KernelMIdeal.Frame
public import proofs.«01_k».proof.Proof.Gen.KernelMIdeal.Value
public import proofs.«01_k».proof.Proof.Gen.ReferenceMIdeal
public import proofs.«01_k».proof.Proof.Gen.ReferenceMIdeal.Run
public import proofs.«01_k».proof.Proof.Gen.KernelO
public import proofs.«01_k».proof.Proof.Gen.KernelO.Skeleton
public import proofs.«01_k».proof.Proof.Gen.KernelO.Launch
public import proofs.«01_k».proof.Proof.Gen.KernelO.Points
public import proofs.«01_k».proof.Proof.Gen.KernelO.Frame
public import proofs.«01_k».proof.Proof.Gen.KernelOIdeal
public import proofs.«01_k».proof.Proof.Gen.KernelOIdeal.Skeleton
public import proofs.«01_k».proof.Proof.Gen.KernelOIdeal.Launch
public import proofs.«01_k».proof.Proof.Gen.KernelOIdeal.Points
public import proofs.«01_k».proof.Proof.Gen.KernelOIdeal.Frame
public import proofs.«01_k».proof.Proof.Gen.KernelOIdeal.Value
public import proofs.«01_k».proof.Proof.Gen.ReferenceOIdeal
public import proofs.«01_k».proof.Proof.Gen.ReferenceOIdeal.Run
public import proofs.«01_k».proof.Proof.PreRead
public import proofs.«01_k».proof.Proof.Join
public import proofs.«01_k».proof.Proof.XPre
public import proofs.«01_k».proof.Proof.XJoin
public import proofs.«01_k».proof.Proof.MJoin
public import proofs.«01_k».proof.Proof.OJoin
public import proofs.«01_k».proof.Proof.OFrame
public import Idealize.ShloMosaic.Adequacy
public import Idealize.ShloMosaic.Init

@[expose] public section

noncomputable section

namespace Cert.Proof

open Idealize.ShloMosaic Idealize.SL.Sem Cert.Row

/-- The reference runs and leaves its arguments as they were. -/
theorem frameRef : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- On equal arguments the kernel's function of the launch memory is the reference's. -/
theorem G_eq (m : (ℓ : Loc Cert.KernelIdeal.nD Cert.KernelIdeal.τ Cert.KernelIdeal.sig) → Buf (Elt Ideal) ℓ)
    (c : Dev Cert.KernelIdeal.nD) (V0 : Valuation Cert.ReferenceIdeal.τ Cert.ReferenceIdeal.sig (Elt Ideal))
    (h0 : V0 (Proc.devRef .tc Cert.ReferenceIdeal.main_arg0) = m ((c.tc : Thread Cert.KernelIdeal.nD Cert.KernelIdeal.τ).loc Cert.KernelIdeal.main_arg0))
    (h1 : V0 (Proc.devRef .tc Cert.ReferenceIdeal.main_arg1) = m ((c.tc : Thread Cert.KernelIdeal.nD Cert.KernelIdeal.τ).loc Cert.KernelIdeal.main_arg1))
    (h2 : V0 (Proc.devRef .tc Cert.ReferenceIdeal.main_arg2) = m ((c.tc : Thread Cert.KernelIdeal.nD Cert.KernelIdeal.τ).loc Cert.KernelIdeal.main_arg2))
    (h3 : V0 (Proc.devRef .tc Cert.ReferenceIdeal.main_arg3) = m ((c.tc : Thread Cert.KernelIdeal.nD Cert.KernelIdeal.τ).loc Cert.KernelIdeal.main_arg3))
    (h4 : V0 (Proc.devRef .tc Cert.ReferenceIdeal.main_arg4) = m ((c.tc : Thread Cert.KernelIdeal.nD Cert.KernelIdeal.τ).loc Cert.KernelIdeal.main_arg4))
    (h5 : V0 (Proc.devRef .tc Cert.ReferenceIdeal.main_arg5) = m ((c.tc : Thread Cert.KernelIdeal.nD Cert.KernelIdeal.τ).loc Cert.KernelIdeal.main_arg5))
    (h6 : V0 (Proc.devRef .tc Cert.ReferenceIdeal.main_arg6) = m ((c.tc : Thread Cert.KernelIdeal.nD Cert.KernelIdeal.τ).loc Cert.KernelIdeal.main_arg6))
    (h7 : V0 (Proc.devRef .tc Cert.ReferenceIdeal.main_arg7) = m ((c.tc : Thread Cert.KernelIdeal.nD Cert.KernelIdeal.τ).loc Cert.KernelIdeal.main_arg7))
    (h8 : V0 (Proc.devRef .tc Cert.ReferenceIdeal.main_arg8) = m ((c.tc : Thread Cert.KernelIdeal.nD Cert.KernelIdeal.τ).loc Cert.KernelIdeal.main_arg8))
    (h9 : V0 (Proc.devRef .tc Cert.ReferenceIdeal.main_arg9) = m ((c.tc : Thread Cert.KernelIdeal.nD Cert.KernelIdeal.τ).loc Cert.KernelIdeal.main_arg9))
    (h10 : V0 (Proc.devRef .tc Cert.ReferenceIdeal.main_arg10) = m ((c.tc : Thread Cert.KernelIdeal.nD Cert.KernelIdeal.τ).loc Cert.KernelIdeal.main_arg10))
    (h11 : V0 (Proc.devRef .tc Cert.ReferenceIdeal.main_arg11) = m ((c.tc : Thread Cert.KernelIdeal.nD Cert.KernelIdeal.τ).loc Cert.KernelIdeal.main_arg11))
    (h12 : V0 (Proc.devRef .tc Cert.ReferenceIdeal.main_arg12) = m ((c.tc : Thread Cert.KernelIdeal.nD Cert.KernelIdeal.τ).loc Cert.KernelIdeal.main_arg12)) :
    Cert.Join.GR V0 = Cert.KBlk.G m c := by
  unfold Cert.Join.GR Cert.KBlk.G Cert.RVal.gX Cert.RVal.gOc Cert.RVal.gOd Cert.RVal.gWout Cert.RVal.gGa Cert.RVal.gWq
    Cert.RVal.gWo Cert.RVal.gK Cert.RVal.gV Cert.RVal.gGf Cert.RVal.gW13 Cert.RVal.gW2 Cert.RVal.gGfin
  rw [h0, h1, h2, h3, h4, h5, h6, h7, h8, h9, h10, h11, h12]

/-- The kernel and the reference, at exact arithmetic, leave the same result. -/
theorem algebraic : Cert.algebraic_KernelIdeal_ReferenceIdeal_pre_scores_finite := by
  intro m g m' g' hpre hag
  refine ⟨fun c => Cert.KBlk.G m c,
    (θ_run Cert.KernelIdeal.defs _ _).mono (fun r h c => ⟨(h c).1.trans (Cert.KBlk.final m c), (h c).2⟩)
      (Cert.KernelIdeal.Value.run_blocks m g),
    (θ_run Cert.ReferenceIdeal.defs _ _).mono (fun r h c => ⟨(h c).1.trans ?_, (h c).2⟩)
      (Cert.ReferenceIdeal.Value.run (F := Ideal) m' g')⟩
  obtain ⟨h0, h1, h2, h3, h4, h5, h6, h7, h8, h9, h10, h11, h12⟩ := hag c
  obtain ⟨p0, p1, p2, p3, p4, p6, p7⟩ := Cert.PreRead.read _ _ _ _ _ _ _ _ _ _ _ _ _ (fun a => a.elim0) (congrFun (hpre c) _)
  refine (Cert.Join.ref_eq _ ?_).trans (G_eq m c _ h0 h1 h2 h3 h4 h5 h6 h7 h8 h9 h10 h11 h12)
  exact {
    x := fun b s n => by unfold Cert.RVal.gX; exact (congrArg Fin' (congrFun h3 _)).mpr (p3 _)
    oc := fun b s n => by unfold Cert.RVal.gOc; exact (congrArg Fin' (congrFun h0 _)).mpr (p0 _)
    od := fun b s n => by unfold Cert.RVal.gOd; exact (congrArg Fin' (congrFun h1 _)).mpr (p1 _)
    w := fun k n => by unfold Cert.RVal.gWout; exact (congrArg Fin' (congrFun h2 _)).mpr (p2 _)
    k := fun b j n => by unfold Cert.RVal.gK; exact (congrArg Fin' (congrFun h4 _)).mpr (p4 _)
    ga := fun n => by unfold Cert.RVal.gGa; exact (congrArg Fin' (congrFun h6 _)).mpr (p6 _)
    wq := fun k n => by unfold Cert.RVal.gWq; exact (congrArg Fin' (congrFun h7 _)).mpr (p7 _) }

/-- All the claims, program by program. -/
theorem claim : Cert.Claim := ⟨Cert.Kernel.Gen.facts, Cert.KernelIdeal.Gen.facts, Cert.ReferenceIdeal.Gen.facts,
  Cert.KernelX.Gen.facts, Cert.KernelXIdeal.Gen.facts, Cert.ReferenceXIdeal.Gen.facts,
  Cert.KernelM.Gen.facts, Cert.KernelMIdeal.Gen.facts, Cert.ReferenceMIdeal.Gen.facts,
  Cert.KernelO.Gen.facts, Cert.KernelOIdeal.Gen.facts, Cert.ReferenceOIdeal.Gen.facts,
  Cert.PreRead.facts, Cert.XPre.facts,
  fun m g _ => Cert.Kernel.Gen.frame m g, fun m g _ => Cert.KernelIdeal.Gen.frame m g,
  fun m g _ => Cert.KernelIdeal.Gen.frame m g, frameRef, fun m g _ => frameRef m g trivial,
  fun m g _ => Cert.KernelX.Gen.frame m g, fun m g _ => Cert.KernelXIdeal.Gen.frame m g,
  fun m g _ => Cert.KernelXIdeal.Gen.frame m g, Cert.XJoin.frameRef, fun m g _ => Cert.XJoin.frameRef m g trivial,
  fun m g _ => Cert.KernelM.Gen.frame m g, fun m g _ => Cert.KernelMIdeal.Gen.frame m g, Cert.MJoin.frameRef,
  fun m g _ => Cert.KernelO.Gen.frame m g, fun m g _ => Cert.KernelOIdeal.Gen.frame m g, Cert.OFrame.frameRef,
  trivial, algebraic, trivial, Cert.XJoin.algebraic, trivial, Cert.MJoin.algebraic, trivial, Cert.OJoin.algebraic⟩

end Cert.Proof

end
